-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![512, 1024]⟩ ⟨2, ![512, 4096]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![1024, 512]⟩ ⟨2, ![4096, 512]⟩ 0 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![512, 1024]⟩ ⟨2, ![512, 4096]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![1024, 512]⟩ ⟨2, ![4096, 512]⟩ 0 4 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![512, 1024]⟩ ⟨2, ![512, 4096]⟩ 1 4 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![1024, 512]⟩ ⟨2, ![4096, 512]⟩ 0 4 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![16, 512]⟩ ⟨2, ![64, 512]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x512 : Shape := ⟨2, ![64, 512]⟩
abbrev S512x1024 : Shape := ⟨2, ![512, 1024]⟩
abbrev S1024x512 : Shape := ⟨2, ![1024, 512]⟩
abbrev S16x512 : Shape := ⟨2, ![16, 512]⟩
abbrev S3x64x512 : Shape := ⟨3, ![3, 64, 512]⟩
abbrev S2x3x64x512 : Shape := ⟨4, ![2, 3, 64, 512]⟩
abbrev S3x16x512 : Shape := ⟨3, ![3, 16, 512]⟩
abbrev S3x512x1024 : Shape := ⟨3, ![3, 512, 1024]⟩
abbrev S3x1024x512 : Shape := ⟨3, ![3, 1024, 512]⟩
abbrev S7 : Shape := ⟨1, ![7]⟩
abbrev S3x3x2 : Shape := ⟨3, ![3, 3, 2]⟩
abbrev S1 : Shape := ⟨1, ![1]⟩
abbrev S_ : Shape := ⟨0, ![]⟩
abbrev S1x512x1024 : Shape := ⟨3, ![1, 512, 1024]⟩
abbrev S1x1024x512 : Shape := ⟨3, ![1, 1024, 512]⟩
abbrev S32x512 : Shape := ⟨2, ![32, 512]⟩
abbrev S32x1024 : Shape := ⟨2, ![32, 1024]⟩
abbrev S1x32x512 : Shape := ⟨3, ![1, 32, 512]⟩
abbrev S1x1x1 : Shape := ⟨3, ![1, 1, 1]⟩
abbrev S1x1x32x512 : Shape := ⟨4, ![1, 1, 32, 512]⟩
abbrev S1x16x512 : Shape := ⟨3, ![1, 16, 512]⟩

abbrev nBuf : Space → Nat
  | .hbm => 8
  | .vmem => 9
  | .smem => 0
  | _ => 0

abbrev bufTy : (tb : Table) → Fin (tcTables nBuf tb) → BufTy
  | .hbm, ⟨0, _⟩ => ⟨S64x512, .f32⟩
  | .hbm, ⟨1, _⟩ => ⟨S512x1024, .f32⟩
  | .hbm, ⟨2, _⟩ => ⟨S1024x512, .f32⟩
  | .hbm, ⟨3, _⟩ => ⟨S512x1024, .f32⟩
  | .hbm, ⟨4, _⟩ => ⟨S1024x512, .f32⟩
  | .hbm, ⟨5, _⟩ => ⟨S512x1024, .f32⟩
  | .hbm, ⟨6, _⟩ => ⟨S1024x512, .f32⟩
  | .hbm, ⟨7, _⟩ => ⟨S16x512, .f32⟩
  | .local _ .vmem, ⟨0, _⟩ => ⟨S16x512, .f32⟩
  | .local _ .vmem, ⟨1, _⟩ => ⟨S3x64x512, .bf16⟩
  | .local _ .vmem, ⟨2, _⟩ => ⟨S2x3x64x512, .bf16⟩
  | .local _ .vmem, ⟨3, _⟩ => ⟨S3x16x512, .bf16⟩
  | .local _ .vmem, ⟨4, _⟩ => ⟨S64x512, .f32⟩
  | .local _ .vmem, ⟨5, _⟩ => ⟨S3x512x1024, .f32⟩
  | .local _ .vmem, ⟨6, _⟩ => ⟨S3x1024x512, .f32⟩
  | .local _ .vmem, ⟨7, _⟩ => ⟨S3x512x1024, .bf16⟩
  | .local _ .vmem, ⟨8, _⟩ => ⟨S3x1024x512, .bf16⟩
  | _, _ => ⟨S64x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  (ofTc nBuf bufTy 1 44 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_scratch6 : Ref sig .tc := ⟨.vmem, 7, rfl⟩
abbrev cc0_scratch7 : Ref sig .tc := ⟨.vmem, 8, rfl⟩
abbrev cc0_sem0_0 : DmaSem sig := 0
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_29 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_20 : BitVec 32 := 1#32
  let v30 : BitVec 32 := Scalar.addi v2 c1_i32_20
  let c4_i32_21 : BitVec 32 := 4#32
  let c0_i32_22 : BitVec 32 := 0#32
  let v31 : BitVec 1 := Scalar.cmpi .eq c4_i32_21 c0_i32_22
  let c1_i32_23 : BitVec 32 := 1#32
  let v32 : BitVec 32 := Scalar.select v31 c1_i32_23 c4_i32_21
  let v33 : BitVec 32 := Scalar.remsi v30 v32
  let c0_i32_25 : BitVec 32 := 0#32
  let v35 : BitVec 1 := Scalar.cmpi .slt v33 c0_i32_25
  let c0_i32_26 : BitVec 32 := 0#32
  let v36 : BitVec 1 := Scalar.cmpi .slt v32 c0_i32_26
  let v37 : BitVec 1 := Scalar.xori v35 v36
  let c0_i32_24 : BitVec 32 := 0#32
  let v34 : BitVec 1 := Scalar.cmpi .ne v33 c0_i32_24
  let v38 : BitVec 1 := Scalar.andi v37 v34
  let v39 : BitVec 32 := Scalar.addi v33 v32
  let v40 : BitVec 32 := Scalar.select v38 v39 v33
  let c1_i32_28 : BitVec 32 := 1#32
  let v41 : BitVec 32 := Scalar.muli v40 c1_i32_28
  let v42 : BitVec 32 := Scalar.addi c0_i32_29 v41
  v42.toNat
def k0_dev2 (d0 : Dev nD) : Nat :=
  let c0_i32_39 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_30 : BitVec 32 := 2#32
  let v43 : BitVec 32 := Scalar.addi v2 c2_i32_30
  let c4_i32_31 : BitVec 32 := 4#32
  let c0_i32_32 : BitVec 32 := 0#32
  let v44 : BitVec 1 := Scalar.cmpi .eq c4_i32_31 c0_i32_32
  let c1_i32_33 : BitVec 32 := 1#32
  let v45 : BitVec 32 := Scalar.select v44 c1_i32_33 c4_i32_31
  let v46 : BitVec 32 := Scalar.remsi v43 v45
  let c0_i32_35 : BitVec 32 := 0#32
  let v48 : BitVec 1 := Scalar.cmpi .slt v46 c0_i32_35
  let c0_i32_36 : BitVec 32 := 0#32
  let v49 : BitVec 1 := Scalar.cmpi .slt v45 c0_i32_36
  let v50 : BitVec 1 := Scalar.xori v48 v49
  let c0_i32_34 : BitVec 32 := 0#32
  let v47 : BitVec 1 := Scalar.cmpi .ne v46 c0_i32_34
  let v51 : BitVec 1 := Scalar.andi v50 v47
  let v52 : BitVec 32 := Scalar.addi v46 v45
  let v53 : BitVec 32 := Scalar.select v51 v52 v46
  let c1_i32_38 : BitVec 32 := 1#32
  let v54 : BitVec 32 := Scalar.muli v53 c1_i32_38
  let v55 : BitVec 32 := Scalar.addi c0_i32_39 v54
  v55.toNat
def k0_dev3 (d0 : Dev nD) : Nat :=
  let c0_i32_49 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_40 : BitVec 32 := 3#32
  let v56 : BitVec 32 := Scalar.addi v2 c3_i32_40
  let c4_i32_41 : BitVec 32 := 4#32
  let c0_i32_42 : BitVec 32 := 0#32
  let v57 : BitVec 1 := Scalar.cmpi .eq c4_i32_41 c0_i32_42
  let c1_i32_43 : BitVec 32 := 1#32
  let v58 : BitVec 32 := Scalar.select v57 c1_i32_43 c4_i32_41
  let v59 : BitVec 32 := Scalar.remsi v56 v58
  let c0_i32_45 : BitVec 32 := 0#32
  let v61 : BitVec 1 := Scalar.cmpi .slt v59 c0_i32_45
  let c0_i32_46 : BitVec 32 := 0#32
  let v62 : BitVec 1 := Scalar.cmpi .slt v58 c0_i32_46
  let v63 : BitVec 1 := Scalar.xori v61 v62
  let c0_i32_44 : BitVec 32 := 0#32
  let v60 : BitVec 1 := Scalar.cmpi .ne v59 c0_i32_44
  let v64 : BitVec 1 := Scalar.andi v63 v60
  let v65 : BitVec 32 := Scalar.addi v59 v58
  let v66 : BitVec 32 := Scalar.select v64 v65 v59
  let c1_i32_48 : BitVec 32 := 1#32
  let v67 : BitVec 32 := Scalar.muli v66 c1_i32_48
  let v68 : BitVec 32 := Scalar.addi c0_i32_49 v67
  v68.toNat
def k0_dev4 (d0 : Dev nD) : Nat :=
  let c0_i32_101 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_84 : BitVec 32 := 2#32
  let v107 : BitVec 32 := Scalar.addi v2 c2_i32_84
  let c4_i32_85 : BitVec 32 := 4#32
  let c0_i32_86 : BitVec 32 := 0#32
  let v108 : BitVec 1 := Scalar.cmpi .eq c4_i32_85 c0_i32_86
  let c1_i32_87 : BitVec 32 := 1#32
  let v109 : BitVec 32 := Scalar.select v108 c1_i32_87 c4_i32_85
  let v110 : BitVec 32 := Scalar.remsi v107 v109
  let c0_i32_89 : BitVec 32 := 0#32
  let v112 : BitVec 1 := Scalar.cmpi .slt v110 c0_i32_89
  let c0_i32_90 : BitVec 32 := 0#32
  let v113 : BitVec 1 := Scalar.cmpi .slt v109 c0_i32_90
  let v114 : BitVec 1 := Scalar.xori v112 v113
  let c0_i32_88 : BitVec 32 := 0#32
  let v111 : BitVec 1 := Scalar.cmpi .ne v110 c0_i32_88
  let v115 : BitVec 1 := Scalar.andi v114 v111
  let v116 : BitVec 32 := Scalar.addi v110 v109
  let v117 : BitVec 32 := Scalar.select v115 v116 v110
  let c1_i32_100 : BitVec 32 := 1#32
  let v118 : BitVec 32 := Scalar.muli v117 c1_i32_100
  let v119 : BitVec 32 := Scalar.addi c0_i32_101 v118
  v119.toNat
def k0_dev5 (d0 : Dev nD) : Nat :=
  let c0_i32_123 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_106 : BitVec 32 := 1#32
  let v128 : BitVec 32 := Scalar.addi v2 c1_i32_106
  let c4_i32_107 : BitVec 32 := 4#32
  let c0_i32_108 : BitVec 32 := 0#32
  let v129 : BitVec 1 := Scalar.cmpi .eq c4_i32_107 c0_i32_108
  let c1_i32_109 : BitVec 32 := 1#32
  let v130 : BitVec 32 := Scalar.select v129 c1_i32_109 c4_i32_107
  let v131 : BitVec 32 := Scalar.remsi v128 v130
  let c0_i32_111 : BitVec 32 := 0#32
  let v133 : BitVec 1 := Scalar.cmpi .slt v131 c0_i32_111
  let c0_i32_112 : BitVec 32 := 0#32
  let v134 : BitVec 1 := Scalar.cmpi .slt v130 c0_i32_112
  let v135 : BitVec 1 := Scalar.xori v133 v134
  let c0_i32_110 : BitVec 32 := 0#32
  let v132 : BitVec 1 := Scalar.cmpi .ne v131 c0_i32_110
  let v136 : BitVec 1 := Scalar.andi v135 v132
  let v137 : BitVec 32 := Scalar.addi v131 v130
  let v138 : BitVec 32 := Scalar.select v136 v137 v131
  let c1_i32_122 : BitVec 32 := 1#32
  let v139 : BitVec 32 := Scalar.muli v138 c1_i32_122
  let v140 : BitVec 32 := Scalar.addi c0_i32_123 v139
  v140.toNat
def k0_dev6 (d0 : Dev nD) : Nat :=
  let c0_i32_145 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_128 : BitVec 32 := 3#32
  let v149 : BitVec 32 := Scalar.addi v2 c3_i32_128
  let c4_i32_129 : BitVec 32 := 4#32
  let c0_i32_130 : BitVec 32 := 0#32
  let v150 : BitVec 1 := Scalar.cmpi .eq c4_i32_129 c0_i32_130
  let c1_i32_131 : BitVec 32 := 1#32
  let v151 : BitVec 32 := Scalar.select v150 c1_i32_131 c4_i32_129
  let v152 : BitVec 32 := Scalar.remsi v149 v151
  let c0_i32_133 : BitVec 32 := 0#32
  let v154 : BitVec 1 := Scalar.cmpi .slt v152 c0_i32_133
  let c0_i32_134 : BitVec 32 := 0#32
  let v155 : BitVec 1 := Scalar.cmpi .slt v151 c0_i32_134
  let v156 : BitVec 1 := Scalar.xori v154 v155
  let c0_i32_132 : BitVec 32 := 0#32
  let v153 : BitVec 1 := Scalar.cmpi .ne v152 c0_i32_132
  let v157 : BitVec 1 := Scalar.andi v156 v153
  let v158 : BitVec 32 := Scalar.addi v152 v151
  let v159 : BitVec 32 := Scalar.select v157 v158 v152
  let c1_i32_144 : BitVec 32 := 1#32
  let v160 : BitVec 32 := Scalar.muli v159 c1_i32_144
  let v161 : BitVec 32 := Scalar.addi c0_i32_145 v160
  v161.toNat
def k0_dev7 (d0 : Dev nD) : Nat :=
  let c0_i32_178 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_161 : BitVec 32 := 2#32
  let v184 : BitVec 32 := Scalar.addi v2 c2_i32_161
  let c4_i32_162 : BitVec 32 := 4#32
  let c0_i32_163 : BitVec 32 := 0#32
  let v185 : BitVec 1 := Scalar.cmpi .eq c4_i32_162 c0_i32_163
  let c1_i32_164 : BitVec 32 := 1#32
  let v186 : BitVec 32 := Scalar.select v185 c1_i32_164 c4_i32_162
  let v187 : BitVec 32 := Scalar.remsi v184 v186
  let c0_i32_166 : BitVec 32 := 0#32
  let v189 : BitVec 1 := Scalar.cmpi .slt v187 c0_i32_166
  let c0_i32_167 : BitVec 32 := 0#32
  let v190 : BitVec 1 := Scalar.cmpi .slt v186 c0_i32_167
  let v191 : BitVec 1 := Scalar.xori v189 v190
  let c0_i32_165 : BitVec 32 := 0#32
  let v188 : BitVec 1 := Scalar.cmpi .ne v187 c0_i32_165
  let v192 : BitVec 1 := Scalar.andi v191 v188
  let v193 : BitVec 32 := Scalar.addi v187 v186
  let v194 : BitVec 32 := Scalar.select v192 v193 v187
  let c1_i32_177 : BitVec 32 := 1#32
  let v195 : BitVec 32 := Scalar.muli v194 c1_i32_177
  let v196 : BitVec 32 := Scalar.addi c0_i32_178 v195
  v196.toNat
def k0_dev8 (d0 : Dev nD) : Nat :=
  let c0_i32_199 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_182 : BitVec 32 := 1#32
  let v205 : BitVec 32 := Scalar.addi v2 c1_i32_182
  let c4_i32_183 : BitVec 32 := 4#32
  let c0_i32_184 : BitVec 32 := 0#32
  let v206 : BitVec 1 := Scalar.cmpi .eq c4_i32_183 c0_i32_184
  let c1_i32_185 : BitVec 32 := 1#32
  let v207 : BitVec 32 := Scalar.select v206 c1_i32_185 c4_i32_183
  let v208 : BitVec 32 := Scalar.remsi v205 v207
  let c0_i32_187 : BitVec 32 := 0#32
  let v210 : BitVec 1 := Scalar.cmpi .slt v208 c0_i32_187
  let c0_i32_188 : BitVec 32 := 0#32
  let v211 : BitVec 1 := Scalar.cmpi .slt v207 c0_i32_188
  let v212 : BitVec 1 := Scalar.xori v210 v211
  let c0_i32_186 : BitVec 32 := 0#32
  let v209 : BitVec 1 := Scalar.cmpi .ne v208 c0_i32_186
  let v213 : BitVec 1 := Scalar.andi v212 v209
  let v214 : BitVec 32 := Scalar.addi v208 v207
  let v215 : BitVec 32 := Scalar.select v213 v214 v208
  let c1_i32_198 : BitVec 32 := 1#32
  let v216 : BitVec 32 := Scalar.muli v215 c1_i32_198
  let v217 : BitVec 32 := Scalar.addi c0_i32_199 v216
  v217.toNat
def k0_dev9 (d0 : Dev nD) : Nat :=
  let c0_i32_221 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_204 : BitVec 32 := 3#32
  let v226 : BitVec 32 := Scalar.addi v2 c3_i32_204
  let c4_i32_205 : BitVec 32 := 4#32
  let c0_i32_206 : BitVec 32 := 0#32
  let v227 : BitVec 1 := Scalar.cmpi .eq c4_i32_205 c0_i32_206
  let c1_i32_207 : BitVec 32 := 1#32
  let v228 : BitVec 32 := Scalar.select v227 c1_i32_207 c4_i32_205
  let v229 : BitVec 32 := Scalar.remsi v226 v228
  let c0_i32_209 : BitVec 32 := 0#32
  let v231 : BitVec 1 := Scalar.cmpi .slt v229 c0_i32_209
  let c0_i32_210 : BitVec 32 := 0#32
  let v232 : BitVec 1 := Scalar.cmpi .slt v228 c0_i32_210
  let v233 : BitVec 1 := Scalar.xori v231 v232
  let c0_i32_208 : BitVec 32 := 0#32
  let v230 : BitVec 1 := Scalar.cmpi .ne v229 c0_i32_208
  let v234 : BitVec 1 := Scalar.andi v233 v230
  let v235 : BitVec 32 := Scalar.addi v229 v228
  let v236 : BitVec 32 := Scalar.select v234 v235 v229
  let c1_i32_220 : BitVec 32 := 1#32
  let v237 : BitVec 32 := Scalar.muli v236 c1_i32_220
  let v238 : BitVec 32 := Scalar.addi c0_i32_221 v237
  v238.toNat
def k0_dev10 (d0 : Dev nD) : Nat :=
  let c0_i32_330 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_313 : BitVec 32 := 2#32
  let v317 : BitVec 32 := Scalar.addi v2 c2_i32_313
  let c4_i32_314 : BitVec 32 := 4#32
  let c0_i32_315 : BitVec 32 := 0#32
  let v318 : BitVec 1 := Scalar.cmpi .eq c4_i32_314 c0_i32_315
  let c1_i32_316 : BitVec 32 := 1#32
  let v319 : BitVec 32 := Scalar.select v318 c1_i32_316 c4_i32_314
  let v320 : BitVec 32 := Scalar.remsi v317 v319
  let c0_i32_318 : BitVec 32 := 0#32
  let v322 : BitVec 1 := Scalar.cmpi .slt v320 c0_i32_318
  let c0_i32_319 : BitVec 32 := 0#32
  let v323 : BitVec 1 := Scalar.cmpi .slt v319 c0_i32_319
  let v324 : BitVec 1 := Scalar.xori v322 v323
  let c0_i32_317 : BitVec 32 := 0#32
  let v321 : BitVec 1 := Scalar.cmpi .ne v320 c0_i32_317
  let v325 : BitVec 1 := Scalar.andi v324 v321
  let v326 : BitVec 32 := Scalar.addi v320 v319
  let v327 : BitVec 32 := Scalar.select v325 v326 v320
  let c1_i32_329 : BitVec 32 := 1#32
  let v328 : BitVec 32 := Scalar.muli v327 c1_i32_329
  let v329 : BitVec 32 := Scalar.addi c0_i32_330 v328
  v329.toNat
def k0_dev11 (d0 : Dev nD) : Nat :=
  let c0_i32_352 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_335 : BitVec 32 := 1#32
  let v338 : BitVec 32 := Scalar.addi v2 c1_i32_335
  let c4_i32_336 : BitVec 32 := 4#32
  let c0_i32_337 : BitVec 32 := 0#32
  let v339 : BitVec 1 := Scalar.cmpi .eq c4_i32_336 c0_i32_337
  let c1_i32_338 : BitVec 32 := 1#32
  let v340 : BitVec 32 := Scalar.select v339 c1_i32_338 c4_i32_336
  let v341 : BitVec 32 := Scalar.remsi v338 v340
  let c0_i32_340 : BitVec 32 := 0#32
  let v343 : BitVec 1 := Scalar.cmpi .slt v341 c0_i32_340
  let c0_i32_341 : BitVec 32 := 0#32
  let v344 : BitVec 1 := Scalar.cmpi .slt v340 c0_i32_341
  let v345 : BitVec 1 := Scalar.xori v343 v344
  let c0_i32_339 : BitVec 32 := 0#32
  let v342 : BitVec 1 := Scalar.cmpi .ne v341 c0_i32_339
  let v346 : BitVec 1 := Scalar.andi v345 v342
  let v347 : BitVec 32 := Scalar.addi v341 v340
  let v348 : BitVec 32 := Scalar.select v346 v347 v341
  let c1_i32_351 : BitVec 32 := 1#32
  let v349 : BitVec 32 := Scalar.muli v348 c1_i32_351
  let v350 : BitVec 32 := Scalar.addi c0_i32_352 v349
  v350.toNat
def k0_dev12 (d0 : Dev nD) : Nat :=
  let c0_i32_374 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_357 : BitVec 32 := 3#32
  let v359 : BitVec 32 := Scalar.addi v2 c3_i32_357
  let c4_i32_358 : BitVec 32 := 4#32
  let c0_i32_359 : BitVec 32 := 0#32
  let v360 : BitVec 1 := Scalar.cmpi .eq c4_i32_358 c0_i32_359
  let c1_i32_360 : BitVec 32 := 1#32
  let v361 : BitVec 32 := Scalar.select v360 c1_i32_360 c4_i32_358
  let v362 : BitVec 32 := Scalar.remsi v359 v361
  let c0_i32_362 : BitVec 32 := 0#32
  let v364 : BitVec 1 := Scalar.cmpi .slt v362 c0_i32_362
  let c0_i32_363 : BitVec 32 := 0#32
  let v365 : BitVec 1 := Scalar.cmpi .slt v361 c0_i32_363
  let v366 : BitVec 1 := Scalar.xori v364 v365
  let c0_i32_361 : BitVec 32 := 0#32
  let v363 : BitVec 1 := Scalar.cmpi .ne v362 c0_i32_361
  let v367 : BitVec 1 := Scalar.andi v366 v363
  let v368 : BitVec 32 := Scalar.addi v362 v361
  let v369 : BitVec 32 := Scalar.select v367 v368 v362
  let c1_i32_373 : BitVec 32 := 1#32
  let v370 : BitVec 32 := Scalar.muli v369 c1_i32_373
  let v371 : BitVec 32 := Scalar.addi c0_i32_374 v370
  v371.toNat
def k0_dev13 (d0 : Dev nD) : Nat :=
  let c0_i32_465 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_448 : BitVec 32 := 2#32
  let v430 : BitVec 32 := Scalar.addi v2 c2_i32_448
  let c4_i32_449 : BitVec 32 := 4#32
  let c0_i32_450 : BitVec 32 := 0#32
  let v431 : BitVec 1 := Scalar.cmpi .eq c4_i32_449 c0_i32_450
  let c1_i32_451 : BitVec 32 := 1#32
  let v432 : BitVec 32 := Scalar.select v431 c1_i32_451 c4_i32_449
  let v433 : BitVec 32 := Scalar.remsi v430 v432
  let c0_i32_453 : BitVec 32 := 0#32
  let v435 : BitVec 1 := Scalar.cmpi .slt v433 c0_i32_453
  let c0_i32_454 : BitVec 32 := 0#32
  let v436 : BitVec 1 := Scalar.cmpi .slt v432 c0_i32_454
  let v437 : BitVec 1 := Scalar.xori v435 v436
  let c0_i32_452 : BitVec 32 := 0#32
  let v434 : BitVec 1 := Scalar.cmpi .ne v433 c0_i32_452
  let v438 : BitVec 1 := Scalar.andi v437 v434
  let v439 : BitVec 32 := Scalar.addi v433 v432
  let v440 : BitVec 32 := Scalar.select v438 v439 v433
  let c1_i32_464 : BitVec 32 := 1#32
  let v441 : BitVec 32 := Scalar.muli v440 c1_i32_464
  let v442 : BitVec 32 := Scalar.addi c0_i32_465 v441
  v442.toNat
def k0_dev14 (d0 : Dev nD) : Nat :=
  let c0_i32_487 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_470 : BitVec 32 := 1#32
  let v451 : BitVec 32 := Scalar.addi v2 c1_i32_470
  let c4_i32_471 : BitVec 32 := 4#32
  let c0_i32_472 : BitVec 32 := 0#32
  let v452 : BitVec 1 := Scalar.cmpi .eq c4_i32_471 c0_i32_472
  let c1_i32_473 : BitVec 32 := 1#32
  let v453 : BitVec 32 := Scalar.select v452 c1_i32_473 c4_i32_471
  let v454 : BitVec 32 := Scalar.remsi v451 v453
  let c0_i32_475 : BitVec 32 := 0#32
  let v456 : BitVec 1 := Scalar.cmpi .slt v454 c0_i32_475
  let c0_i32_476 : BitVec 32 := 0#32
  let v457 : BitVec 1 := Scalar.cmpi .slt v453 c0_i32_476
  let v458 : BitVec 1 := Scalar.xori v456 v457
  let c0_i32_474 : BitVec 32 := 0#32
  let v455 : BitVec 1 := Scalar.cmpi .ne v454 c0_i32_474
  let v459 : BitVec 1 := Scalar.andi v458 v455
  let v460 : BitVec 32 := Scalar.addi v454 v453
  let v461 : BitVec 32 := Scalar.select v459 v460 v454
  let c1_i32_486 : BitVec 32 := 1#32
  let v462 : BitVec 32 := Scalar.muli v461 c1_i32_486
  let v463 : BitVec 32 := Scalar.addi c0_i32_487 v462
  v463.toNat
def k0_dev15 (d0 : Dev nD) : Nat :=
  let c0_i32_509 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_492 : BitVec 32 := 3#32
  let v472 : BitVec 32 := Scalar.addi v2 c3_i32_492
  let c4_i32_493 : BitVec 32 := 4#32
  let c0_i32_494 : BitVec 32 := 0#32
  let v473 : BitVec 1 := Scalar.cmpi .eq c4_i32_493 c0_i32_494
  let c1_i32_495 : BitVec 32 := 1#32
  let v474 : BitVec 32 := Scalar.select v473 c1_i32_495 c4_i32_493
  let v475 : BitVec 32 := Scalar.remsi v472 v474
  let c0_i32_497 : BitVec 32 := 0#32
  let v477 : BitVec 1 := Scalar.cmpi .slt v475 c0_i32_497
  let c0_i32_498 : BitVec 32 := 0#32
  let v478 : BitVec 1 := Scalar.cmpi .slt v474 c0_i32_498
  let v479 : BitVec 1 := Scalar.xori v477 v478
  let c0_i32_496 : BitVec 32 := 0#32
  let v476 : BitVec 1 := Scalar.cmpi .ne v475 c0_i32_496
  let v480 : BitVec 1 := Scalar.andi v479 v476
  let v481 : BitVec 32 := Scalar.addi v475 v474
  let v482 : BitVec 32 := Scalar.select v480 v481 v475
  let c1_i32_508 : BitVec 32 := 1#32
  let v483 : BitVec 32 := Scalar.muli v482 c1_i32_508
  let v484 : BitVec 32 := Scalar.addi c0_i32_509 v483
  v484.toNat
def k0_off1 (d0 : Dev nD) (c2_i32_672 : BitVec 32) : Fin 3 → Nat :=
  let c2_i32_679 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v613 : BitVec 32 := Scalar.addi v2 c2_i32_672
  let c4_i32_673 : BitVec 32 := 4#32
  let c0_i32_674 : BitVec 32 := 0#32
  let v614 : BitVec 1 := Scalar.cmpi .eq c4_i32_673 c0_i32_674
  let c1_i32_675 : BitVec 32 := 1#32
  let v615 : BitVec 32 := Scalar.select v614 c1_i32_675 c4_i32_673
  let v616 : BitVec 32 := Scalar.remsi v613 v615
  let c0_i32_677 : BitVec 32 := 0#32
  let v618 : BitVec 1 := Scalar.cmpi .slt v616 c0_i32_677
  let c0_i32_678 : BitVec 32 := 0#32
  let v619 : BitVec 1 := Scalar.cmpi .slt v615 c0_i32_678
  let v620 : BitVec 1 := Scalar.xori v618 v619
  let c0_i32_676 : BitVec 32 := 0#32
  let v617 : BitVec 1 := Scalar.cmpi .ne v616 c0_i32_676
  let v621 : BitVec 1 := Scalar.andi v620 v617
  let v622 : BitVec 32 := Scalar.addi v616 v615
  let v623 : BitVec 32 := Scalar.select v621 v622 v616
  let c16_i32 : BitVec 32 := 16#32
  let v624 : BitVec 32 := Scalar.muli v623 c16_i32
  let c0_i32_691 : BitVec 32 := 0#32
  ![2, v624.toNat, 0]
def k0_dev16 (d0 : Dev nD) : Nat :=
  let c0_i32_688 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_672 : BitVec 32 := 2#32
  let v613 : BitVec 32 := Scalar.addi v2 c2_i32_672
  let c4_i32_673 : BitVec 32 := 4#32
  let c0_i32_674 : BitVec 32 := 0#32
  let v614 : BitVec 1 := Scalar.cmpi .eq c4_i32_673 c0_i32_674
  let c1_i32_675 : BitVec 32 := 1#32
  let v615 : BitVec 32 := Scalar.select v614 c1_i32_675 c4_i32_673
  let v616 : BitVec 32 := Scalar.remsi v613 v615
  let c0_i32_677 : BitVec 32 := 0#32
  let v618 : BitVec 1 := Scalar.cmpi .slt v616 c0_i32_677
  let c0_i32_678 : BitVec 32 := 0#32
  let v619 : BitVec 1 := Scalar.cmpi .slt v615 c0_i32_678
  let v620 : BitVec 1 := Scalar.xori v618 v619
  let c0_i32_676 : BitVec 32 := 0#32
  let v617 : BitVec 1 := Scalar.cmpi .ne v616 c0_i32_676
  let v621 : BitVec 1 := Scalar.andi v620 v617
  let v622 : BitVec 32 := Scalar.addi v616 v615
  let v623 : BitVec 32 := Scalar.select v621 v622 v616
  let c1_i32_687 : BitVec 32 := 1#32
  let v625 : BitVec 32 := Scalar.muli v623 c1_i32_687
  let v626 : BitVec 32 := Scalar.addi c0_i32_688 v625
  v626.toNat
def k0_dev17 (d0 : Dev nD) : Nat :=
  let c0_i32_709 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_692 : BitVec 32 := 1#32
  let v635 : BitVec 32 := Scalar.addi v2 c1_i32_692
  let c4_i32_693 : BitVec 32 := 4#32
  let c0_i32_694 : BitVec 32 := 0#32
  let v636 : BitVec 1 := Scalar.cmpi .eq c4_i32_693 c0_i32_694
  let c1_i32_695 : BitVec 32 := 1#32
  let v637 : BitVec 32 := Scalar.select v636 c1_i32_695 c4_i32_693
  let v638 : BitVec 32 := Scalar.remsi v635 v637
  let c0_i32_697 : BitVec 32 := 0#32
  let v640 : BitVec 1 := Scalar.cmpi .slt v638 c0_i32_697
  let c0_i32_698 : BitVec 32 := 0#32
  let v641 : BitVec 1 := Scalar.cmpi .slt v637 c0_i32_698
  let v642 : BitVec 1 := Scalar.xori v640 v641
  let c0_i32_696 : BitVec 32 := 0#32
  let v639 : BitVec 1 := Scalar.cmpi .ne v638 c0_i32_696
  let v643 : BitVec 1 := Scalar.andi v642 v639
  let v644 : BitVec 32 := Scalar.addi v638 v637
  let v645 : BitVec 32 := Scalar.select v643 v644 v638
  let c1_i32_708 : BitVec 32 := 1#32
  let v647 : BitVec 32 := Scalar.muli v645 c1_i32_708
  let v648 : BitVec 32 := Scalar.addi c0_i32_709 v647
  v648.toNat
def k0_dev18 (d0 : Dev nD) : Nat :=
  let c0_i32_730 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_713 : BitVec 32 := 3#32
  let v657 : BitVec 32 := Scalar.addi v2 c3_i32_713
  let c4_i32_714 : BitVec 32 := 4#32
  let c0_i32_715 : BitVec 32 := 0#32
  let v658 : BitVec 1 := Scalar.cmpi .eq c4_i32_714 c0_i32_715
  let c1_i32_716 : BitVec 32 := 1#32
  let v659 : BitVec 32 := Scalar.select v658 c1_i32_716 c4_i32_714
  let v660 : BitVec 32 := Scalar.remsi v657 v659
  let c0_i32_718 : BitVec 32 := 0#32
  let v662 : BitVec 1 := Scalar.cmpi .slt v660 c0_i32_718
  let c0_i32_719 : BitVec 32 := 0#32
  let v663 : BitVec 1 := Scalar.cmpi .slt v659 c0_i32_719
  let v664 : BitVec 1 := Scalar.xori v662 v663
  let c0_i32_717 : BitVec 32 := 0#32
  let v661 : BitVec 1 := Scalar.cmpi .ne v660 c0_i32_717
  let v665 : BitVec 1 := Scalar.andi v664 v661
  let v666 : BitVec 32 := Scalar.addi v660 v659
  let v667 : BitVec 32 := Scalar.select v665 v666 v660
  let c1_i32_729 : BitVec 32 := 1#32
  let v669 : BitVec 32 := Scalar.muli v667 c1_i32_729
  let v670 : BitVec 32 := Scalar.addi c0_i32_730 v669
  v670.toNat
def k0_off2 (d0 : Dev nD) : Fin 3 → Nat :=
  let c2_735 : Index := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c16_i32_734 : BitVec 32 := 16#32
  let v679 : BitVec 32 := Scalar.muli v2 c16_i32_734
  let v680 : Index := Scalar.indexCast v679
  let c0_736 : Index := 0#32
  ![2, v680.toNat, 0]
abbrev stage0_0 : Fin 1 → Memref sig .tc .vmem S16x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S64x512 : Shape := ⟨2, ![64, 512]⟩
abbrev S512x4096 : Shape := ⟨2, ![512, 4096]⟩
abbrev S4096x512 : Shape := ⟨2, ![4096, 512]⟩
abbrev S64x4096 : Shape := ⟨2, ![64, 4096]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S64x512, .f32⟩
  | .hbm, ⟨1, _⟩ => ⟨S512x4096, .f32⟩
  | .hbm, ⟨2, _⟩ => ⟨S4096x512, .f32⟩
  | .hbm, ⟨3, _⟩ => ⟨S512x4096, .f32⟩
  | .hbm, ⟨4, _⟩ => ⟨S4096x512, .f32⟩
  | .hbm, ⟨5, _⟩ => ⟨S512x4096, .f32⟩
  | .hbm, ⟨6, _⟩ => ⟨S4096x512, .f32⟩
  | .hbm, ⟨7, _⟩ => ⟨S64x4096, .f32⟩
  | .hbm, ⟨8, _⟩ => ⟨S_, .f32⟩
  | .hbm, ⟨9, _⟩ => ⟨S64x4096, .f32⟩
  | .hbm, ⟨10, _⟩ => ⟨S64x4096, .f32⟩
  | .hbm, ⟨11, _⟩ => ⟨S64x512, .f32⟩
  | .hbm, ⟨12, _⟩ => ⟨S64x4096, .f32⟩
  | .hbm, ⟨13, _⟩ => ⟨S_, .f32⟩
  | .hbm, ⟨14, _⟩ => ⟨S64x4096, .f32⟩
  | .hbm, ⟨15, _⟩ => ⟨S64x4096, .f32⟩
  | .hbm, ⟨16, _⟩ => ⟨S64x512, .f32⟩
  | .hbm, ⟨17, _⟩ => ⟨S64x4096, .f32⟩
  | .hbm, ⟨18, _⟩ => ⟨S_, .f32⟩
  | .hbm, ⟨19, _⟩ => ⟨S64x4096, .f32⟩
  | .hbm, ⟨20, _⟩ => ⟨S64x4096, .f32⟩
  | .hbm, ⟨21, _⟩ => ⟨S64x512, .f32⟩
  | _, _ => ⟨S64x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]
-- ==== Proof.Values.lean ====
/-
  The values the kernel passes around, device by device, as functions of the devices' inputs and at any float
  values: what each device computes of a layer, what it sends, and what its result is.
-/
module

public import proofs.«01_k».proof.Proof.Gen.KernelIdeal
public import proofs.«01_k».proof.Proof.Gen.KernelIdeal.Skeleton
public import Idealize.ShloMosaic.Lib.Pipeline.Kit
public import Idealize.ShloMosaic.Lib.Pipeline.Value
public import Idealize.ShloMosaic.Lib.Tactic

@[expose] public section

noncomputable section

namespace Cert.Mlp

open Cert.KernelIdeal Cert.KernelIdeal.Gen
open Idealize.ShloMosaic Idealize.ShloMosaic.TcCoe

variable {F : FTy → Type} [FloatOps F]

/-! ## Where a device's messages go -/

/-- The device `j + 1` places after `c` on the ring of four. -/
def peer (c : Dev nD) (j : Fin 3) : Dev nD := ⟨(c.val + j.val + 1) % 4, Nat.mod_lt _ (by decide)⟩

/-- Going `j + 1` places and then `3 - j` places returns to the start. -/
theorem peer_rev (c : Dev nD) (j : Fin 3) : peer (peer c j) j.rev = c := by revert c j; decide

theorem peer_rev' (c : Dev nD) (j : Fin 3) : peer (peer c j.rev) j = c := by revert c j; decide

/-! ## One device's inputs and one layer -/

/-- What a device is given: the whole first activation, and its own columns and rows of the weights, layer by layer. -/
structure Ins (F : FTy → Type) where
  x : FVec F S64x512 .f32
  wi : Fin 3 → FVec F S512x1024 .f32
  wo : Fin 3 → FVec F S1024x512 .f32

/-- A product into the hidden width, accumulated over zero. -/
def dotIn (a : FVec F S32x512 .bf16) (w : FVec F S512x1024 .bf16) : FVec F S32x1024 .f32 :=
  matmul dot_S32x512_S512x1024_S32x1024_1_0_0_1_n_n none a w (constant S32x1024 .f32 0x00000000#32)

/-- The positive part. -/
def relu (h : FVec F S32x1024 .f32) : FVec F S32x1024 .f32 :=
  maximumf h (broadcast S32x1024 (Scalar.ofBits .f32 0x00000000#32))

/-- A product out of the hidden width, accumulated over zero. -/
def dotOut (h : FVec F S32x1024 .bf16) (w : FVec F S1024x512 .bf16) : FVec F S32x512 .f32 :=
  matmul dot_S32x1024_S1024x512_S32x512_1_0_0_1_n_n none h w (constant S32x512 .f32 0x00000000#32)

/-- The first weight of layer `r` as the products read it. -/
def winB (I : Ins F) (r : Fin 3) : FVec F S512x1024 .bf16 := truncf .bf16 (I.wi r) bitsLt_bf16_f32

/-- The second weight of layer `r` as the products read it. -/
def woutB (I : Ins F) (r : Fin 3) : FVec F S1024x512 .bf16 := truncf .bf16 (I.wo r) bitsLt_bf16_f32

/-- One device's part of layer `r` of 32 rows `a`. -/
def layer (I : Ins F) (r : Fin 3) (a : FVec F S32x512 .bf16) : FVec F S32x512 .f32 :=
  dotOut (truncf .bf16 (relu (dotIn a (winB I r))) bitsLt_bf16_f32) (woutB I r)

/-- Rows `32 s .. 32 s + 31` of the first activation. -/
def half (I : Ins F) (s : Fin 2) : FVec F S32x512 .bf16 :=
  match s with
  | 0 => extractStridedSlice S32x512 ![0, 0] (truncf .bf16 I.x bitsLt_bf16_f32) slices_S64x512_o0_0_S32x512
  | 1 => extractStridedSlice S32x512 ![32, 0] (truncf .bf16 I.x bitsLt_bf16_f32) slices_S64x512_o32_0_S32x512

/-! ## The devices together -/

variable (I : Dev nD → Ins F)

/-- A device's own part with the three others' added in the order the kernel adds them. -/
def gather (own : FVec F S32x512 .f32) (b : Fin 3 → FVec F S32x512 .bf16) : FVec F S32x512 .f32 :=
  addf (addf (addf own (extf .f32 (b 2) bitsLt_bf16_f32)) (extf .f32 (b 0) bitsLt_bf16_f32)) (extf .f32 (b 1) bitsLt_bf16_f32)

/-- Device `c`'s part of half `s` of layer 0. -/
def part0 (s : Fin 2) (c : Dev nD) : FVec F S32x512 .f32 := layer (I c) 0 (half (I c) s)

/-- What device `c` sends of a part. -/
def sent (p : Dev nD → FVec F S32x512 .f32) (c : Dev nD) : FVec F S32x512 .bf16 := truncf .bf16 (p c) bitsLt_bf16_f32

/-- Device `c`'s sum of a part over the devices, as the next layer reads it. -/
def summed (p : Dev nD → FVec F S32x512 .f32) (c : Dev nD) : FVec F S32x512 .bf16 :=
  truncf .bf16 (gather (p c) (fun j => sent p (peer c j))) bitsLt_bf16_f32

/-- Device `c`'s part of half `s` of layer 1. -/
def part1 (s : Fin 2) (c : Dev nD) : FVec F S32x512 .f32 := layer (I c) 1 (summed (part0 I s) c)

/-- Device `c`'s part of half `s` of layer 2. -/
def part2 (s : Fin 2) (c : Dev nD) : FVec F S32x512 .f32 := layer (I c) 2 (summed (part1 I s) c)

/-- Device `c`'s part of half `s` of layer `r`, as it is sent. -/
def blk (r : Fin 3) (s : Fin 2) (c : Dev nD) : FVec F S32x512 .bf16 :=
  match r with
  | 0 => sent (part0 I s) c
  | 1 => sent (part1 I s) c
  | 2 => sent (part2 I s) c

/-! ## The buffers and their pieces -/

abbrev partM : Memref sig .tc .vmem S3x64x512 .bf16 := Memref.whole cc0_scratch0
abbrev commM : Memref sig .tc .vmem S2x3x64x512 .bf16 := Memref.whole cc0_scratch1
abbrev comm2M : Memref sig .tc .vmem S3x16x512 .bf16 := Memref.whole cc0_scratch2
abbrev xM : Memref sig .tc .vmem S64x512 .f32 := Memref.whole cc0_scratch3
abbrev winsM : Memref sig .tc .vmem S3x512x1024 .f32 := Memref.whole cc0_scratch4
abbrev woutsM : Memref sig .tc .vmem S3x1024x512 .f32 := Memref.whole cc0_scratch5
abbrev winbM : Memref sig .tc .vmem S3x512x1024 .bf16 := Memref.whole cc0_scratch6
abbrev woutbM : Memref sig .tc .vmem S3x1024x512 .bf16 := Memref.whole cc0_scratch7
abbrev outM : Memref sig .tc .vmem S16x512 .f32 := Memref.whole cc0_stg0_0

theorem pc_inb (r : Fin 3) (s : Fin 2) : ∀ a, (![r.val, 32 * s.val, 0] : Fin 3 → ℕ) a + S1x32x512.size a ≤ S3x64x512.size a := by
  revert r s; decide
theorem rw_inb (i : Fin 4) : ∀ a, (![2, 16 * i.val, 0] : Fin 3 → ℕ) a + S1x16x512.size a ≤ S3x64x512.size a := by
  revert i; decide
theorem sl_inb (r : Fin 2) (j : Fin 3) (s : Fin 2) :
    ∀ a, (![r.val, j.val, 32 * s.val, 0] : Fin 4 → ℕ) a + S1x1x32x512.size a ≤ S2x3x64x512.size a := by
  revert r j s; decide
theorem s2_inb (j : Fin 3) : ∀ a, (![j.val, 0, 0] : Fin 3 → ℕ) a + S1x16x512.size a ≤ S3x16x512.size a := by revert j; decide
theorem wi_inb (r : Fin 3) : ∀ a, (![r.val, 0, 0] : Fin 3 → ℕ) a + S1x512x1024.size a ≤ S3x512x1024.size a := by revert r; decide
theorem wo_inb (r : Fin 3) : ∀ a, (![r.val, 0, 0] : Fin 3 → ℕ) a + S1x1024x512.size a ≤ S3x1024x512.size a := by revert r; decide

/-- Half `s` of layer `r` in the send buffer. -/
abbrev pcV (r : Fin 3) (s : Fin 2) : Memref sig .tc .vmem S32x512 .bf16 :=
  (partM.slice (Rect.unit (s := S3x64x512) ![r.val, 32 * s.val, 0] S1x32x512.size (pc_inb r s)) (fun _ => rfl)).squeeze S32x512 squeezes_S1x32x512_S32x512

/-- Rows `16 i ..` of the last layer in the send buffer. -/
abbrev rwV (i : Fin 4) : Memref sig .tc .vmem S16x512 .bf16 :=
  (partM.slice (Rect.unit (s := S3x64x512) ![2, 16 * i.val, 0] S1x16x512.size (rw_inb i)) (fun _ => rfl)).squeeze S16x512 squeezes_S1x16x512_S16x512

/-- Slot `j` of half `s` of layer `r` in the receive buffer. -/
abbrev slV (r : Fin 2) (j : Fin 3) (s : Fin 2) : Memref sig .tc .vmem S32x512 .bf16 :=
  (commM.slice (Rect.unit (s := S2x3x64x512) ![r.val, j.val, 32 * s.val, 0] S1x1x32x512.size (sl_inb r j s)) (fun _ => rfl)).squeeze S32x512 squeezes_S1x1x32x512_S32x512

/-- Slot `j` of the last layer's receive buffer. -/
abbrev s2V (j : Fin 3) : Memref sig .tc .vmem S16x512 .bf16 :=
  (comm2M.slice (Rect.unit (s := S3x16x512) ![j.val, 0, 0] S1x16x512.size (s2_inb j)) (fun _ => rfl)).squeeze S16x512 squeezes_S1x16x512_S16x512

/-- Layer `r` of the first weights' landing buffer, -/
abbrev wiV (r : Fin 3) : Memref sig .tc .vmem S512x1024 .f32 :=
  (winsM.slice (Rect.unit (s := S3x512x1024) ![r.val, 0, 0] S1x512x1024.size (wi_inb r)) (fun _ => rfl)).squeeze S512x1024 squeezes_S1x512x1024_S512x1024
/-- of the second weights', -/
abbrev woV (r : Fin 3) : Memref sig .tc .vmem S1024x512 .f32 :=
  (woutsM.slice (Rect.unit (s := S3x1024x512) ![r.val, 0, 0] S1x1024x512.size (wo_inb r)) (fun _ => rfl)).squeeze S1024x512 squeezes_S1x1024x512_S1024x512
/-- of the buffer the products read the first weights from, -/
abbrev wibV (r : Fin 3) : Memref sig .tc .vmem S512x1024 .bf16 :=
  (winbM.slice (Rect.unit (s := S3x512x1024) ![r.val, 0, 0] S1x512x1024.size (wi_inb r)) (fun _ => rfl)).squeeze S512x1024 squeezes_S1x512x1024_S512x1024
/-- and the second. -/
abbrev wobV (r : Fin 3) : Memref sig .tc .vmem S1024x512 .bf16 :=
  (woutbM.slice (Rect.unit (s := S3x1024x512) ![r.val, 0, 0] S1x1024x512.size (wo_inb r)) (fun _ => rfl)).squeeze S1024x512 squeezes_S1x1024x512_S1024x512

/-- Rows `16 i ..` of device `c`'s part of the last layer, as they are sent: what the row view reads of the half
    they lie in. -/
def rows (i : Fin 4) (c : Dev nD) : FVec F S16x512 .bf16 :=
  match i with
  | 0 => (rwV 0).view.read (Elt F) ((pcV 2 0).view.rep (blk I 2 0 c))
  | 1 => (rwV 1).view.read (Elt F) ((pcV 2 0).view.rep (blk I 2 0 c))
  | 2 => (rwV 2).view.read (Elt F) ((pcV 2 1).view.rep (blk I 2 1 c))
  | 3 => (rwV 3).view.read (Elt F) ((pcV 2 1).view.rep (blk I 2 1 c))

/-- Device `c`'s result: its rows of the last layer's sum over the devices. -/
def outV (c : Dev nD) : FVec F S16x512 .f32 :=
  addf (addf (addf (extf .f32 (rows I c c) bitsLt_bf16_f32) (extf .f32 (rows I c (peer c 2)) bitsLt_bf16_f32))
    (extf .f32 (rows I c (peer c 0)) bitsLt_bf16_f32)) (extf .f32 (rows I c (peer c 1)) bitsLt_bf16_f32)

end Cert.Mlp

end
-- ==== Proof.Protocol.lean ====
/-
  The protocol of the kernel: which semaphore cells carry which messages, what each message hands over with its
  contents, what a device owes its peers, and the order in which waits are allowed.
-/
module

public import proofs.«01_k».proof.Proof.Values
public import proofs.«01_k».proof.Proof.Gen.KernelIdeal.Launch
public import Idealize.ShloMosaic.Lib.Pipeline.Launch
public import Idealize.ShloMosaic.Lib.Pipeline.Kit
public import Idealize.ShloMosaic.Lib.Ring.Trips
public import Idealize.ShloMosaic.Lib.Tactic

@[expose] public section

noncomputable section

namespace Cert.Mlp

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The algebra: the pipeline's cells, the protocol's cells (three duties), the local copies' counters -/

abbrev UB : Type := URounds (GSem nD τ sig) (Fin 3)
abbrev UU : Type := UR sig nD τ × (UB × Counters)

/-- The machine's algebra with the kernel's components. -/
abbrev MM (F : FTy → Type) : Type := MT nD τ sig Unit (Elt F) ℕ UU ℕ

abbrev EP : Emb (UR sig nD τ) (MM F) := embL
abbrev ER : Emb UB (MM F) := (Emb.inl : Emb UB (UB × Counters)).trans embR

/-! ## Cells -/

/-- A device's cells: the barrier, a send cell and a receive cell per group of messages and peer. Groups 0 to 3 are
    half `s` of layer `r` at `2 r + s`; group 4 is the last layer's rows. -/
abbrev CI : Type := Option (Bool × Fin 5 × Fin 3)

abbrev barS : Sem sig := (SemArray.scalar (sig.barrier 0 rfl) : Sems sig S_).sem

theorem send_lt (g : Fin 5) (k : Fin 3) : 8 + 6 * (g.val / 2) + 2 * k.val + g.val % 2 < sig.nDmaSem := by
  revert g k; decide
theorem recv_lt (g : Fin 5) (k : Fin 3) : 26 + 6 * (g.val / 2) + 2 * k.val + g.val % 2 < sig.nDmaSem := by
  revert g k; decide

/-- The semaphore the sends of group `g` to the device `k + 1` places on complete on, -/
abbrev sendS (g : Fin 5) (k : Fin 3) : DmaSem sig := ⟨8 + 6 * (g.val / 2) + 2 * k.val + g.val % 2, send_lt g k⟩
/-- and the one the messages of group `g` from the device `k + 1` places on arrive on. -/
abbrev recvS (g : Fin 5) (k : Fin 3) : DmaSem sig := ⟨26 + 6 * (g.val / 2) + 2 * k.val + g.val % 2, recv_lt g k⟩

abbrev semOf : CI → SemLoc sig
  | none => .reg barS
  | some (false, g, k) => .dma (sendS g k)
  | some (true, g, k) => .dma (recvS g k)

abbrev cell (x : Dev nD × CI) : GSem nD τ sig := ((x.1 : Thread nD τ), semOf x.2)

/-- Every cell of a device. -/
def cis : List CI :=
  none :: (List.finRange 5).flatMap fun g => (List.finRange 3).flatMap fun k => [some (false, g, k), some (true, g, k)]

/-- Which cell a semaphore is. -/
def ciOf (sm : SemLoc sig) : Option CI := cis.find? (fun x => decide (semOf x = sm))

theorem ciOf_semOf (x : CI) : ciOf (semOf x) = some x := by revert x; decide

theorem semOf_inj {x y : CI} (h : semOf x = semOf y) : x = y :=
  Option.some.inj ((ciOf_semOf x).symm.trans ((congrArg ciOf h).trans (ciOf_semOf y)))

theorem cell_inj {x y : Dev nD × CI} (h : cell x = cell y) : x = y :=
  Prod.ext (congrArg (fun g : GSem nD τ sig => g.1.1) h) (semOf_inj (congrArg Prod.snd h))

/-! ## Points-to of the pieces -/

/-- The piece `M` on device `c` held at share `q` with contents `X`. -/
def atv {sp : Space} {s : Shape} {e : EltTy} (c : Dev nD) (M : Memref sig .tc sp s e) (q : PosShare TreeShare) (X : s.Idx → Elt F e) : sProp (MM F) :=
  M.view.loc (c : Thread nD τ) ↦[M.view.set]{q} M.view.rep X

/-- The piece `M` on device `c` held with whatever contents. -/
def anyv {sp : Space} {s : Shape} {e : EltTy} (F : FTy → Type) (c : Dev nD) (M : Memref sig .tc sp s e) : sProp (MM F) :=
  iprop(∃ f : Buf (Elt F) (M.view.loc (c : Thread nD τ)), M.view.loc (c : Thread nD τ) ↦[M.view.set]{fullShare} f)

instance atv_storable {sp : Space} {s : Shape} {e : EltTy} (c : Dev nD) (M : Memref sig .tc sp s e) (q : PosShare TreeShare) (X : s.Idx → Elt F e) :
    BI.Storable (upEmb : UEmb _ (MM F)) (atv c M q X) := by unfold atv; infer_instance
instance anyv_storable {sp : Space} {s : Shape} {e : EltTy} (c : Dev nD) (M : Memref sig .tc sp s e) :
    BI.Storable (upEmb : UEmb _ (MM F)) (anyv F c M) := by unfold anyv; infer_instance

/-- The part of the full share lent to the device `k + 1` places on. -/
abbrev third (k : Fin 3) : PosShare TreeShare := Ring.shares3 fullShare k

/-! ## The schedule -/

/-- The credit of a half's transfer and of a row block's. -/
abbrev N32 : ℕ := (slV 0 0 0).view.dmaCredit
abbrev N16 : ℕ := (s2V 0).view.dmaCredit

theorem N32_pos : 0 < N32 := View.dmaCredit_pos _ (by decide)
theorem N16_pos : 0 < N16 := View.dmaCredit_pos _ (by decide)

/-- The credit of a group's transfers. -/
def amtG : Fin 5 → ℕ
  | 0 => N32 | 1 => N32 | 2 => N32 | 3 => N32 | 4 => N16

def amt : CI → ℕ
  | none => 1
  | some (_, g, _) => amtG g

theorem amt_pos (x : CI) : 0 < amt x := by
  obtain _ | ⟨b, g, k⟩ := x
  · exact Nat.one_pos
  · show 0 < amtG g
    fin_cases g
    exacts [N32_pos, N32_pos, N32_pos, N32_pos, N16_pos]

variable (I : Dev nD → Ins F)

/-- What a device lends with the sends of group `g` to the device `k + 1` places on, -/
def lent (c : Dev nD) (k : Fin 3) : Fin 5 → sProp (MM F)
  | 0 => atv c (pcV 0 0) (third k) (blk I 0 0 c)
  | 1 => atv c (pcV 0 1) (third k) (blk I 0 1 c)
  | 2 => atv c (pcV 1 0) (third k) (blk I 1 0 c)
  | 3 => atv c (pcV 1 1) (third k) (blk I 1 1 c)
  | 4 => atv c (rwV (peer c k)) fullShare (rows I (peer c k) c)

/-- what it finds landed of group `g` from the device `j + 1` places on, -/
def landed (c : Dev nD) (j : Fin 3) : Fin 5 → sProp (MM F)
  | 0 => atv c (slV 0 j 0) fullShare (blk I 0 0 (peer c j))
  | 1 => atv c (slV 0 j 1) fullShare (blk I 0 1 (peer c j))
  | 2 => atv c (slV 1 j 0) fullShare (blk I 1 0 (peer c j))
  | 3 => atv c (slV 1 j 1) fullShare (blk I 1 1 (peer c j))
  | 4 => atv c (s2V j) fullShare (rows I c (peer c j))

/-- and slot `j` of its receive buffers for group `g`, before anything has landed. -/
def slotv (F : FTy → Type) (c : Dev nD) (j : Fin 3) : Fin 5 → sProp (MM F)
  | 0 => anyv F c (slV 0 j 0)
  | 1 => anyv F c (slV 0 j 1)
  | 2 => anyv F c (slV 1 j 0)
  | 3 => anyv F c (slV 1 j 1)
  | 4 => anyv F c (s2V j)

/-- A device's slots for the messages of the device `j + 1` places on, in all groups. -/
def slots (F : FTy → Type) (c : Dev nD) (j : Fin 3) : sProp (MM F) :=
  iprop(slotv F c j 0 ∗ slotv F c j 1 ∗ slotv F c j 2 ∗ slotv F c j 3 ∗ slotv F c j 4)

instance lent_storable (c : Dev nD) (k : Fin 3) (g : Fin 5) : BI.Storable (upEmb : UEmb _ (MM F)) (lent I c k g) := by
  unfold lent; split <;> infer_instance
instance landed_storable (c : Dev nD) (k : Fin 3) (g : Fin 5) : BI.Storable (upEmb : UEmb _ (MM F)) (landed I c k g) := by
  unfold landed; split <;> infer_instance
instance slotv_storable (c : Dev nD) (k : Fin 3) (g : Fin 5) : BI.Storable (upEmb : UEmb _ (MM F)) (slotv F c k g) := by
  unfold slotv; split <;> infer_instance
instance slots_storable (c : Dev nD) (k : Fin 3) : BI.Storable (upEmb : UEmb _ (MM F)) (slots F c k) := by unfold slots; infer_instance

/-- What duty `d` of cell `x` of device `c` hands over: at the barrier, the slots that the device `d + 1` places on keeps
    for `c`'s messages. -/
def pay (c : Dev nD) (d : Fin 3) : CI → sProp (MM F)
  | none => slots F (peer c d) d.rev
  | some (false, g, k) => lent I c k g
  | some (true, g, k) => landed I c k g

instance pay_storable (c : Dev nD) (d : Fin 3) (x : CI) : BI.Storable (upEmb : UEmb _ (MM F)) (pay I c d x) := by
  unfold pay; split <;> infer_instance

/-- The duties of a cell: at the barrier one per peer, elsewhere one. -/
def dut : CI → Finset (Fin 3)
  | none => Finset.univ
  | some _ => {0}

/-- One round at every cell of the protocol. -/
def Rd : Rounds.Schedule (GSem nD τ sig) (Fin 3) (MM F) where
  duties g r := if r = 0 ∧ g.1.2 = .tc then (ciOf g.2).elim ∅ dut else ∅
  unitless _ := False
  amount g _ _ := (ciOf g.2).elim 1 amt
  payload g _ d := (ciOf g.2).elim iprop(emp) (pay I g.1.1 d)
  amount_pos g _ _ _ := by
    cases ciOf g.2 with
    | none => exact Nat.one_pos
    | some x => exact amt_pos x

instance Rd_storable (g : GSem nD τ sig) (r : ℕ) (d : Fin 3) : BI.Storable (upEmb : UEmb _ (MM F)) ((Rd I).payload g r d) := by
  show BI.Storable upEmb ((ciOf g.2).elim iprop(emp) (pay I g.1.1 d))
  cases ciOf g.2 with
  | none => show BI.Storable upEmb iprop(emp); infer_instance
  | some x => exact pay_storable I _ _ _

variable (x : Dev nD × CI)

theorem duties_cell : (Rd I).duties (cell x) 0 = dut x.2 := by
  dsimp only [Rd]; rw [if_pos ⟨rfl, rfl⟩, ciOf_semOf]; rfl

theorem duties_later (g : GSem nD τ sig) : ∀ r, 1 ≤ r → (Rd I).duties g r = ∅ :=
  fun r hr => by dsimp only [Rd]; rw [if_neg fun h => by omega]

theorem amount_cell (d : Fin 3) : (Rd I).amount (cell x) 0 d = amt x.2 := by dsimp only [Rd]; rw [ciOf_semOf]; rfl

theorem payload_cell (d : Fin 3) : (Rd I).payload (cell x) 0 d = pay I x.1 d x.2 := by dsimp only [Rd]; rw [ciOf_semOf]; rfl

theorem expect_bar (c : Dev nD) : (Rd I).expect (cell (c, none)) 0 = 3 := by
  unfold Schedule.expect Schedule.amountOf
  rw [duties_cell, Finset.sum_congr rfl fun d _ => amount_cell I _ d]; rfl

theorem expect_dma (c : Dev nD) (y : Bool × Fin 5 × Fin 3) : (Rd I).expect (cell (c, some y)) 0 = amtG y.2.1 := by
  unfold Schedule.expect Schedule.amountOf
  rw [duties_cell, Finset.sum_congr rfl fun d _ => amount_cell I _ d]
  exact Finset.sum_singleton _ _

theorem rest_bar (c : Dev nD) :
    bigSep ((Rd I).duties (cell (c, none)) 0 \ ∅) (fun d => (Rd I).payload (cell (c, none)) 0 d)
      = iprop(slots F (peer c 0) 2 ∗ slots F (peer c 1) 1 ∗ slots F (peer c 2) 0) := by
  rw [Finset.sdiff_empty, duties_cell]
  show bigSep Finset.univ _ = _
  rw [bigSep_univ_eq_bigSepL [0, 1, 2] (by decide) (by decide), bigSepL_cons_cons, bigSepL_cons_cons, bigSepL_singleton,
    payload_cell, payload_cell, payload_cell]
  rfl

theorem rest_dma (c : Dev nD) (y : Bool × Fin 5 × Fin 3) :
    bigSep ((Rd I).duties (cell (c, some y)) 0 \ ∅) (fun d => (Rd I).payload (cell (c, some y)) 0 d) = pay I c 0 (some y) := by
  rw [Finset.sdiff_empty, duties_cell]
  show bigSep {0} _ = _
  rw [bigSep_singleton, payload_cell]

/-! ## What a device owes, and the levels -/

/-- The peers' cells a device pays, in the order it pays them: the barrier of each peer, then group by group the receive
    cell of the device two, one and three places on. -/
def dues : List (Option (Fin 5) × Fin 3) :=
  [(none, 0), (none, 1), (none, 2), (some 0, 1), (some 0, 0), (some 0, 2), (some 1, 1), (some 1, 0), (some 1, 2),
    (some 2, 1), (some 2, 0), (some 2, 2), (some 3, 1), (some 3, 0), (some 3, 2), (some 4, 1), (some 4, 0), (some 4, 2)]

/-- The cell a due is paid at. -/
def tgt (c : Dev nD) (y : Option (Fin 5) × Fin 3) : Dev nD × CI := (peer c y.2, y.1.map fun g => (true, g, y.2.rev))

/-- What a device owes while the dues `l` are unpaid. -/
def debt (c : Dev nD) : List (Option (Fin 5) × Fin 3) → CellTallies nD τ sig Unit
  | [] => 0
  | y :: l => debt c l + tallyAt (cell (tgt c y)) () (amt (tgt c y).2)

theorem debt_cons (c : Dev nD) (y : Option (Fin 5) × Fin 3) (l : List (Option (Fin 5) × Fin 3)) :
    debt c (y :: l) = debt c l + tallyAt (cell (tgt c y)) () (amt (tgt c y).2) := rfl

theorem debt_pos (c : Dev nD) {g : GSem nD τ sig} {u : Unit} : ∀ {l : List (Option (Fin 5) × Fin 3)}, 0 < debt c l g u → ∃ y ∈ l, g = cell (tgt c y)
  | [], h => absurd h (Nat.lt_irrefl 0)
  | y :: l, h => by
    by_cases hy : g = cell (tgt c y)
    · exact ⟨y, List.mem_cons_self, hy⟩
    · rw [debt_cons, Pi.add_apply, Finsupp.add_apply, tallyAt_apply, if_neg (fun h' => hy h'.1), Nat.add_zero] at h
      obtain ⟨z, hz, e⟩ := debt_pos c h
      exact ⟨z, List.mem_cons_of_mem _ hz, e⟩

def L (g : GSem nD τ sig) : Finset Unit := if g.1.2 = .tc then {()} else ∅

theorem L_of_ne (g : GSem nD τ sig) (h : g.1.2 ≠ .tc) : L g = ∅ := if_neg h
theorem L_tc (c : Dev nD) (sm : SemLoc sig) : L ((c : Thread nD τ), sm) = {()} := if_pos rfl

/-- The barrier at 1, the receive cells of group `g` at `2 + g`, everything else at 0. -/
def lvCI : CI → ℕ
  | none => 1
  | some (true, g, _) => 2 + g.val
  | some (false, _, _) => 0

def lv (g : GSem nD τ sig) (_ : Unit) : ℕ := (ciOf g.2).elim 0 lvCI

theorem lv_cell (x : Dev nD × CI) (u : Unit) : lv (cell x) u = lvCI x.2 := by dsimp only [lv]; rw [ciOf_semOf]; rfl

/-- The level of the cell a due is paid at, whatever the device. -/
def lvDue : Option (Fin 5) × Fin 3 → ℕ
  | (none, _) => 1
  | (some g, _) => 2 + g.val

theorem lv_tgt (c : Dev nD) (y : Option (Fin 5) × Fin 3) : lvCI (tgt c y).2 = lvDue y := by
  obtain ⟨_ | g, k⟩ := y <;> rfl

/-- A wait at level `n` is allowed while the unpaid dues lie at levels above `n`. -/
theorem mayWait_debt (c : Dev nD) (sm : SemLoc sig) (n : ℕ) (hn : lv ((c : Thread nD τ), sm) () = n)
    (l : List (Option (Fin 5) × Fin 3)) (hl : ∀ y ∈ l, n < lvDue y) :
    (levAts L lv : sProp (MM F)) ⊢ MayWait (c : Thread nD τ) sm () (debt c l) :=
  MayOwe.of_cut (L := L) (lev := lv) n (fun p hp => by rw [Finset.mem_singleton.mp hp, L_tc]; exact Finset.mem_singleton_self _)
    (fun g u hg => by obtain ⟨y, _, rfl⟩ := debt_pos c hg; exact Finset.mem_singleton_self _)
    (fun p hp => by rw [Finset.mem_singleton.mp hp]; exact hn.le)
    (fun g u hg => by obtain ⟨y, hy, rfl⟩ := debt_pos c hg; rw [lv_cell, lv_tgt]; exact hl y hy)

/-! ## The bundles of a device's ghost state -/

/-- Every cell's invariant, under the names `K`, and that it has reached its first round; and the levels. -/
def recs (K : Dev nD × CI → ℕ) : sProp (MM F) :=
  iprop(bigSep Finset.univ (fun x : Dev nD × CI => iprop(cellInv ER (Rd I) (K x) (cell x) ∗ reached ER (cell x) 0)) ∗ levAts L lv)

instance recs_persistent (K : Dev nD × CI → ℕ) : BI.Persistent (recs I K) := by unfold recs; infer_instance

theorem recs_cell (K : Dev nD × CI → ℕ) (x : Dev nD × CI) :
    recs I K ⊢ iprop(cellInv ER (Rd I) (K x) (cell x) ∗ reached ER (cell x) 0) := by
  have h : (bigSep Finset.univ (fun x : Dev nD × CI => iprop(cellInv ER (Rd I) (K x) (cell x) ∗ reached ER (cell x) 0)) : sProp (MM F))
      ⊢ iprop(cellInv ER (Rd I) (K x) (cell x) ∗ reached ER (cell x) 0) := bigSep_elim (Finset.mem_univ x)
  unfold recs
  iintro ⟨H, -⟩
  iapply h $$ H

theorem recs_lev (K : Dev nD × CI → ℕ) : recs I K ⊢ levAts L lv := by
  unfold recs
  iintro ⟨-, H⟩
  iexact H

/-- A device's place at the start of cell `x`. -/
def posAt (F : FTy → Type) (c : Dev nD) (x : CI) : sProp (MM F) := atPos ER (cell (c, x)) 0 ∅ 0

/-- The tokens a device pays a message of group `g` to the device `k + 1` places on with. -/
def sendTok (F : FTy → Type) (c : Dev nD) (g : Fin 5) (k : Fin 3) : sProp (MM F) :=
  iprop(dutyTok ER (cell (c, some (false, g, k))) 0 0 ∗ dutyTok ER (cell (peer c k, some (true, g, k.rev))) 0 0)

/-- The token it pays that device's barrier with. -/
def barTok (F : FTy → Type) (c : Dev nD) (k : Fin 3) : sProp (MM F) := dutyTok ER (cell (peer c k, none)) 0 k.rev

/-- The credits of cell `x`. -/
def crd (F : FTy → Type) (c : Dev nD) (x : CI) (n : ℕ) : sProp (MM F) := cred (tallyAt (cell (c, x)) () n)

/-- The dues still owed after `n` payments. -/
def owe (F : FTy → Type) (c : Dev nD) (n : ℕ) : sProp (MM F) := iprop(∃ W, owes (c : Thread nD τ) (debt c (dues.drop n)) W)

end Cert.Mlp

end
-- ==== Proof.Rules.lean ====
/-
  One rule per effect of the kernel's body: signals, the barrier wait, sends, waits, local copies, loads and stores of
  pieces of buffers. Each is stated for the devices' cells of the protocol and continues with what the effect yields.
-/
module

public import proofs.«01_k».proof.Proof.Protocol

@[expose] public section

noncomputable section

namespace Cert.Mlp

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev 𝒱₀ : Variants := Variants.none

/-- Device `c` runs `p` to `Q`. -/
abbrev WP (c : Dev nD) {α : Type} (p : Prog (TpuEff nD τ sig (Elt F) Λ₀ .tc) α) (Q : α → sProp (MM F)) : sProp (MM F) :=
  wp frame (wpE (defs₀ (F := F)) 𝒱₀ (c : Thread nD τ) none) Set.univ p Q

/-! ## Points-to of pieces -/

section Pieces

variable {sp : Space} {s : Shape} {e : EltTy} (c : Dev nD) (M : Memref sig .tc sp s e)

/-- Contents `f` of a piece are what the piece reads of `f`. -/
theorem atv_of (q : PosShare TreeShare) (f : Buf (Elt F) (M.view.loc (c : Thread nD τ))) :
    (M.view.loc (c : Thread nD τ) ↦[M.view.set]{q} f : sProp (MM F)) = atv c M q (M.view.read (Elt F) f) :=
  pointsTo_rep (Ix := Unit) (Name := ℕ) (U := UU) (Lvl := ℕ) (c : Thread nD τ) M f q

theorem atv_any (X : s.Idx → Elt F e) : atv c M fullShare X ⊢ anyv F c M := by
  unfold atv anyv
  iintro H
  iexists _
  iexact H

/-- The full share of a piece is the three thirds. -/
theorem atv_thirds (X : s.Idx → Elt F e) :
    atv c M fullShare X ⊣⊢ iprop(atv c M (third 0) X ∗ atv c M (third 1) X ∗ atv c M (third 2) X) := by
  unfold atv; exact Ring.pointsTo_thirds fullShare _

end Pieces

/-! ## Loads and stores -/

section Access

variable {s s' : Shape} {e : EltTy} (c : Dev nD) {α : Type} {Q : α → sProp (MM F)}

/-- A load of a slice of a buffer, held as the squeezed piece, reads the piece's contents, reshaped. -/
theorem wp_ld (M : Memref sig .tc .vmem s e) (r : Rect s) (hr : ∀ a, r.stride a = 1) (hq : r.shape.Squeezes s') (q : PosShare TreeShare) (X : s'.Idx → Elt F e)
    (hc : s'.ShapeCasts r.shape) (hc' : r.shape.ShapeCasts s') {hl : M.view.LoadsAt r.toLoadRect}
    {k : (r.shape.Idx → Elt F e) → Prog (TpuEff nD τ sig (Elt F) Λ₀ .tc) α} :
    atv c ((M.slice r hr).squeeze s' hq) q X
      ⊢ iprop((atv c ((M.slice r hr).squeeze s' hq) q X -∗ WP c (k (shapeCast r.shape X hc)) Q) -∗ WP c (.op (.load M r.toLoadRect hl) k) Q) := by
  have hX : ((M.slice r hr).squeeze s' hq).view.read (Elt F) (((M.slice r hr).squeeze s' hq).view.rep X) = X := View.read_rep _ _
  have h2 : M.view.readAt (Elt F) r.toLoadRect (((M.slice r hr).squeeze s' hq).view.rep X) = shapeCast r.shape X hc := by
    rw [Memref.read_squeeze_slice M r hr hq hc'] at hX
    conv_rhs => rw [← hX]
    rw [shapeCast_shapeCast]
  rw [← h2]
  unfold atv
  exact wp_load 𝒱₀ (c : Thread nD τ) none Set.univ (m := M) (r := r.toLoadRect) (hl := hl)
    (S := ((M.slice r hr).squeeze s' hq).view.set) (by
      rw [show ((M.slice r hr).squeeze s' hq).view.set = (M.slice r hr).view.set from View.set_reshape _ _]
      exact (View.set_slice _ _).symm.subset)

/-- A load of a slice whose contents nobody keeps reads something. -/
theorem wp_ldany (M : Memref sig .tc .vmem s e) (r : Rect s) (hr : ∀ a, r.stride a = 1) (hq : r.shape.Squeezes s')
    {hl : M.view.LoadsAt r.toLoadRect} {k : (r.shape.Idx → Elt F e) → Prog (TpuEff nD τ sig (Elt F) Λ₀ .tc) α} :
    anyv F c ((M.slice r hr).squeeze s' hq)
      ⊢ iprop((∀ v, anyv F c ((M.slice r hr).squeeze s' hq) -∗ WP c (k v) Q) -∗ WP c (.op (.load M r.toLoadRect hl) k) Q) := by
  unfold anyv
  iintro ⟨%f, H⟩ Hk
  iapply (wp_load 𝒱₀ (c : Thread nD τ) none Set.univ (m := M) (r := r.toLoadRect) (hl := hl) (f := f) (q := fullShare)
    (S := ((M.slice r hr).squeeze s' hq).view.set) (by
      rw [show ((M.slice r hr).squeeze s' hq).view.set = (M.slice r hr).view.set from View.set_reshape _ _]
      exact (View.set_slice _ _).symm.subset)) $$ [H]
  · iexact H
  iintro H
  iapply Hk
  iexists f
  iexact H

/-- A store of a slice, held as the squeezed piece: the piece then holds what was stored, reshaped. -/
theorem wp_st (M : Memref sig .tc .vmem s e) (r : Rect s) (hr : ∀ a, r.stride a = 1) (hq : r.shape.Squeezes s') (Y : s'.Idx → Elt F e)
    (hc : s'.ShapeCasts r.shape) (hc' : r.shape.ShapeCasts s') {w : r.shape.Idx → Elt F e} (hw : w = shapeCast r.shape Y hc)
    {hx : (M.access r : View sig .tc _ _ _).Stores Finset.univ} {hm : Finset.univ = Finset.univ ∨ ∀ a, r.stride a = 1}
    {k : PUnit → Prog (TpuEff nD τ sig (Elt F) Λ₀ .tc) α} :
    anyv F c ((M.slice r hr).squeeze s' hq)
      ⊢ iprop((atv c ((M.slice r hr).squeeze s' hq) fullShare Y -∗ WP c (k ⟨⟩) Q) -∗ WP c (.op (.store M r w Finset.univ hx hm) k) Q) := by
  subst hw
  unfold anyv
  iintro ⟨%f, H⟩ Hk
  iapply (wp_store 𝒱₀ (c : Thread nD τ) none Set.univ (m := M) (r := r) (hx := hx) (hm := hm) (f := f) (w := shapeCast r.shape Y hc) (Mk := Finset.univ)
    (S := ((M.slice r hr).squeeze s' hq).view.set) (by
      rw [show ((M.slice r hr).squeeze s' hq).view.set = (M.slice r hr).view.set from View.set_reshape _ _]
      exact subset_rfl)) $$ [H]
  · iexact H
  iintro H
  iapply Hk
  have hR : ((M.slice r hr).squeeze s' hq).view.read (Elt F) ((M.access r).write (Elt F) f (shapeCast r.shape Y hc) Finset.univ) = Y := by
    rw [Memref.read_squeeze_slice M r hr hq hc']
    rw [show M.view.readAt (Elt F) r.toLoadRect ((M.access r).write (Elt F) f (shapeCast r.shape Y hc) Finset.univ)
      = (M.access r).read (Elt F) ((M.access r).write (Elt F) f (shapeCast r.shape Y hc) Finset.univ) from rfl]
    rw [View.read_write_univ, shapeCast_shapeCast]
  have h := atv_of c ((M.slice r hr).squeeze s' hq) fullShare ((M.access r).write (Elt F) f (shapeCast r.shape Y hc) Finset.univ)
  rw [hR] at h
  rw [← h]
  iexact H

/-- A load of the rows of the last layer that a word computes the start of. -/
theorem wp_ldrow (i : Fin 4) (X : S16x512.Idx → Elt F .bf16) {off : Fin 3 → ℕ} (hoff : off = ![2, 16 * i.val, 0])
    (inb : ∀ a, off a + S1x16x512.size a ≤ S3x64x512.size a) (q : PosShare TreeShare)
    {hl : partM.view.LoadsAt (Rect.unit (s := S3x64x512) off S1x16x512.size inb).toLoadRect}
    {k : (S1x16x512.Idx → Elt F .bf16) → Prog (TpuEff nD τ sig (Elt F) Λ₀ .tc) α} :
    atv c (rwV i) q X
      ⊢ iprop((atv c (rwV i) q X -∗ WP c (k (shapeCast S1x16x512 X)) Q)
          -∗ WP c (.op (.load partM (Rect.unit (s := S3x64x512) off S1x16x512.size inb).toLoadRect hl) k) Q) := by
  subst hoff
  exact wp_ld c partM (Rect.unit (s := S3x64x512) ![2, 16 * i.val, 0] S1x16x512.size (rw_inb i)) (fun _ => rfl) squeezes_S1x16x512_S16x512 q X
    (show S16x512.ShapeCasts S1x16x512 by decide) (show S1x16x512.ShapeCasts S16x512 by decide) (hl := hl) (k := k)

/-- A load of a whole buffer. -/
theorem wp_ldwhole {cs : CoreSpace} {s : Shape} {e : EltTy} (M : Memref sig .tc cs s e) (q : PosShare TreeShare) (X : s.Idx → Elt F e)
    (r : Rect s) {X' : r.shape.Idx → Elt F e} (hX : (fun y => X (r.toLoadRect.idx y)) = X') {hl : M.view.LoadsAt r.toLoadRect}
    {k : (r.shape.Idx → Elt F e) → Prog (TpuEff nD τ sig (Elt F) Λ₀ .tc) α} :
    atv c M q X ⊢ iprop((atv c M q X -∗ WP c (k X') Q) -∗ WP c (.op (.load M r.toLoadRect hl) k) Q) := by
  have h : View.readAt (Elt F) M.view r.toLoadRect (M.view.rep X) = X' := (View.readAt_rep (Val := Elt F) M.view r.toLoadRect X).trans hX
  rw [← h]
  unfold atv
  exact wp_load 𝒱₀ (c : Thread nD τ) none Set.univ (m := M) (r := r.toLoadRect) (hl := hl) (S := M.view.set) (View.setOn_subset_set _ _)

end Access

/-! ## Cells -/

section Cells

variable (I : Dev nD → Ins F) (K : Dev nD × CI → ℕ) (c : Dev nD) {α : Type} {Q : α → sProp (MM F)}

/-- A device signals the barrier of the device `k + 1` places on, handing over its slots for that device's messages. -/
theorem wp_sig (n : Dev nD) (k : Fin 3) (hn : n = peer c k) (i : ℕ) (hi : dues.drop i = (none, k) :: dues.drop (i + 1))
    {sem : Sem sig} (hsem : sem = barS) {v : Int} (hv : v = 1) {kk : PUnit → Prog (TpuEff nD τ sig (Elt F) Λ₀ .tc) α} :
    iprop(recs I K ∗ barTok F c k ∗ owe F c i ∗ slots F c k)
      ⊢ iprop((owe F c (i + 1) -∗ WP c (kk ⟨⟩) Q) -∗ WP c (.op (.semSignal (n, .tc) sem v) kk) Q) := by
  subst hn hsem hv
  have hp : (slots F c k : sProp (MM F)) ⊢ (Rd I).payload (cell (peer c k, none)) 0 k.rev := by
    rw [payload_cell I (peer c k, none)]
    show _ ⊢ slots F (peer (peer c k) k.rev) k.rev.rev
    rw [peer_rev, Fin.rev_rev]
  unfold barTok owe
  rw [hi]
  iintro ⟨#HR, Ht, ⟨%W, HO⟩, Hs⟩ Hk
  ihave #Hc := (recs_cell I K (peer c k, none)) $$ HR
  icases Hc with ⟨#Hi, #Hr⟩
  iapply (Rounds.wp_signal 𝒱₀ ER (Rd I) (c : Thread nD τ) none (dst := (peer c k : Thread nD τ)) (sem := barS) (r := 0) (d := k.rev)
      (κ := K (peer c k, none)) (k' := 1) (k := kk) (by rw [duties_cell I (peer c k, none)]; exact Finset.mem_univ _)
      (amount_cell I (peer c k, none) k.rev) () (debt c (dues.drop (i + 1))) (debt_cons c (none, k) _) (W := W)) $$ [Ht HO Hs]
  · isplitr; · iexact Hi
    isplitl [HO]; · iexact HO
    isplitl [Ht]; · iexact Ht
    isplitl [Hs]; · iapply hp; iexact Hs
    iexact Hr
  iintro HO
  iapply Hk
  iexists W
  iexact HO

/-- At its barrier a device waits for its three peers' signals and holds its landing slots on each. -/
theorem wp_bar (i : ℕ) (hl : ∀ y ∈ dues.drop i, 1 < lvDue y) {sem : Sem sig} (hsem : sem = barS) {v : Int} (hv : v = 3)
    {kk : PUnit → Prog (TpuEff nD τ sig (Elt F) Λ₀ .tc) α} :
    iprop(recs I K ∗ posAt F c none ∗ crd F c none 3 ∗ owe F c i)
      ⊢ iprop(((slots F (peer c 0) 2 ∗ slots F (peer c 1) 1 ∗ slots F (peer c 2) 0 ∗ semVal (cell (c, none)) 0 ∗ owe F c i) -∗ WP c (kk ⟨⟩) Q)
          -∗ WP c (.op (.semWait sem v) kk) Q) := by
  subst hsem hv
  unfold posAt crd owe
  iintro ⟨#HR, Hp, Hc, ⟨%W, HO⟩⟩ Hk
  ihave #Hx := (recs_cell I K (c, none)) $$ HR
  icases Hx with ⟨#Hi, -⟩
  ihave #Hlev := (recs_lev I K) $$ HR
  iapply (Rounds.wp_wait_rest_token 𝒱₀ ER (Rd I) (c : Thread nD τ) none (κ := K (c, none)) (sm := .reg barS) (k' := 3) (k := kk)
      (wpE_semWait_eq 𝒱₀ (c : Thread nD τ) none Set.univ) (Set.mem_univ _) () (O := debt c (dues.drop i)) (W := W) (R := 0) (m := 0) (T := ∅)
      (by rw [expect_bar I c])) $$ [Hp Hc HO]
  · isplitr; · iexact Hi
    isplitl [Hc]; · iexact Hc
    isplitl [HO]; · iexact HO
    isplitr
    · iapply (mayWait_debt c (.reg barS) 1 (lv_cell (c, none) ()) (dues.drop i) hl); iexact Hlev
    iexact Hp
  iintro ⟨HO, Hp, -, Hpay⟩
  ihave Hs := (Entails.of_eq (rest_bar I c)) $$ Hpay
  imod (Rounds.cell_close ER (Rd I) (Set.mem_univ (K (c, none))) (fun h => h) (R := 0 + 1) (duties_later I (cell (c, none)))) $$ [Hp] with Hz
  · isplitr; · iexact Hi
    iexact Hp
  icases Hs with ⟨H0, H1, H2⟩
  iapply Hk
  isplitl [H0]; · iexact H0
  isplitl [H1]; · iexact H1
  isplitl [H2]; · iexact H2
  isplitl [Hz]; · iexact Hz
  iexists _
  iexact HO

/-- A device waits on one of its send or receive cells: it takes what the message hands over, and the cell closes. -/
theorem wp_take (y : Bool × Fin 5 × Fin 3) (i : ℕ) (hl : ∀ z ∈ dues.drop i, lvCI (some y) < lvDue z) {sem : DmaSem sig}
    (hsem : SemLoc.dma sem = semOf (some y)) {sp' : Space} {s' : Shape} {e' : EltTy} {κ : Kind} {sp : Space} {s : Shape} {e : EltTy}
    {srcw : Memref sig .tc sp' s' e'} {dstw : Memref sig κ sp s e} {hsrc : srcw.view.WordExact} {hdst : dstw.view.WordExact}
    (hN : dstw.view.dmaCredit = amtG y.2.1) {kk : PUnit → Prog (TpuEff nD τ sig (Elt F) Λ₀ .tc) α} :
    iprop(recs I K ∗ posAt F c (some y) ∗ crd F c (some y) (amtG y.2.1) ∗ owe F c i)
      ⊢ iprop(((pay I c 0 (some y) ∗ semVal (cell (c, some y)) 0 ∗ owe F c i) -∗ WP c (kk ⟨⟩) Q)
          -∗ WP c (.op (.waitDma2 sem srcw dstw hsrc hdst) kk) Q) := by
  unfold posAt crd owe cell
  rw [← hsem, ← hN]
  iintro ⟨#HR, Hp, Hc, ⟨%W, HO⟩⟩ Hk
  ihave #Hx := (recs_cell I K (c, some y)) $$ HR
  unfold cell
  rw [← hsem]
  icases Hx with ⟨#Hi, -⟩
  ihave #Hlev := (recs_lev I K) $$ HR
  iapply (Rounds.wp_wait_rest_token 𝒱₀ ER (Rd I) (c : Thread nD τ) none (κ := K (c, some y)) (sm := .dma sem) (k := kk)
      (wpE_waitDma2_eq 𝒱₀ (c : Thread nD τ) none Set.univ) (Set.mem_univ _) () (O := debt c (dues.drop i)) (W := W) (R := 0) (m := 0) (T := ∅)
      (by rw [hsem, expect_dma I c y, hN, Nat.zero_add])) $$ [Hp Hc HO]
  · isplitr; · iexact Hi
    isplitl [Hc]; · iexact Hc
    isplitl [HO]; · iexact HO
    isplitr
    · iapply (mayWait_debt c (.dma sem) (lvCI (some y)) (by rw [hsem]; exact lv_cell (c, some y) ()) (dues.drop i) hl); iexact Hlev
    iexact Hp
  iintro ⟨HO, Hp, -, Hpay⟩
  rw [hsem]
  ihave Hs := (Entails.of_eq (rest_dma I c y)) $$ Hpay
  imod (Rounds.cell_close ER (Rd I) (Set.mem_univ (K (c, some y))) (fun h => h) (R := 0 + 1) (duties_later I (cell (c, some y)))) $$ [Hp] with Hz
  · isplitr; · iexact Hi
    iexact Hp
  iapply Hk
  isplitl [Hs]; · iexact Hs
  isplitl [Hz]; · iexact Hz
  iexists _
  iexact HO

/-- A device sends a message of group `g` to the device `k + 1` places on: it lends the source and gives up the landing slot,
    and its due is paid. -/
theorem wp_hop (n : Dev nD) (g : Fin 5) (k : Fin 3) (hn : n = peer c k) (i : ℕ) (hi : dues.drop i = (some g, k) :: dues.drop (i + 1))
    {sS sR : DmaSem sig} (hsS : sS = sendS g k) (hsR : sR = recvS g k.rev) {s : Shape} {e : EltTy}
    (src dst : Memref sig .tc .vmem s e) (q : PosShare TreeShare) (X : s.Idx → Elt F e)
    (hN : dst.view.dmaCredit = amtG g) (hlent : atv c src q X = lent I c k g) (hland : atv (peer c k) dst fullShare X = landed I (peer c k) k.rev g)
    (hslot : slotv F (peer c k) k.rev g = anyv F (peer c k) dst)
    {hsc : dst.view.ref.isScScratch = false} {hsrc : src.view.WordExact} {hdst : dst.view.WordExact}
    {hsem : DmaTarget.Typed .vmem (.dma sR) (.remote (Dev.tc n : Thread nD τ) dst (.dma sS) hsc)}
    {kk : PUnit → Prog (TpuEff nD τ sig (Elt F) Λ₀ .tc) α} :
    iprop(recs I K ∗ sendTok F c g k ∗ owe F c i ∗ atv c src q X ∗ slotv F (peer c k) k.rev g)
      ⊢ iprop(((crd F c (some (false, g, k)) (amtG g) ∗ owe F c (i + 1)) -∗ WP c (kk ⟨⟩) Q)
          -∗ WP c (.op (.enqueueDma src (.remote (Dev.tc n : Thread nD τ) dst (.dma sS) hsc) (.dma sR) hsrc hdst hsem) kk) Q) := by
  subst hn hsS hsR
  rw [hslot]
  have hp1 : (atv c src q X : sProp (MM F)) ⊢ (Rd I).payload (cell (c, some (false, g, k))) 0 0 := by
    rw [payload_cell I (c, some (false, g, k)), hlent]; exact BI.Entails.refl _
  have hp2 : ∀ fd : Buf (Elt F) (dst.view.loc (peer c k : Thread nD τ)),
      (dst.view.loc (peer c k : Thread nD τ) ↦[dst.view.set]{fullShare} (dst.view.write (Elt F) fd (src.view.read (Elt F) (src.view.rep X)) Finset.univ) : sProp (MM F))
        ⊢ (Rd I).payload (cell (peer c k, some (true, g, k.rev))) 0 0 := fun fd => by
    rw [payload_cell I (peer c k, some (true, g, k.rev)), atv_of (peer c k) dst fullShare, View.read_write_univ, View.read_rep, hland]; exact BI.Entails.refl _
  unfold sendTok owe crd anyv
  rw [hi]
  iintro ⟨#HR, ⟨Ht1, Ht2⟩, ⟨%W, HO⟩, Hs, ⟨%fd, Hd⟩⟩ Hk
  ihave #Hc1 := (recs_cell I K (c, some (false, g, k))) $$ HR
  icases Hc1 with ⟨#Hi1, #Hr1⟩
  ihave #Hc2 := (recs_cell I K (peer c k, some (true, g, k.rev))) $$ HR
  icases Hc2 with ⟨#Hi2, #Hr2⟩
  unfold atv at hp1 ⊢
  iapply (Rounds.wp_send_pointsTo 𝒱₀ ER (Rd I) (c : Thread nD τ) none (c' := (peer c k : Thread nD τ)) (src := src) (dst := dst) (hsc := hsc)
      (sS := .dma (sendS g k)) (sem := .dma (recvS g k.rev)) (k := kk)
      (κ₁ := K (c, some (false, g, k))) (κ₂ := K (peer c k, some (true, g, k.rev)))
      (r₁ := 0) (r₂ := 0) (d₁ := 0) (d₂ := 0) (fd := fd) (fs := src.view.rep X) (q := q)
      (by rw [duties_cell I (c, some (false, g, k))]; exact Finset.mem_singleton_self _)
      (by rw [duties_cell I (peer c k, some (true, g, k.rev))]; exact Finset.mem_singleton_self _)
      () () (amtG g) hN (amount_cell I (c, some (false, g, k)) 0) (amount_cell I (peer c k, some (true, g, k.rev)) 0)
      (debt c (dues.drop (i + 1))) (debt_cons c (some g, k) _) (W := W) hp1 (hp2 fd)) $$ [HO Hs Hd Ht1 Ht2]
  · isplitr; · iexact Hi1
    isplitr; · iexact Hi2
    isplitl [Hs]; · iexact Hs
    isplitl [Hd]; · iexact Hd
    isplitl [HO]; · iexact HO
    isplitl [Ht1]; · iexact Ht1
    isplitr; · iexact Hr1
    isplitl [Ht2]; · iexact Ht2
    iexact Hr2
  iintro ⟨Hc, HO⟩
  iapply Hk
  isplitl [Hc]; · iexact Hc
  iexists W
  iexact HO

/-! ## Local copies -/

/-- A local copy in flight to `dst` on semaphore `sm`: on landing, `dst` holds `X` and the source is back. -/
def flying {sp sp' : Space} {s : Shape} {e : EltTy} (c : Dev nD) (sm : DmaSem sig) (dst : Memref sig .tc sp' s e) (X : s.Idx → Elt F e)
    (src : Memref sig .tc sp s e) (fs : Buf (Elt F) (src.view.loc (c : Thread nD τ))) : sProp (MM F) :=
  Transfers.Flight countersEmb (c : Thread nD τ) (SemLoc.dma sm) () dst.view.dmaCredit
    iprop(atv c dst fullShare X ∗ (src.view.loc (c : Thread nD τ) ↦[src.view.set]{fullShare} fs))

theorem wp_copy {sp sp' : Space} {s : Shape} {e : EltTy} (src : Memref sig .tc sp s e) (dst : Memref sig .tc sp' s e) {sm sm' : DmaSem sig} (hsm : sm = sm')
    (fs : Buf (Elt F) (src.view.loc (c : Thread nD τ))) {X : s.Idx → Elt F e} (hX : src.view.read (Elt F) fs = X) (h0 : 0 < dst.view.dmaCredit)
    {hsrc : src.view.WordExact} {hdst : dst.view.WordExact} {hsem : DmaTarget.Typed (nD := nD) (τ := τ) (p := Proc.tc) sp (.dma sm) (.here dst)}
    {kk : PUnit → Prog (TpuEff nD τ sig (Elt F) Λ₀ .tc) α} :
    iprop((src.view.loc (c : Thread nD τ) ↦[src.view.set]{fullShare} fs) ∗ anyv F c dst ∗ semVal ((c : Thread nD τ), .dma sm') 0)
      ⊢ iprop((flying c sm' dst X src fs -∗ WP c (kk ⟨⟩) Q) -∗ WP c (.op (.enqueueDma src (.here dst) (.dma sm) hsrc hdst hsem) kk) Q) := by
  subst hX hsm
  unfold anyv flying
  iintro ⟨Hs, ⟨%fd, Hd⟩, Hz⟩ Hk
  iapply (Transfers.wp_dmaLocal countersEmb 𝒱₀ (c : Thread nD τ) none (src := src) (dst := dst) (via := .same) (sm := .dma sm) (k := kk)
      (fs := fs) (fd := fd) (q := fullShare) (Sd := dst.view.set) () dst.view.dmaCredit rfl h0 subset_rfl) $$ [Hs Hd Hz]
  · isplitl [Hs]; · iexact Hs
    isplitl [Hd]; · iexact Hd
    iexact Hz
  have h := atv_of c dst fullShare (dst.view.write (Elt F) fd ((ReadAs.same (Val := Elt F)).apply (src.view.read (Elt F) fs)) Finset.univ)
  rw [View.read_write_univ] at h
  rw [h]
  iintro H
  iapply Hk
  iexact H

theorem wp_arrive {sp sp' : Space} {s : Shape} {e : EltTy} (src : Memref sig .tc sp s e) (dst : Memref sig .tc sp' s e) {sm sm' : DmaSem sig} (hsm : sm = sm')
    (fs : Buf (Elt F) (src.view.loc (c : Thread nD τ))) (X : s.Idx → Elt F e) (i : ℕ) (hlv : lv ((c : Thread nD τ), .dma sm') () = 0) (hl : ∀ z ∈ dues.drop i, 0 < lvDue z)
    {hsrc : src.view.WordExact} {hdst : dst.view.WordExact} {kk : PUnit → Prog (TpuEff nD τ sig (Elt F) Λ₀ .tc) α} :
    iprop(recs I K ∗ flying c sm' dst X src fs ∗ owe F c i)
      ⊢ iprop(((atv c dst fullShare X ∗ (src.view.loc (c : Thread nD τ) ↦[src.view.set]{fullShare} fs) ∗ semVal ((c : Thread nD τ), .dma sm') 0 ∗ owe F c i) -∗ WP c (kk ⟨⟩) Q)
        -∗ WP c (.op (.waitDma2 sm src dst hsrc hdst) kk) Q) := by
  subst hsm
  unfold flying owe
  iintro ⟨#HR, Hf, ⟨%W, HO⟩⟩ Hk
  ihave #Hlev := (recs_lev I K) $$ HR
  iapply (Transfers.wp_waitLocalO countersEmb 𝒱₀ (c : Thread nD τ) none (srcw := src) (dstw := dst) (k := kk) ()
    (rfl : dst.view.dmaCredit = _) (O := debt c (dues.drop i)) (W := W)) $$ [Hf HO]
  · isplitl [Hf]; · iexact Hf
    isplitl [HO]; · iexact HO
    iapply (mayWait_debt c (.dma sm) 0 hlv (dues.drop i) hl); iexact Hlev
  iintro ⟨⟨Hd, Hs⟩, Hz, HO⟩
  iapply Hk
  isplitl [Hd]; · iexact Hd
  isplitl [Hs]; · iexact Hs
  isplitl [Hz]; · iexact Hz
  iexists _
  iexact HO

end Cells

end Cert.Mlp

end
-- ==== Proof.Pieces.lean ====
/-
  The pieces of the body on the kernel's buffers: the body's parts applied to the buffers the launch gives them, and the
  accesses of each buffer's pieces.
-/
module

public import proofs.«01_k».proof.Proof.Rules

@[expose] public section

noncomputable section

namespace Cert.Mlp

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

universe u

/-- A part of the body on the buffers and semaphores the launch gives it. -/
abbrev on {α : Sort u} (p : ∀ (arg0 : Memref sig .tc .hbm S64x512 .f32) (harg0 : arg0.IsWhole) (arg1 : Memref sig .tc .hbm S512x1024 .f32) (harg1 : arg1.IsWhole) (arg2 : Memref sig .tc .hbm S1024x512 .f32) (harg2 : arg2.IsWhole) (arg3 : Memref sig .tc .hbm S512x1024 .f32) (harg3 : arg3.IsWhole) (arg4 : Memref sig .tc .hbm S1024x512 .f32) (harg4 : arg4.IsWhole) (arg5 : Memref sig .tc .hbm S512x1024 .f32) (harg5 : arg5.IsWhole) (arg6 : Memref sig .tc .hbm S1024x512 .f32) (harg6 : arg6.IsWhole) (arg7 : Memref sig .tc .vmem S16x512 .f32) (harg7 : arg7.IsWhole) (arg8 : Memref sig .tc .vmem S3x64x512 .bf16) (harg8 : arg8.IsWhole) (arg9 : Memref sig .tc .vmem S2x3x64x512 .bf16) (harg9 : arg9.IsWhole) (arg10 : Memref sig .tc .vmem S3x16x512 .bf16) (harg10 : arg10.IsWhole) (arg11 : Memref sig .tc .vmem S64x512 .f32) (harg11 : arg11.IsWhole) (arg12 : Memref sig .tc .vmem S3x512x1024 .f32) (harg12 : arg12.IsWhole) (arg13 : Memref sig .tc .vmem S3x1024x512 .f32) (harg13 : arg13.IsWhole) (arg14 : Memref sig .tc .vmem S3x512x1024 .bf16) (harg14 : arg14.IsWhole) (arg15 : Memref sig .tc .vmem S3x1024x512 .bf16) (harg15 : arg15.IsWhole) (arg16 : DmaSems sig S7) (arg17 : DmaSems sig S3x3x2) (arg18 : DmaSems sig S3x3x2), α) : α :=
  p (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (outM) (Memref.isWhole_whole _) (partM) (Memref.isWhole_whole _) (commM) (Memref.isWhole_whole _) (comm2M) (Memref.isWhole_whole _) (xM) (Memref.isWhole_whole _) (winsM) (Memref.isWhole_whole _) (woutsM) (Memref.isWhole_whole _) (winbM) (Memref.isWhole_whole _) (woutbM) (Memref.isWhole_whole _) cc0_scratch8 cc0_scratch9 cc0_scratch10

/-- The semaphores of the local copies. -/
abbrev wS (i : Fin 7) : DmaSem sig := ⟨1 + i.val, by revert i; decide⟩

theorem lv_wS (c : Dev nD) (i : Fin 7) : lv ((c : Thread nD τ), .dma (wS i)) () = 0 := by
  show (ciOf (.dma (wS i))).elim 0 lvCI = 0
  revert i; decide

/-- Local copy semaphore `i` of device `c` at zero. -/
abbrev wz (F : FTy → Type) (c : Dev nD) (i : Fin 7) : sProp (MM F) := semVal ((c : Thread nD τ), .dma (wS i)) 0

/-- The barrier semaphore, as the body passes it on. -/
abbrev barA : Sems sig S_ := SemArray.scalar (sig.barrier 0 rfl)

/-- The group of half `s` of layer `r`. -/
abbrev gOf (r s : Fin 2) : Fin 5 := ⟨2 * r.val + s.val, by omega⟩

theorem amtG_gOf (r s : Fin 2) : amtG (gOf r s) = N32 := by fin_cases r <;> fin_cases s <;> rfl

/-- Cell `y` of device `c` at zero. -/
abbrev cz (F : FTy → Type) (c : Dev nD) (y : CI) : sProp (MM F) := semVal (cell (c, y)) 0

/-- A local copy of a buffer with contents `X` in flight on copy semaphore `i`. -/
abbrev fly {sp sp' : Space} {s : Shape} {e : EltTy} (c : Dev nD) (i : Fin 7) (src : Memref sig .tc sp s e) (dst : Memref sig .tc sp' s e)
    (X : s.Idx → Elt F e) : sProp (MM F) := flying c (wS i) dst X src (src.view.rep X)

section Access

variable (c : Dev nD) {α : Type} {Q : α → sProp (MM F)}

/-- A return. -/
theorem wp_end (a : α) : Q a ⊢ WP c (.ret a) Q := by
  unfold WP
  rw [wp_ret]
  iintro H
  imodintro
  iexact H

variable {q : PosShare TreeShare}

theorem ld_wi (r : Fin 3) (X : S512x1024.Idx → Elt F .f32) {inb : ∀ a, (![r.val, 0, 0] : Fin 3 → ℕ) a + S1x512x1024.size a ≤ S3x512x1024.size a}
    {hl : winsM.view.LoadsAt (Rect.unit (s := S3x512x1024) ![r.val, 0, 0] S1x512x1024.size inb).toLoadRect}
    {k : (S1x512x1024.Idx → Elt F .f32) → Prog (TpuEff nD τ sig (Elt F) Λ₀ .tc) α} :
    atv c (wiV r) q X ⊢ iprop((atv c (wiV r) q X -∗ WP c (k (shapeCast S1x512x1024 X shapeCasts_S512x1024_S1x512x1024)) Q)
      -∗ WP c (.op (.load winsM (Rect.unit (s := S3x512x1024) ![r.val, 0, 0] S1x512x1024.size inb).toLoadRect hl) k) Q) :=
  wp_ld c winsM (Rect.unit (s := S3x512x1024) ![r.val, 0, 0] S1x512x1024.size inb) (fun _ => rfl) squeezes_S1x512x1024_S512x1024 q X
    shapeCasts_S512x1024_S1x512x1024 shapeCasts_S1x512x1024_S512x1024

theorem ld_wo (r : Fin 3) (X : S1024x512.Idx → Elt F .f32) {inb : ∀ a, (![r.val, 0, 0] : Fin 3 → ℕ) a + S1x1024x512.size a ≤ S3x1024x512.size a}
    {hl : woutsM.view.LoadsAt (Rect.unit (s := S3x1024x512) ![r.val, 0, 0] S1x1024x512.size inb).toLoadRect}
    {k : (S1x1024x512.Idx → Elt F .f32) → Prog (TpuEff nD τ sig (Elt F) Λ₀ .tc) α} :
    atv c (woV r) q X ⊢ iprop((atv c (woV r) q X -∗ WP c (k (shapeCast S1x1024x512 X shapeCasts_S1024x512_S1x1024x512)) Q)
      -∗ WP c (.op (.load woutsM (Rect.unit (s := S3x1024x512) ![r.val, 0, 0] S1x1024x512.size inb).toLoadRect hl) k) Q) :=
  wp_ld c woutsM (Rect.unit (s := S3x1024x512) ![r.val, 0, 0] S1x1024x512.size inb) (fun _ => rfl) squeezes_S1x1024x512_S1024x512 q X
    shapeCasts_S1024x512_S1x1024x512 shapeCasts_S1x1024x512_S1024x512

theorem ld_wib (r : Fin 3) (X : S512x1024.Idx → Elt F .bf16) {inb : ∀ a, (![r.val, 0, 0] : Fin 3 → ℕ) a + S1x512x1024.size a ≤ S3x512x1024.size a}
    {hl : winbM.view.LoadsAt (Rect.unit (s := S3x512x1024) ![r.val, 0, 0] S1x512x1024.size inb).toLoadRect}
    {k : (S1x512x1024.Idx → Elt F .bf16) → Prog (TpuEff nD τ sig (Elt F) Λ₀ .tc) α} :
    atv c (wibV r) q X ⊢ iprop((atv c (wibV r) q X -∗ WP c (k (shapeCast S1x512x1024 X shapeCasts_S512x1024_S1x512x1024)) Q)
      -∗ WP c (.op (.load winbM (Rect.unit (s := S3x512x1024) ![r.val, 0, 0] S1x512x1024.size inb).toLoadRect hl) k) Q) :=
  wp_ld c winbM (Rect.unit (s := S3x512x1024) ![r.val, 0, 0] S1x512x1024.size inb) (fun _ => rfl) squeezes_S1x512x1024_S512x1024 q X
    shapeCasts_S512x1024_S1x512x1024 shapeCasts_S1x512x1024_S512x1024

theorem la_wib (r : Fin 3) {inb : ∀ a, (![r.val, 0, 0] : Fin 3 → ℕ) a + S1x512x1024.size a ≤ S3x512x1024.size a}
    {hl : winbM.view.LoadsAt (Rect.unit (s := S3x512x1024) ![r.val, 0, 0] S1x512x1024.size inb).toLoadRect}
    {k : (S1x512x1024.Idx → Elt F .bf16) → Prog (TpuEff nD τ sig (Elt F) Λ₀ .tc) α} :
    anyv F c (wibV r) ⊢ iprop((∀ v, anyv F c (wibV r) -∗ WP c (k v) Q)
      -∗ WP c (.op (.load winbM (Rect.unit (s := S3x512x1024) ![r.val, 0, 0] S1x512x1024.size inb).toLoadRect hl) k) Q) :=
  wp_ldany c winbM (Rect.unit (s := S3x512x1024) ![r.val, 0, 0] S1x512x1024.size inb) (fun _ => rfl) squeezes_S1x512x1024_S512x1024

theorem st_wib (r : Fin 3) (Y : S512x1024.Idx → Elt F .bf16) {inb : ∀ a, (![r.val, 0, 0] : Fin 3 → ℕ) a + S1x512x1024.size a ≤ S3x512x1024.size a}
    {w : S1x512x1024.Idx → Elt F .bf16} (hw : w = shapeCast S1x512x1024 Y shapeCasts_S512x1024_S1x512x1024)
    {hx : (winbM.access (Rect.unit (s := S3x512x1024) ![r.val, 0, 0] S1x512x1024.size inb) : View sig .tc _ _ _).Stores Finset.univ}
    {hm : Finset.univ = Finset.univ ∨ ∀ a, (Rect.unit (s := S3x512x1024) ![r.val, 0, 0] S1x512x1024.size inb).stride a = 1}
    {k : PUnit → Prog (TpuEff nD τ sig (Elt F) Λ₀ .tc) α} :
    anyv F c (wibV r) ⊢ iprop((atv c (wibV r) fullShare Y -∗ WP c (k ⟨⟩) Q)
      -∗ WP c (.op (.store winbM (Rect.unit (s := S3x512x1024) ![r.val, 0, 0] S1x512x1024.size inb) w Finset.univ hx hm) k) Q) :=
  wp_st c winbM (Rect.unit (s := S3x512x1024) ![r.val, 0, 0] S1x512x1024.size inb) (fun _ => rfl) squeezes_S1x512x1024_S512x1024 Y
    shapeCasts_S512x1024_S1x512x1024 shapeCasts_S1x512x1024_S512x1024 hw

theorem ld_wob (r : Fin 3) (X : S1024x512.Idx → Elt F .bf16) {inb : ∀ a, (![r.val, 0, 0] : Fin 3 → ℕ) a + S1x1024x512.size a ≤ S3x1024x512.size a}
    {hl : woutbM.view.LoadsAt (Rect.unit (s := S3x1024x512) ![r.val, 0, 0] S1x1024x512.size inb).toLoadRect}
    {k : (S1x1024x512.Idx → Elt F .bf16) → Prog (TpuEff nD τ sig (Elt F) Λ₀ .tc) α} :
    atv c (wobV r) q X ⊢ iprop((atv c (wobV r) q X -∗ WP c (k (shapeCast S1x1024x512 X shapeCasts_S1024x512_S1x1024x512)) Q)
      -∗ WP c (.op (.load woutbM (Rect.unit (s := S3x1024x512) ![r.val, 0, 0] S1x1024x512.size inb).toLoadRect hl) k) Q) :=
  wp_ld c woutbM (Rect.unit (s := S3x1024x512) ![r.val, 0, 0] S1x1024x512.size inb) (fun _ => rfl) squeezes_S1x1024x512_S1024x512 q X
    shapeCasts_S1024x512_S1x1024x512 shapeCasts_S1x1024x512_S1024x512

theorem la_wob (r : Fin 3) {inb : ∀ a, (![r.val, 0, 0] : Fin 3 → ℕ) a + S1x1024x512.size a ≤ S3x1024x512.size a}
    {hl : woutbM.view.LoadsAt (Rect.unit (s := S3x1024x512) ![r.val, 0, 0] S1x1024x512.size inb).toLoadRect}
    {k : (S1x1024x512.Idx → Elt F .bf16) → Prog (TpuEff nD τ sig (Elt F) Λ₀ .tc) α} :
    anyv F c (wobV r) ⊢ iprop((∀ v, anyv F c (wobV r) -∗ WP c (k v) Q)
      -∗ WP c (.op (.load woutbM (Rect.unit (s := S3x1024x512) ![r.val, 0, 0] S1x1024x512.size inb).toLoadRect hl) k) Q) :=
  wp_ldany c woutbM (Rect.unit (s := S3x1024x512) ![r.val, 0, 0] S1x1024x512.size inb) (fun _ => rfl) squeezes_S1x1024x512_S1024x512

theorem st_wob (r : Fin 3) (Y : S1024x512.Idx → Elt F .bf16) {inb : ∀ a, (![r.val, 0, 0] : Fin 3 → ℕ) a + S1x1024x512.size a ≤ S3x1024x512.size a}
    {w : S1x1024x512.Idx → Elt F .bf16} (hw : w = shapeCast S1x1024x512 Y shapeCasts_S1024x512_S1x1024x512)
    {hx : (woutbM.access (Rect.unit (s := S3x1024x512) ![r.val, 0, 0] S1x1024x512.size inb) : View sig .tc _ _ _).Stores Finset.univ}
    {hm : Finset.univ = Finset.univ ∨ ∀ a, (Rect.unit (s := S3x1024x512) ![r.val, 0, 0] S1x1024x512.size inb).stride a = 1}
    {k : PUnit → Prog (TpuEff nD τ sig (Elt F) Λ₀ .tc) α} :
    anyv F c (wobV r) ⊢ iprop((atv c (wobV r) fullShare Y -∗ WP c (k ⟨⟩) Q)
      -∗ WP c (.op (.store woutbM (Rect.unit (s := S3x1024x512) ![r.val, 0, 0] S1x1024x512.size inb) w Finset.univ hx hm) k) Q) :=
  wp_st c woutbM (Rect.unit (s := S3x1024x512) ![r.val, 0, 0] S1x1024x512.size inb) (fun _ => rfl) squeezes_S1x1024x512_S1024x512 Y
    shapeCasts_S1024x512_S1x1024x512 shapeCasts_S1x1024x512_S1024x512 hw

theorem la_pc (r : Fin 3) (s : Fin 2) {inb : ∀ a, (![r.val, 32 * s.val, 0] : Fin 3 → ℕ) a + S1x32x512.size a ≤ S3x64x512.size a}
    {hl : partM.view.LoadsAt (Rect.unit (s := S3x64x512) ![r.val, 32 * s.val, 0] S1x32x512.size inb).toLoadRect}
    {k : (S1x32x512.Idx → Elt F .bf16) → Prog (TpuEff nD τ sig (Elt F) Λ₀ .tc) α} :
    anyv F c (pcV r s) ⊢ iprop((∀ v, anyv F c (pcV r s) -∗ WP c (k v) Q)
      -∗ WP c (.op (.load partM (Rect.unit (s := S3x64x512) ![r.val, 32 * s.val, 0] S1x32x512.size inb).toLoadRect hl) k) Q) :=
  wp_ldany c partM (Rect.unit (s := S3x64x512) ![r.val, 32 * s.val, 0] S1x32x512.size inb) (fun _ => rfl) squeezes_S1x32x512_S32x512

theorem st_pc (r : Fin 3) (s : Fin 2) (Y : S32x512.Idx → Elt F .bf16) {inb : ∀ a, (![r.val, 32 * s.val, 0] : Fin 3 → ℕ) a + S1x32x512.size a ≤ S3x64x512.size a}
    {w : S1x32x512.Idx → Elt F .bf16} (hw : w = shapeCast S1x32x512 Y shapeCasts_S32x512_S1x32x512)
    {hx : (partM.access (Rect.unit (s := S3x64x512) ![r.val, 32 * s.val, 0] S1x32x512.size inb) : View sig .tc _ _ _).Stores Finset.univ}
    {hm : Finset.univ = Finset.univ ∨ ∀ a, (Rect.unit (s := S3x64x512) ![r.val, 32 * s.val, 0] S1x32x512.size inb).stride a = 1}
    {k : PUnit → Prog (TpuEff nD τ sig (Elt F) Λ₀ .tc) α} :
    anyv F c (pcV r s) ⊢ iprop((atv c (pcV r s) fullShare Y -∗ WP c (k ⟨⟩) Q)
      -∗ WP c (.op (.store partM (Rect.unit (s := S3x64x512) ![r.val, 32 * s.val, 0] S1x32x512.size inb) w Finset.univ hx hm) k) Q) :=
  wp_st c partM (Rect.unit (s := S3x64x512) ![r.val, 32 * s.val, 0] S1x32x512.size inb) (fun _ => rfl) squeezes_S1x32x512_S32x512 Y
    shapeCasts_S32x512_S1x32x512 shapeCasts_S1x32x512_S32x512 hw

theorem ld_sl (r : Fin 2) (j : Fin 3) (s : Fin 2) (X : S32x512.Idx → Elt F .bf16)
    {inb : ∀ a, (![r.val, j.val, 32 * s.val, 0] : Fin 4 → ℕ) a + S1x1x32x512.size a ≤ S2x3x64x512.size a}
    {hl : commM.view.LoadsAt (Rect.unit (s := S2x3x64x512) ![r.val, j.val, 32 * s.val, 0] S1x1x32x512.size inb).toLoadRect}
    {k : (S1x1x32x512.Idx → Elt F .bf16) → Prog (TpuEff nD τ sig (Elt F) Λ₀ .tc) α} :
    atv c (slV r j s) q X ⊢ iprop((atv c (slV r j s) q X -∗ WP c (k (shapeCast S1x1x32x512 X (show S32x512.ShapeCasts S1x1x32x512 by decide))) Q)
      -∗ WP c (.op (.load commM (Rect.unit (s := S2x3x64x512) ![r.val, j.val, 32 * s.val, 0] S1x1x32x512.size inb).toLoadRect hl) k) Q) :=
  wp_ld c commM (Rect.unit (s := S2x3x64x512) ![r.val, j.val, 32 * s.val, 0] S1x1x32x512.size inb) (fun _ => rfl) squeezes_S1x1x32x512_S32x512 q X
    (show S32x512.ShapeCasts S1x1x32x512 by decide) shapeCasts_S1x1x32x512_S32x512

theorem ld_s2 (j : Fin 3) (X : S16x512.Idx → Elt F .bf16) {inb : ∀ a, (![j.val, 0, 0] : Fin 3 → ℕ) a + S1x16x512.size a ≤ S3x16x512.size a}
    {hl : comm2M.view.LoadsAt (Rect.unit (s := S3x16x512) ![j.val, 0, 0] S1x16x512.size inb).toLoadRect}
    {k : (S1x16x512.Idx → Elt F .bf16) → Prog (TpuEff nD τ sig (Elt F) Λ₀ .tc) α} :
    atv c (s2V j) q X ⊢ iprop((atv c (s2V j) q X -∗ WP c (k (shapeCast S1x16x512 X (show S16x512.ShapeCasts S1x16x512 by decide))) Q)
      -∗ WP c (.op (.load comm2M (Rect.unit (s := S3x16x512) ![j.val, 0, 0] S1x16x512.size inb).toLoadRect hl) k) Q) :=
  wp_ld c comm2M (Rect.unit (s := S3x16x512) ![j.val, 0, 0] S1x16x512.size inb) (fun _ => rfl) squeezes_S1x16x512_S16x512 q X
    (show S16x512.ShapeCasts S1x16x512 by decide) shapeCasts_S1x16x512_S16x512

/-- A local copy of a whole buffer is started. -/
theorem cp {sp sp' : Space} {s : Shape} {e : EltTy} (i : Fin 7) (src : Memref sig .tc sp s e) (dst : Memref sig .tc sp' s e) (X : s.Idx → Elt F e)
    {sm : DmaSem sig} (hsm : sm = wS i) (h0 : 0 < dst.view.dmaCredit)
    {hsrc : src.view.WordExact} {hdst : dst.view.WordExact} {hsem : DmaTarget.Typed (nD := nD) (τ := τ) (p := Proc.tc) sp (.dma sm) (.here dst)}
    {k : PUnit → Prog (TpuEff nD τ sig (Elt F) Λ₀ .tc) α} :
    iprop(atv c src fullShare X ∗ anyv F c dst ∗ wz F c i)
      ⊢ iprop((fly c i src dst X -∗ WP c (k ⟨⟩) Q) -∗ WP c (.op (.enqueueDma src (.here dst) (.dma sm) hsrc hdst hsem) k) Q) :=
  wp_copy c src dst hsm (src.view.rep X) (View.read_rep _ _) h0

end Access

section Cells

variable (I : Dev nD → Ins F) (K : Dev nD × CI → ℕ) (c : Dev nD) {α : Type} {Q : α → sProp (MM F)}

/-- A local copy lands. -/
theorem ar {sp sp' : Space} {s : Shape} {e : EltTy} (i : Fin 7) (n : ℕ) (src : Memref sig .tc sp s e) (dst : Memref sig .tc sp' s e) (X : s.Idx → Elt F e)
    {sm : DmaSem sig} (hsm : sm = wS i) (hl : ∀ z ∈ dues.drop n, 0 < lvDue z)
    {hsrc : src.view.WordExact} {hdst : dst.view.WordExact} {k : PUnit → Prog (TpuEff nD τ sig (Elt F) Λ₀ .tc) α} :
    iprop(recs I K ∗ fly c i src dst X ∗ owe F c n)
      ⊢ iprop(((atv c dst fullShare X ∗ atv c src fullShare X ∗ wz F c i ∗ owe F c n) -∗ WP c (k ⟨⟩) Q)
        -∗ WP c (.op (.waitDma2 sm src dst hsrc hdst) k) Q) :=
  wp_arrive I K c src dst hsm (src.view.rep X) X n (lv_wS c i) hl

/-- A device sends half `s` of layer `r` to the device `k + 1` places on. -/
theorem hop_pc (r s : Fin 2) (k : Fin 3) (n : ℕ) (hi : dues.drop n = (some (gOf r s), k) :: dues.drop (n + 1)) {d : Dev nD} (hd : d = peer c k)
    {sS sR : DmaSem sig} (hsS : sS = sendS (gOf r s) k) (hsR : sR = recvS (gOf r s) k.rev)
    {hsc : (slV r k.rev s).view.ref.isScScratch = false} {hsrc : (pcV r.castSucc s).view.WordExact} {hdst : (slV r k.rev s).view.WordExact}
    {hsem : DmaTarget.Typed .vmem (.dma sR) (.remote (Dev.tc d : Thread nD τ) (slV r k.rev s) (.dma sS) hsc)}
    {kk : PUnit → Prog (TpuEff nD τ sig (Elt F) Λ₀ .tc) α} :
    iprop(recs I K ∗ sendTok F c (gOf r s) k ∗ owe F c n ∗ atv c (pcV r.castSucc s) (third k) (blk I r.castSucc s c) ∗ anyv F (peer c k) (slV r k.rev s))
      ⊢ iprop(((crd F c (some (false, gOf r s, k)) N32 ∗ owe F c (n + 1)) -∗ WP c (kk ⟨⟩) Q)
          -∗ WP c (.op (.enqueueDma (pcV r.castSucc s) (.remote (Dev.tc d : Thread nD τ) (slV r k.rev s) (.dma sS) hsc) (.dma sR) hsrc hdst hsem) kk) Q) := by
  have hlent : atv c (pcV r.castSucc s) (third k) (blk I r.castSucc s c) = lent I c k (gOf r s) := by fin_cases r <;> fin_cases s <;> rfl
  have hland : atv (peer c k) (slV r k.rev s) fullShare (blk I r.castSucc s c) = landed I (peer c k) k.rev (gOf r s) := by
    rw [show blk I r.castSucc s c = blk I r.castSucc s (peer (peer c k) k.rev) by rw [peer_rev]]
    fin_cases r <;> fin_cases s <;> rfl
  have hslot : slotv F (peer c k) k.rev (gOf r s) = anyv F (peer c k) (slV r k.rev s) := by fin_cases r <;> fin_cases s <;> rfl
  have h := wp_hop I K c (Q := Q) d (gOf r s) k hd n hi hsS hsR (pcV r.castSucc s) (slV r k.rev s) (third k) (blk I r.castSucc s c)
    ((show (slV r k.rev s).view.dmaCredit = N32 from rfl).trans (amtG_gOf r s).symm) hlent hland hslot (hsc := hsc) (hsrc := hsrc) (hdst := hdst) (hsem := hsem) (kk := kk)
  rw [hslot, amtG_gOf] at h
  exact h

/-- A device waits for half `s` of layer `r` of the device `j + 1` places on. -/
theorem take_sl (r s : Fin 2) (j : Fin 3) (n : ℕ) (hl : ∀ z ∈ dues.drop n, lvCI (some (true, gOf r s, j)) < lvDue z) {sem : DmaSem sig}
    (hsem : sem = recvS (gOf r s) j) {sp' : Space} {s' : Shape} {e' : EltTy} {srcw : Memref sig .tc sp' s' e'}
    {hsrc : srcw.view.WordExact} {hdst : (slV r j s).view.WordExact} {kk : PUnit → Prog (TpuEff nD τ sig (Elt F) Λ₀ .tc) α} :
    iprop(recs I K ∗ posAt F c (some (true, gOf r s, j)) ∗ crd F c (some (true, gOf r s, j)) N32 ∗ owe F c n)
      ⊢ iprop(((atv c (slV r j s) fullShare (blk I r.castSucc s (peer c j)) ∗ cz F c (some (true, gOf r s, j)) ∗ owe F c n) -∗ WP c (kk ⟨⟩) Q)
          -∗ WP c (.op (.waitDma2 sem srcw (slV r j s) hsrc hdst) kk) Q) := by
  have hp : pay I c 0 (some (true, gOf r s, j)) = atv c (slV r j s) fullShare (blk I r.castSucc s (peer c j)) := by
    fin_cases r <;> fin_cases s <;> rfl
  have h := wp_take I K c (Q := Q) (true, gOf r s, j) n hl (congrArg SemLoc.dma hsem)
    (hN := (show (slV r j s).view.dmaCredit = N32 from rfl).trans (amtG_gOf r s).symm) (srcw := srcw) (hsrc := hsrc) (hdst := hdst) (kk := kk)
  rw [hp, amtG_gOf] at h
  exact h

/-- A device waits for its own send of half `s` of layer `r` to the device `k + 1` places on. -/
theorem take_pc (r s : Fin 2) (k : Fin 3) (n : ℕ) (hl : ∀ z ∈ dues.drop n, lvCI (some (false, gOf r s, k)) < lvDue z) {sem : DmaSem sig}
    (hsem : sem = sendS (gOf r s) k) {sp' : Space} {s' : Shape} {e' : EltTy} {srcw : Memref sig .tc sp' s' e'}
    {hsrc : srcw.view.WordExact} {hdst : (pcV r.castSucc s).view.WordExact} {kk : PUnit → Prog (TpuEff nD τ sig (Elt F) Λ₀ .tc) α} :
    iprop(recs I K ∗ posAt F c (some (false, gOf r s, k)) ∗ crd F c (some (false, gOf r s, k)) N32 ∗ owe F c n)
      ⊢ iprop(((atv c (pcV r.castSucc s) (third k) (blk I r.castSucc s c) ∗ cz F c (some (false, gOf r s, k)) ∗ owe F c n) -∗ WP c (kk ⟨⟩) Q)
          -∗ WP c (.op (.waitDma2 sem srcw (pcV r.castSucc s) hsrc hdst) kk) Q) := by
  have hp : pay I c 0 (some (false, gOf r s, k)) = atv c (pcV r.castSucc s) (third k) (blk I r.castSucc s c) := by
    fin_cases r <;> fin_cases s <;> rfl
  have h := wp_take I K c (Q := Q) (false, gOf r s, k) n hl (congrArg SemLoc.dma hsem)
    (hN := (show (pcV r.castSucc s).view.dmaCredit = N32 from rfl).trans (amtG_gOf r s).symm) (srcw := srcw) (hsrc := hsrc) (hdst := hdst) (kk := kk)
  rw [hp, amtG_gOf] at h
  exact h

/-- Rows of the send buffer at an offset a word computes. -/
abbrev rwAt (off : Fin 3 → ℕ) (inb : ∀ a, off a + S1x16x512.size a ≤ S3x64x512.size a) : Memref sig .tc .vmem S16x512 .bf16 :=
  (partM.slice (Rect.unit (s := S3x64x512) off S1x16x512.size inb) (fun _ => rfl)).squeeze S16x512 squeezes_S1x16x512_S16x512

/-- A device sends the last layer's rows of the device `k + 1` places on to it. -/
theorem hop_rw (k : Fin 3) (n : ℕ) (hi : dues.drop n = (some 4, k) :: dues.drop (n + 1)) {d : Dev nD} (hd : d = peer c k)
    {off : Fin 3 → ℕ} (hoff : off = ![2, 16 * (peer c k).val, 0]) {inb : ∀ a, off a + S1x16x512.size a ≤ S3x64x512.size a}
    {sS sR : DmaSem sig} (hsS : sS = sendS 4 k) (hsR : sR = recvS 4 k.rev)
    {hsc : (s2V k.rev).view.ref.isScScratch = false} {hsrc : (rwAt off inb).view.WordExact} {hdst : (s2V k.rev).view.WordExact}
    {hsem : DmaTarget.Typed .vmem (.dma sR) (.remote (Dev.tc d : Thread nD τ) (s2V k.rev) (.dma sS) hsc)}
    {kk : PUnit → Prog (TpuEff nD τ sig (Elt F) Λ₀ .tc) α} :
    iprop(recs I K ∗ sendTok F c 4 k ∗ owe F c n ∗ atv c (rwV (peer c k)) fullShare (rows I (peer c k) c) ∗ anyv F (peer c k) (s2V k.rev))
      ⊢ iprop(((crd F c (some (false, 4, k)) N16 ∗ owe F c (n + 1)) -∗ WP c (kk ⟨⟩) Q)
          -∗ WP c (.op (.enqueueDma (rwAt off inb) (.remote (Dev.tc d : Thread nD τ) (s2V k.rev) (.dma sS) hsc) (.dma sR) hsrc hdst hsem) kk) Q) := by
  subst hoff
  exact wp_hop I K c (Q := Q) d 4 k hd n hi hsS hsR (rwV (peer c k)) (s2V k.rev) fullShare (rows I (peer c k) c) rfl rfl
    (by show atv _ _ _ _ = atv (peer c k) (s2V k.rev) fullShare (rows I (peer c k) (peer (peer c k) k.rev)); rw [peer_rev]) rfl
    (hsc := hsc) (hsrc := hsrc) (hdst := hdst) (hsem := hsem) (kk := kk)

/-- A device waits for its rows of the device `j + 1` places on. -/
theorem take_s2 (j : Fin 3) (n : ℕ) (hl : ∀ z ∈ dues.drop n, lvCI (some (true, 4, j)) < lvDue z) {sem : DmaSem sig}
    (hsem : sem = recvS 4 j) {sp' : Space} {s' : Shape} {e' : EltTy} {srcw : Memref sig .tc sp' s' e'}
    {hsrc : srcw.view.WordExact} {hdst : (s2V j).view.WordExact} {kk : PUnit → Prog (TpuEff nD τ sig (Elt F) Λ₀ .tc) α} :
    iprop(recs I K ∗ posAt F c (some (true, 4, j)) ∗ crd F c (some (true, 4, j)) N16 ∗ owe F c n)
      ⊢ iprop(((atv c (s2V j) fullShare (rows I c (peer c j)) ∗ cz F c (some (true, 4, j)) ∗ owe F c n) -∗ WP c (kk ⟨⟩) Q)
          -∗ WP c (.op (.waitDma2 sem srcw (s2V j) hsrc hdst) kk) Q) :=
  wp_take I K c (Q := Q) (true, 4, j) n hl (congrArg SemLoc.dma hsem) (hN := rfl) (srcw := srcw) (hsrc := hsrc) (hdst := hdst) (kk := kk)

/-- A device waits for its own send of the last layer's rows to the device `k + 1` places on. -/
theorem take_rw (k : Fin 3) (n : ℕ) (hl : ∀ z ∈ dues.drop n, lvCI (some (false, 4, k)) < lvDue z) {off : Fin 3 → ℕ} {inb : ∀ a, off a + S1x16x512.size a ≤ S3x64x512.size a}
    {sem : DmaSem sig} (hsem : sem = sendS 4 k) {sp' : Space} {s' : Shape} {e' : EltTy} {srcw : Memref sig .tc sp' s' e'}
    {hsrc : srcw.view.WordExact} {hdst : (rwAt off inb).view.WordExact} {kk : PUnit → Prog (TpuEff nD τ sig (Elt F) Λ₀ .tc) α} :
    iprop(recs I K ∗ posAt F c (some (false, 4, k)) ∗ crd F c (some (false, 4, k)) N16 ∗ owe F c n)
      ⊢ iprop(((atv c (rwV (peer c k)) fullShare (rows I (peer c k) c) ∗ cz F c (some (false, 4, k)) ∗ owe F c n) -∗ WP c (kk ⟨⟩) Q)
          -∗ WP c (.op (.waitDma2 sem srcw (rwAt off inb) hsrc hdst) kk) Q) :=
  wp_take I K c (Q := Q) (false, 4, k) n hl (congrArg SemLoc.dma hsem) (hN := rfl) (srcw := srcw) (hsrc := hsrc) (hdst := hdst) (kk := kk)

end Cells

end Cert.Mlp

end
-- ==== Proof.Payloads.lean ====
/-
  What the body's payloads are: the weights, layers and sums of the values.
-/
module

public import proofs.«01_k».proof.Proof.Pieces

@[expose] public section

noncomputable section

namespace Cert.Mlp

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Payloads as the values -/

abbrev cWi {e : FTy} (X : FVec F S512x1024 e) : FVec F S1x512x1024 e := shapeCast S1x512x1024 X shapeCasts_S512x1024_S1x512x1024
abbrev cWo {e : FTy} (X : FVec F S1024x512 e) : FVec F S1x1024x512 e := shapeCast S1x1024x512 X shapeCasts_S1024x512_S1x1024x512
abbrev cPc {e : FTy} (X : FVec F S32x512 e) : FVec F S1x32x512 e := shapeCast S1x32x512 X shapeCasts_S32x512_S1x32x512
abbrev cSl {e : FTy} (X : FVec F S32x512 e) : FVec F S1x1x32x512 e := shapeCast S1x1x32x512 X (show S32x512.ShapeCasts S1x1x32x512 by decide)
abbrev cS2 {e : FTy} (X : FVec F S16x512 e) : FVec F S1x16x512 e := shapeCast S1x16x512 X (show S16x512.ShapeCasts S1x16x512 by decide)

abbrev ex (b : FVec F S32x512 .bf16) : FVec F S32x512 .f32 := extf .f32 b bitsLt_bf16_f32
abbrev ex2 (b : FVec F S16x512 .bf16) : FVec F S16x512 .f32 := extf .f32 b bitsLt_bf16_f32

/-- A layer of `a` with the weights `w` and `v`. -/
abbrev lay (a : FVec F S32x512 .bf16) (w : FVec F S512x1024 .bf16) (v : FVec F S1024x512 .bf16) : FVec F S32x512 .f32 :=
  dotOut (truncf .bf16 (relu (dotIn a w)) bitsLt_bf16_f32) v

section

variable (X : FVec F S64x512 .f32) (A : FVec F S512x1024 .f32) (B : FVec F S1024x512 .f32) (w : FVec F S512x1024 .bf16) (v : FVec F S1024x512 .bf16)
  (p q : FVec F S32x512 .f32) (a b : FVec F S32x512 .bf16) (h : FVec F S32x1024 .f32)

theorem v2 : k0_pay2 (cWi A) = cWi (truncf .bf16 A bitsLt_bf16_f32) := by
  unfold k0_pay2
  simp only [cWi, cWo, cPc, cSl, cS2, shapeCast_shapeCast]
  try rfl

theorem v9 : k0_pay9 (cWi A) = cWi (truncf .bf16 A bitsLt_bf16_f32) := by
  unfold k0_pay9
  simp only [cWi, cWo, cPc, cSl, cS2, shapeCast_shapeCast]
  try rfl

theorem v3 : k0_pay3 (cWo B) = cWo (truncf .bf16 B bitsLt_bf16_f32) := by
  unfold k0_pay3
  simp only [cWi, cWo, cPc, cSl, cS2, shapeCast_shapeCast]
  try rfl

theorem v10 : k0_pay10 (cWo B) = cWo (truncf .bf16 B bitsLt_bf16_f32) := by
  unfold k0_pay10
  simp only [cWi, cWo, cPc, cSl, cS2, shapeCast_shapeCast]
  try rfl

theorem v22 : k0_pay22 (cWo B) = cWo (truncf .bf16 B bitsLt_bf16_f32) := by
  unfold k0_pay22
  simp only [cWi, cWo, cPc, cSl, cS2, shapeCast_shapeCast]
  try rfl

theorem v20 : k0_pay20 (cWi A) = truncf .bf16 A bitsLt_bf16_f32 := by
  unfold k0_pay20
  simp only [cWi, cWo, cPc, cSl, cS2, shapeCast_shapeCast]
  try rfl

theorem v21 : k0_pay21 w = cWi w := rfl

theorem v4 : k0_pay4 (k0_pay1 X) (cWi w) (cWo v) = lay (extractStridedSlice S32x512 ![0, 0] (truncf .bf16 X bitsLt_bf16_f32) slices_S64x512_o0_0_S32x512) w v := by
  unfold k0_pay4 k0_pay1
  simp only [cWi, cWo, cPc, cSl, cS2, shapeCast_shapeCast]
  try rfl

theorem v5 : k0_pay5 (k0_pay1 X) (cWi w) (cWo v) = cPc (truncf .bf16 (lay (extractStridedSlice S32x512 ![0, 0] (truncf .bf16 X bitsLt_bf16_f32) slices_S64x512_o0_0_S32x512) w v) bitsLt_bf16_f32) := by
  unfold k0_pay5
  rw [v4]

theorem v6 : k0_pay6 (k0_pay1 X) (cWi w) = dotIn (extractStridedSlice S32x512 ![32, 0] (truncf .bf16 X bitsLt_bf16_f32) slices_S64x512_o32_0_S32x512) w := by
  unfold k0_pay6 k0_pay1
  simp only [cWi, cWo, cPc, cSl, cS2, shapeCast_shapeCast]
  try rfl

theorem v7 : k0_pay7 h (Scalar.ofBits .f32 0x00000000#32) (cWo v) = dotOut (truncf .bf16 (relu h) bitsLt_bf16_f32) v := by
  unfold k0_pay7
  simp only [cWi, cWo, cPc, cSl, cS2, shapeCast_shapeCast]
  try rfl

theorem v8 : k0_pay8 h (Scalar.ofBits .f32 0x00000000#32) (cWo v) = cPc (truncf .bf16 (dotOut (truncf .bf16 (relu h) bitsLt_bf16_f32) v) bitsLt_bf16_f32) := by
  unfold k0_pay8
  rw [v7]

theorem v11 : k0_pay11 p (cSl b) = addf p (ex b) := by
  unfold k0_pay11
  simp only [cWi, cWo, cPc, cSl, cS2, shapeCast_shapeCast]
  try rfl

theorem v23 : k0_pay23 p (cSl b) = addf p (ex b) := by
  unfold k0_pay23
  simp only [cWi, cWo, cPc, cSl, cS2, shapeCast_shapeCast]
  try rfl

theorem v24 : k0_pay24 p (cSl b) = addf p (ex b) := by
  unfold k0_pay24
  simp only [cWi, cWo, cPc, cSl, cS2, shapeCast_shapeCast]
  try rfl

theorem v12 : k0_pay12 p (cSl a) (cSl b) (cWi w) = dotIn (truncf .bf16 (addf (addf p (ex a)) (ex b)) bitsLt_bf16_f32) w := by
  unfold k0_pay12
  simp only [cWi, cWo, cPc, cSl, cS2, shapeCast_shapeCast]
  try rfl

theorem v14 : k0_pay14 h k0_pay13 (cWo v) = dotOut (truncf .bf16 (relu h) bitsLt_bf16_f32) v := by
  unfold k0_pay14 k0_pay13
  simp only [cWi, cWo, cPc, cSl, cS2, shapeCast_shapeCast]
  try rfl

theorem v15 : k0_pay15 h k0_pay13 (cWo v) = cPc (truncf .bf16 (dotOut (truncf .bf16 (relu h) bitsLt_bf16_f32) v) bitsLt_bf16_f32) := by
  unfold k0_pay15
  rw [v14]

theorem v16 : k0_pay16 (cSl b) = ex b := by
  unfold k0_pay16
  simp only [cWi, cWo, cPc, cSl, cS2, shapeCast_shapeCast]
  try rfl

theorem v17 : k0_pay17 p q (cSl b) = addf (addf p q) (ex b) := by
  unfold k0_pay17
  simp only [cWi, cWo, cPc, cSl, cS2, shapeCast_shapeCast]
  try rfl

theorem v18 : k0_pay18 p (cSl b) (cWi w) (cWo v) = lay (truncf .bf16 (addf p (ex b)) bitsLt_bf16_f32) w v := by
  unfold k0_pay18
  simp only [cWi, cWo, cPc, cSl, cS2, shapeCast_shapeCast]
  try rfl

theorem v19 : k0_pay19 p (cSl b) (cWi w) (cWo v) = cPc (truncf .bf16 (lay (truncf .bf16 (addf p (ex b)) bitsLt_bf16_f32) w v) bitsLt_bf16_f32) := by
  unfold k0_pay19
  rw [v18]

theorem v25 : k0_pay25 p (cSl b) (cWi w) (cWo v) = cPc (truncf .bf16 (lay (truncf .bf16 (addf p (ex b)) bitsLt_bf16_f32) w v) bitsLt_bf16_f32) := by
  unfold k0_pay25
  simp only [cWi, cWo, cPc, cSl, cS2, shapeCast_shapeCast]
  try rfl

theorem v27 : k0_pay27 p (cSl b) (cWi w) (cWo v) = cPc (truncf .bf16 (lay (truncf .bf16 (addf p (ex b)) bitsLt_bf16_f32) w v) bitsLt_bf16_f32) := by
  unfold k0_pay27
  simp only [cWi, cWo, cPc, cSl, cS2, shapeCast_shapeCast]
  try rfl

theorem v26 : k0_pay26 p (cSl a) (cSl b) = addf (addf p (ex a)) (ex b) := by
  unfold k0_pay26
  simp only [cWi, cWo, cPc, cSl, cS2, shapeCast_shapeCast]
  try rfl

variable (r r' : FVec F S16x512 .bf16) (o : FVec F S16x512 .f32)

theorem v28 : k0_pay28 (cS2 r) = ex2 r := by
  unfold k0_pay28
  simp only [cWi, cWo, cPc, cSl, cS2, shapeCast_shapeCast]
  try rfl

theorem v29 : k0_pay29 o (cS2 r) (cS2 r') = addf (addf o (ex2 r)) (ex2 r') := by
  unfold k0_pay29
  simp only [cWi, cWo, cPc, cSl, cS2, shapeCast_shapeCast]
  try rfl

theorem v30 : k0_pay30 o (cS2 r) = addf o (ex2 r) := by
  unfold k0_pay30
  simp only [cWi, cWo, cPc, cSl, cS2, shapeCast_shapeCast]
  try rfl

end

/-! ## Devices and offsets -/

theorem dev1 (c : Dev nD) : (⟨k0_dev1 c, k0_dev1_lt c⟩ : Dev nD) = peer c 0 := by revert c; decide +kernel
theorem dev2 (c : Dev nD) : (⟨k0_dev2 c, k0_dev2_lt c⟩ : Dev nD) = peer c 1 := by revert c; decide +kernel
theorem dev3 (c : Dev nD) : (⟨k0_dev3 c, k0_dev3_lt c⟩ : Dev nD) = peer c 2 := by revert c; decide +kernel
theorem dev4 (c : Dev nD) : (⟨k0_dev4 c, k0_dev4_lt c⟩ : Dev nD) = peer c 1 := by revert c; decide +kernel
theorem dev5 (c : Dev nD) : (⟨k0_dev5 c, k0_dev5_lt c⟩ : Dev nD) = peer c 0 := by revert c; decide +kernel
theorem dev6 (c : Dev nD) : (⟨k0_dev6 c, k0_dev6_lt c⟩ : Dev nD) = peer c 2 := by revert c; decide +kernel
theorem dev7 (c : Dev nD) : (⟨k0_dev7 c, k0_dev7_lt c⟩ : Dev nD) = peer c 1 := by revert c; decide +kernel
theorem dev8 (c : Dev nD) : (⟨k0_dev8 c, k0_dev8_lt c⟩ : Dev nD) = peer c 0 := by revert c; decide +kernel
theorem dev9 (c : Dev nD) : (⟨k0_dev9 c, k0_dev9_lt c⟩ : Dev nD) = peer c 2 := by revert c; decide +kernel
theorem dev10 (c : Dev nD) : (⟨k0_dev10 c, k0_dev10_lt c⟩ : Dev nD) = peer c 1 := by revert c; decide +kernel
theorem dev11 (c : Dev nD) : (⟨k0_dev11 c, k0_dev11_lt c⟩ : Dev nD) = peer c 0 := by revert c; decide +kernel
theorem dev12 (c : Dev nD) : (⟨k0_dev12 c, k0_dev12_lt c⟩ : Dev nD) = peer c 2 := by revert c; decide +kernel
theorem dev13 (c : Dev nD) : (⟨k0_dev13 c, k0_dev13_lt c⟩ : Dev nD) = peer c 1 := by revert c; decide +kernel
theorem dev14 (c : Dev nD) : (⟨k0_dev14 c, k0_dev14_lt c⟩ : Dev nD) = peer c 0 := by revert c; decide +kernel
theorem dev15 (c : Dev nD) : (⟨k0_dev15 c, k0_dev15_lt c⟩ : Dev nD) = peer c 2 := by revert c; decide +kernel
theorem dev16 (c : Dev nD) : (⟨k0_dev16 c, k0_dev16_lt c⟩ : Dev nD) = peer c 1 := by revert c; decide +kernel
theorem dev17 (c : Dev nD) : (⟨k0_dev17 c, k0_dev17_lt c⟩ : Dev nD) = peer c 0 := by revert c; decide +kernel
theorem dev18 (c : Dev nD) : (⟨k0_dev18 c, k0_dev18_lt c⟩ : Dev nD) = peer c 2 := by revert c; decide +kernel
theorem off1_0 (c : Dev nD) : k0_off1 c 1#32 = ![2, 16 * (peer c 0).val, 0] := by revert c; decide +kernel
theorem off1_1 (c : Dev nD) : k0_off1 c 2#32 = ![2, 16 * (peer c 1).val, 0] := by revert c; decide +kernel
theorem off1_2 (c : Dev nD) : k0_off1 c 3#32 = ![2, 16 * (peer c 2).val, 0] := by revert c; decide +kernel

/-! ## The whole buffers -/

section

variable (c : Dev nD) {α : Type} {Q : α → sProp (MM F)}

variable {s : Shape} {e : EltTy} (M : Memref sig .tc .vmem s e) {off : Fin s.rank → ℕ} (hz : ∀ a, off a = 0) {inb : ∀ a, off a + s.size a ≤ s.size a}

include hz in
theorem emb_all (y : s.Idx) : (Rect.unit off s.size inb).emb y = y := by
  funext a
  refine Fin.ext ?_
  show off a + 1 * (y a).val = (y a).val
  rw [hz a, Nat.zero_add, Nat.one_mul]

include hz in
/-- A load of a whole piece. -/
theorem ld_all (q : PosShare TreeShare) (X : s.Idx → Elt F e) {hl : M.view.LoadsAt (Rect.unit off s.size inb).toLoadRect}
    {k : (s.Idx → Elt F e) → Prog (TpuEff nD τ sig (Elt F) Λ₀ .tc) α} :
    atv c M q X ⊢ iprop((atv c M q X -∗ WP c (k X) Q) -∗ WP c (.op (.load M (Rect.unit off s.size inb).toLoadRect hl) k) Q) :=
  wp_ldwhole c M q X (Rect.unit off s.size inb) (funext fun y => congrArg X (emb_all hz y))

include hz in
/-- A load of a whole piece before anything is kept in it. -/
theorem la_all {hl : M.view.LoadsAt (Rect.unit off s.size inb).toLoadRect} {k : (s.Idx → Elt F e) → Prog (TpuEff nD τ sig (Elt F) Λ₀ .tc) α} :
    anyv F c M ⊢ iprop((∀ v, anyv F c M -∗ WP c (k v) Q) -∗ WP c (.op (.load M (Rect.unit off s.size inb).toLoadRect hl) k) Q) := by
  unfold anyv
  iintro ⟨%f, H⟩ Hk
  iapply (wp_load 𝒱₀ (c : Thread nD τ) none Set.univ (m := M) (r := (Rect.unit off s.size inb).toLoadRect) (hl := hl) (f := f) (q := fullShare)
    (S := M.view.set) (View.setOn_subset_set _ _)) $$ [H]
  · iexact H
  iintro H
  iapply Hk
  iexists f
  iexact H

include hz in
/-- A store of a whole piece. -/
theorem st_all (Y : s.Idx → Elt F e) {w : s.Idx → Elt F e} (hw : w = Y)
    {hx : (M.access (Rect.unit off s.size inb) : View sig .tc _ _ _).Stores Finset.univ}
    {hm : Finset.univ = Finset.univ ∨ ∀ a, (Rect.unit off s.size inb).stride a = 1}
    {k : PUnit → Prog (TpuEff nD τ sig (Elt F) Λ₀ .tc) α} :
    anyv F c M ⊢ iprop((atv c M fullShare Y -∗ WP c (k ⟨⟩) Q) -∗ WP c (.op (.store M (Rect.unit off s.size inb) w Finset.univ hx hm) k) Q) := by
  subst hw
  unfold anyv
  iintro ⟨%f, H⟩ Hk
  iapply (wp_store 𝒱₀ (c : Thread nD τ) none Set.univ (m := M) (r := Rect.unit off s.size inb) (hx := hx) (hm := hm) (f := f) (w := w) (Mk := Finset.univ)
    (S := M.view.set) (View.set_slice_subset _ _)) $$ [H]
  · iexact H
  iintro H
  iapply Hk
  have hR : M.view.read (Elt F) ((M.access (Rect.unit off s.size inb)).write (Elt F) f w Finset.univ) = w := by
    funext y
    have hr := View.read_writes_cons_emb (v := M.view) (f := f) (Rect.unit off s.size inb) w [] y
    rw [emb_all hz y] at hr
    exact hr
  have h := atv_of c M fullShare ((M.access (Rect.unit off s.size inb)).write (Elt F) f w Finset.univ)
  rw [hR] at h
  rw [← h]
  iexact H

end

end Cert.Mlp

end
-- ==== Proof.PartsA.lean ====
/-
  The first parts of the body, effect by effect.
-/
module

public import proofs.«01_k».proof.Proof.Payloads

@[expose] public section

noncomputable section

namespace Cert.Mlp

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (I : Dev nD → Ins F) (K : Dev nD × CI → ℕ) (c : Dev nD)

/-- Argument 0 of device `c`, held with its contents. -/
abbrev arg0R : sProp (MM F) := atv c (Memref.whole main_arg0) fullShare (I c).x
/-- Argument 1 of device `c`, held with its contents. -/
abbrev arg1R : sProp (MM F) := atv c (Memref.whole main_arg1) fullShare ((I c).wi 0)
/-- Argument 2 of device `c`, held with its contents. -/
abbrev arg2R : sProp (MM F) := atv c (Memref.whole main_arg2) fullShare ((I c).wo 0)
/-- Argument 3 of device `c`, held with its contents. -/
abbrev arg3R : sProp (MM F) := atv c (Memref.whole main_arg3) fullShare ((I c).wi 1)
/-- Argument 4 of device `c`, held with its contents. -/
abbrev arg4R : sProp (MM F) := atv c (Memref.whole main_arg4) fullShare ((I c).wo 1)
/-- Argument 5 of device `c`, held with its contents. -/
abbrev arg5R : sProp (MM F) := atv c (Memref.whole main_arg5) fullShare ((I c).wi 2)
/-- Argument 6 of device `c`, held with its contents. -/
abbrev arg6R : sProp (MM F) := atv c (Memref.whole main_arg6) fullShare ((I c).wo 2)

/-- Part 1 of the body: what it needs and what it leaves. -/
theorem part1_spec {Q : _ → sProp (MM F)} :
    iprop(arg0R I c ∗ anyv F c xM ∗ wz F c 6 ∗ arg1R I c ∗ anyv F c (wiV 0) ∗ wz F c 0 ∗ arg2R I c ∗ anyv F c (woV 0) ∗ wz F c 1 ∗ arg3R I c ∗ anyv F c (wiV 1) ∗ wz F c 2 ∗ arg4R I c ∗ anyv F c (woV 1) ∗ wz F c 3 ∗ arg5R I c ∗ anyv F c (wiV 2) ∗ wz F c 4)
      ⊢ iprop((∀ (w0 : BitVec 32), (fly c 6 (Memref.whole main_arg0) xM (I c).x ∗ fly c 0 (Memref.whole main_arg1) (wiV 0) ((I c).wi 0) ∗ fly c 1 (Memref.whole main_arg2) (woV 0) ((I c).wo 0) ∗ fly c 2 (Memref.whole main_arg3) (wiV 1) ((I c).wi 1) ∗ fly c 3 (Memref.whole main_arg4) (woV 1) ((I c).wo 1) ∗ fly c 4 (Memref.whole main_arg5) (wiV 2) ((I c).wi 2)) -∗ Q ⟨c, w0⟩)
          -∗ WP c ((on (k0_part1 (F := F))) ) Q) := by
  rw [k0_part1_eq_skeleton]
  unfold on k0_part1_skel
  simp only [semSignalWord, semWaitWord, Prog.lift, Prog.bind_op, Prog.bind_ret, Prog.pure_eq_ret, wp_deviceId]
  iintro ⟨A0, D6, W6, A1, D0, W0, A2, D1, W1, A3, D2, W2, A4, D3, W3, A5, D4, W4⟩ Hk
  iapply (cp c 6 (Memref.whole main_arg0) xM (I c).x rfl (View.dmaCredit_pos _ (by decide))) $$ [A0 D6 W6]
  · isplitl [A0]; · iexact A0
    isplitl [D6]; · iexact D6
    iexact W6
  iintro Fl6
  iapply (cp c 0 (Memref.whole main_arg1) (wiV 0) ((I c).wi 0) rfl (View.dmaCredit_pos _ (by decide))) $$ [A1 D0 W0]
  · isplitl [A1]; · iexact A1
    isplitl [D0]; · iexact D0
    iexact W0
  iintro Fl0
  iapply (cp c 1 (Memref.whole main_arg2) (woV 0) ((I c).wo 0) rfl (View.dmaCredit_pos _ (by decide))) $$ [A2 D1 W1]
  · isplitl [A2]; · iexact A2
    isplitl [D1]; · iexact D1
    iexact W1
  iintro Fl1
  iapply (cp c 2 (Memref.whole main_arg3) (wiV 1) ((I c).wi 1) rfl (View.dmaCredit_pos _ (by decide))) $$ [A3 D2 W2]
  · isplitl [A3]; · iexact A3
    isplitl [D2]; · iexact D2
    iexact W2
  iintro Fl2
  iapply (cp c 3 (Memref.whole main_arg4) (woV 1) ((I c).wo 1) rfl (View.dmaCredit_pos _ (by decide))) $$ [A4 D3 W3]
  · isplitl [A4]; · iexact A4
    isplitl [D3]; · iexact D3
    iexact W3
  iintro Fl3
  iapply (cp c 4 (Memref.whole main_arg5) (wiV 2) ((I c).wi 2) rfl (View.dmaCredit_pos _ (by decide))) $$ [A5 D4 W4]
  · isplitl [A5]; · iexact A5
    isplitl [D4]; · iexact D4
    iexact W4
  iintro Fl4
  iapply wp_end
  iapply Hk $$ [Fl6 Fl0 Fl1 Fl2 Fl3 Fl4]
  · isplitl [Fl6]; · iexact Fl6
    isplitl [Fl0]; · iexact Fl0
    isplitl [Fl1]; · iexact Fl1
    isplitl [Fl2]; · iexact Fl2
    isplitl [Fl3]; · iexact Fl3
    iexact Fl4

/-- Part 2 of the body: what it needs and what it leaves. -/
theorem part2_spec (u0 : BitVec 32){Q : _ → sProp (MM F)} :
    iprop(recs I K ∗ arg6R I c ∗ anyv F c (woV 2) ∗ wz F c 5 ∗ barTok F c 0 ∗ owe F c 0 ∗ slots F c 0 ∗ barTok F c 1 ∗ slots F c 1)
      ⊢ iprop((∀ (w0 : BitVec 32) (w1 : BitVec 32), (fly c 5 (Memref.whole main_arg6) (woV 2) ((I c).wo 2) ∗ owe F c 2) -∗ Q ⟨barA, w0, w1⟩)
          -∗ WP c ((on (k0_part2 (F := F))) c u0) Q) := by
  rw [k0_part2_eq_skeleton]
  unfold on k0_part2_skel
  simp only [semSignalWord, semWaitWord, Prog.lift, Prog.bind_op, Prog.bind_ret, Prog.pure_eq_ret]
  iintro ⟨#HR, A6, D5, W5, BT0, O0, SL0, BT1, SL1⟩ Hk
  iapply (cp c 5 (Memref.whole main_arg6) (woV 2) ((I c).wo 2) rfl (View.dmaCredit_pos _ (by decide))) $$ [A6 D5 W5]
  · isplitl [A6]; · iexact A6
    isplitl [D5]; · iexact D5
    iexact W5
  iintro Fl5
  iapply (wp_sig I K c _ 0 (dev1 c) 0 rfl rfl rfl) $$ [BT0 O0 SL0]
  · isplitr; · iexact HR
    isplitl [BT0]; · iexact BT0
    isplitl [O0]; · iexact O0
    iexact SL0
  iintro O1
  iapply (wp_sig I K c _ 1 (dev2 c) 1 rfl rfl rfl) $$ [BT1 O1 SL1]
  · isplitr; · iexact HR
    isplitl [BT1]; · iexact BT1
    isplitl [O1]; · iexact O1
    iexact SL1
  iintro O2
  iapply wp_end
  iapply Hk $$ [Fl5 O2]
  · isplitl [Fl5]; · iexact Fl5
    iexact O2

/-- Part 3 of the body: what it needs and what it leaves. -/
theorem part3_spec (u0 : BitVec 32) (u1 : BitVec 32){Q : _ → sProp (MM F)} :
    iprop(recs I K ∗ barTok F c 2 ∗ owe F c 2 ∗ slots F c 2 ∗ fly c 6 (Memref.whole main_arg0) xM (I c).x ∗ fly c 0 (Memref.whole main_arg1) (wiV 0) ((I c).wi 0) ∗ anyv F c (wibV 0) ∗ fly c 1 (Memref.whole main_arg2) (woV 0) ((I c).wo 0))
      ⊢ iprop(((arg0R I c ∗ wz F c 6 ∗ atv c xM fullShare (I c).x ∗ arg1R I c ∗ wz F c 0 ∗ atv c (wiV 0) fullShare ((I c).wi 0) ∗ atv c (wibV 0) fullShare (winB (I c) 0) ∗ arg2R I c ∗ wz F c 1 ∗ owe F c 3 ∗ atv c (woV 0) fullShare ((I c).wo 0)) -∗ Q ⟨k0_pay1 (I c).x, cWo ((I c).wo 0)⟩)
          -∗ WP c ((on (k0_part3 (F := F))) c barA u0 u1) Q) := by
  rw [k0_part3_eq_skeleton]
  unfold on k0_part3_skel
  simp only [semSignalWord, semWaitWord, Prog.lift, Prog.bind_op, Prog.bind_ret, Prog.pure_eq_ret]
  iintro ⟨#HR, BT2, O2, SL2, Fl6, Fl0, Wi0, Fl1⟩ Hk
  iapply (wp_sig I K c _ 2 (dev3 c) 2 rfl rfl rfl) $$ [BT2 O2 SL2]
  · isplitr; · iexact HR
    isplitl [BT2]; · iexact BT2
    isplitl [O2]; · iexact O2
    iexact SL2
  iintro O3
  iapply (ar I K c 6 3 (Memref.whole main_arg0) xM (I c).x rfl (by decide)) $$ [Fl6 O3]
  · isplitr; · iexact HR
    isplitl [Fl6]; · iexact Fl6
    iexact O3
  iintro ⟨V6, A0, W6, O3⟩
  iapply (ld_all c xM (fun a => by fin_cases a <;> rfl) fullShare (I c).x) $$ [V6]
  · iexact V6
  iintro V6
  iapply (ar I K c 0 3 (Memref.whole main_arg1) (wiV 0) ((I c).wi 0) rfl (by decide)) $$ [Fl0 O3]
  · isplitr; · iexact HR
    isplitl [Fl0]; · iexact Fl0
    iexact O3
  iintro ⟨V0, A1, W0, O3⟩
  iapply (ld_wi c 0 ((I c).wi 0)) $$ [V0]
  · iexact V0
  iintro V0
  iapply (la_wib c 0) $$ [Wi0]
  · iexact Wi0
  iintro %_v Wi0
  iapply (st_wib c 0 (winB (I c) 0) (v2 _)) $$ [Wi0]
  · iexact Wi0
  iintro Wib0
  iapply (ar I K c 1 3 (Memref.whole main_arg2) (woV 0) ((I c).wo 0) rfl (by decide)) $$ [Fl1 O3]
  · isplitr; · iexact HR
    isplitl [Fl1]; · iexact Fl1
    iexact O3
  iintro ⟨V1, A2, W1, O3⟩
  iapply (ld_wo c 0 ((I c).wo 0)) $$ [V1]
  · iexact V1
  iintro V1
  iapply wp_end
  iapply Hk $$ [A0 W6 V6 A1 W0 V0 Wib0 A2 W1 O3 V1]
  · isplitl [A0]; · iexact A0
    isplitl [W6]; · iexact W6
    isplitl [V6]; · iexact V6
    isplitl [A1]; · iexact A1
    isplitl [W0]; · iexact W0
    isplitl [V0]; · iexact V0
    isplitl [Wib0]; · iexact Wib0
    isplitl [A2]; · iexact A2
    isplitl [W1]; · iexact W1
    isplitl [O3]; · iexact O3
    iexact V1

/-- Part 4 of the body: what it needs and what it leaves. -/
theorem part4_spec (u0 : BitVec 32){Q : _ → sProp (MM F)} :
    iprop(recs I K ∗ anyv F c (wobV 0) ∗ atv c (wibV 0) fullShare (winB (I c) 0) ∗ anyv F c (pcV 0 0) ∗ posAt F c none ∗ crd F c none 3 ∗ owe F c 3)
      ⊢ iprop((∀ (w0 : BitVec 32), (atv c (wibV 0) fullShare (winB (I c) 0) ∗ atv c (wobV 0) fullShare (woutB (I c) 0) ∗ atv c (pcV 0 0) fullShare (blk I 0 0 c) ∗ slots F (peer c 0) 2 ∗ slots F (peer c 1) 1 ∗ slots F (peer c 2) 0 ∗ cz F c none ∗ owe F c 3) -∗ Q ⟨part0 I 0 c, w0⟩)
          -∗ WP c ((on (k0_part4 (F := F))) u0 barA (k0_pay1 (I c).x) (cWo ((I c).wo 0))) Q) := by
  rw [k0_part4_eq_skeleton]
  unfold on k0_part4_skel
  simp only [semSignalWord, semWaitWord, Prog.lift, Prog.bind_op, Prog.bind_ret, Prog.pure_eq_ret]
  iintro ⟨#HR, Wo0, Wib0, Q00, Pb, Cb, O3⟩ Hk
  iapply (la_wob c 0) $$ [Wo0]
  · iexact Wo0
  iintro %_v Wo0
  iapply (st_wob c 0 (woutB (I c) 0) (v3 _)) $$ [Wo0]
  · iexact Wo0
  iintro Wob0
  iapply (ld_wib c 0 (winB (I c) 0)) $$ [Wib0]
  · iexact Wib0
  iintro Wib0
  iapply (ld_wob c 0 (woutB (I c) 0)) $$ [Wob0]
  · iexact Wob0
  iintro Wob0
  iapply (la_pc c 0 0) $$ [Q00]
  · iexact Q00
  iintro %_v Q00
  iapply (st_pc c 0 0 (blk I 0 0 c) (v5 _ _ _)) $$ [Q00]
  · iexact Q00
  iintro B00
  iapply (wp_bar I K c 3 (by decide) rfl rfl) $$ [Pb Cb O3]
  · isplitr; · iexact HR
    isplitl [Pb]; · iexact Pb
    isplitl [Cb]; · iexact Cb
    iexact O3
  iintro ⟨PS0, PS1, PS2, Zb, O3⟩
  rw [show _ = part0 I 0 c from v4 _ _ _]
  iapply wp_end
  iapply Hk $$ [Wib0 Wob0 B00 PS0 PS1 PS2 Zb O3]
  · isplitl [Wib0]; · iexact Wib0
    isplitl [Wob0]; · iexact Wob0
    isplitl [B00]; · iexact B00
    isplitl [PS0]; · iexact PS0
    isplitl [PS1]; · iexact PS1
    isplitl [PS2]; · iexact PS2
    isplitl [Zb]; · iexact Zb
    iexact O3

/-- Part 5 of the body: what it needs and what it leaves. -/
theorem part5_spec (u0 : BitVec 32) (u1 : BitVec 32){Q : _ → sProp (MM F)} :
    iprop(recs I K ∗ atv c (pcV 0 0) fullShare (blk I 0 0 c) ∗ sendTok F c (gOf 0 0) 1 ∗ owe F c 3 ∗ anyv F (peer c 1) (slV 0 1 0))
      ⊢ iprop((∀ (w0 : BitVec 32), (atv c (pcV 0 0) (third 0) (blk I 0 0 c) ∗ atv c (pcV 0 0) (third 2) (blk I 0 0 c) ∗ crd F c (some (false, gOf 0 0, 1)) N32 ∗ owe F c 4) -∗ Q w0)
          -∗ WP c ((on (k0_part5 (F := F))) c u0 u1) Q) := by
  rw [k0_part5_eq_skeleton]
  unfold on k0_part5_skel
  simp only [semSignalWord, semWaitWord, Prog.lift, Prog.bind_op, Prog.bind_ret, Prog.pure_eq_ret]
  iintro ⟨#HR, B00, K001, O3, T001⟩ Hk
  ihave Hsplit := (atv_thirds c _ _).mp $$ B00
  icases Hsplit with ⟨B00t0, B00t1, B00t2⟩
  iapply (hop_pc I K c 0 0 1 3 rfl (dev4 c) rfl rfl) $$ [K001 O3 B00t1 T001]
  · isplitr; · iexact HR
    isplitl [K001]; · iexact K001
    isplitl [O3]; · iexact O3
    isplitl [B00t1]; · iexact B00t1
    iexact T001
  iintro ⟨Cs001, O4⟩
  iapply wp_end
  iapply Hk $$ [B00t0 B00t2 Cs001 O4]
  · isplitl [B00t0]; · iexact B00t0
    isplitl [B00t2]; · iexact B00t2
    isplitl [Cs001]; · iexact Cs001
    iexact O4

/-- Part 6 of the body: what it needs and what it leaves. -/
theorem part6_spec (u0 : BitVec 32){Q : _ → sProp (MM F)} :
    iprop(recs I K ∗ sendTok F c (gOf 0 0) 0 ∗ owe F c 4 ∗ atv c (pcV 0 0) (third 0) (blk I 0 0 c) ∗ anyv F (peer c 0) (slV 0 2 0) ∗ sendTok F c (gOf 0 0) 2 ∗ atv c (pcV 0 0) (third 2) (blk I 0 0 c) ∗ anyv F (peer c 2) (slV 0 0 0) ∗ atv c (wibV 0) fullShare (winB (I c) 0))
      ⊢ iprop((∀ (w0 : BitVec 32), (crd F c (some (false, gOf 0 0, 0)) N32 ∗ crd F c (some (false, gOf 0 0, 2)) N32 ∗ owe F c 6 ∗ atv c (wibV 0) fullShare (winB (I c) 0)) -∗ Q ⟨w0, dotIn (half (I c) 1) (winB (I c) 0), Scalar.ofBits .f32 0x00000000#32⟩)
          -∗ WP c ((on (k0_part6 (F := F))) c u0 (k0_pay1 (I c).x)) Q) := by
  rw [k0_part6_eq_skeleton]
  unfold on k0_part6_skel
  simp only [semSignalWord, semWaitWord, Prog.lift, Prog.bind_op, Prog.bind_ret, Prog.pure_eq_ret]
  iintro ⟨#HR, K000, O4, B00t0, T000, K002, B00t2, T002, Wib0⟩ Hk
  iapply (hop_pc I K c 0 0 0 4 rfl (dev5 c) rfl rfl) $$ [K000 O4 B00t0 T000]
  · isplitr; · iexact HR
    isplitl [K000]; · iexact K000
    isplitl [O4]; · iexact O4
    isplitl [B00t0]; · iexact B00t0
    iexact T000
  iintro ⟨Cs000, O5⟩
  iapply (hop_pc I K c 0 0 2 5 rfl (dev6 c) rfl rfl) $$ [K002 O5 B00t2 T002]
  · isplitr; · iexact HR
    isplitl [K002]; · iexact K002
    isplitl [O5]; · iexact O5
    isplitl [B00t2]; · iexact B00t2
    iexact T002
  iintro ⟨Cs002, O6⟩
  iapply (ld_wib c 0 (winB (I c) 0)) $$ [Wib0]
  · iexact Wib0
  iintro Wib0
  rw [show _ = dotIn (half (I c) 1) (winB (I c) 0) from v6 _ _]
  iapply wp_end
  iapply Hk $$ [Cs000 Cs002 O6 Wib0]
  · isplitl [Cs000]; · iexact Cs000
    isplitl [Cs002]; · iexact Cs002
    isplitl [O6]; · iexact O6
    iexact Wib0

/-- Part 7 of the body: what it needs and what it leaves. -/
theorem part7_spec (u0 : BitVec 32){Q : _ → sProp (MM F)} :
    iprop(atv c (wobV 0) fullShare (woutB (I c) 0) ∗ anyv F c (pcV 0 1))
      ⊢ iprop((∀ (w0 : BitVec 32), (atv c (wobV 0) fullShare (woutB (I c) 0) ∗ atv c (pcV 0 1) fullShare (blk I 0 1 c)) -∗ Q ⟨part0 I 1 c, w0⟩)
          -∗ WP c ((on (k0_part7 (F := F))) u0 (dotIn (half (I c) 1) (winB (I c) 0)) (Scalar.ofBits .f32 0x00000000#32)) Q) := by
  rw [k0_part7_eq_skeleton]
  unfold on k0_part7_skel
  simp only [semSignalWord, semWaitWord, Prog.lift, Prog.bind_op, Prog.bind_ret, Prog.pure_eq_ret]
  iintro ⟨Wob0, Q01⟩ Hk
  iapply (ld_wob c 0 (woutB (I c) 0)) $$ [Wob0]
  · iexact Wob0
  iintro Wob0
  iapply (la_pc c 0 1) $$ [Q01]
  · iexact Q01
  iintro %_v Q01
  iapply (st_pc c 0 1 (blk I 0 1 c) (v8 _ _)) $$ [Q01]
  · iexact Q01
  iintro B01
  rw [show _ = part0 I 1 c from v7 _ _]
  iapply wp_end
  iapply Hk $$ [Wob0 B01]
  · isplitl [Wob0]; · iexact Wob0
    iexact B01

/-- Part 8 of the body: what it needs and what it leaves. -/
theorem part8_spec (u0 : BitVec 32){Q : _ → sProp (MM F)} :
    iprop(recs I K ∗ atv c (pcV 0 1) fullShare (blk I 0 1 c) ∗ sendTok F c (gOf 0 1) 1 ∗ owe F c 6 ∗ anyv F (peer c 1) (slV 0 1 1) ∗ sendTok F c (gOf 0 1) 0 ∗ anyv F (peer c 0) (slV 0 2 1))
      ⊢ iprop((∀ (w0 : BitVec 32) (w1 : BitVec 32) (w2 : BitVec 32) (w3 : BitVec 1) (w4 : BitVec 1) (w5 : BitVec 1), (atv c (pcV 0 1) (third 2) (blk I 0 1 c) ∗ crd F c (some (false, gOf 0 1, 1)) N32 ∗ crd F c (some (false, gOf 0 1, 0)) N32 ∗ owe F c 8) -∗ Q ⟨w0, w1, w2, w3, w4, w5⟩)
          -∗ WP c ((on (k0_part8 (F := F))) c u0) Q) := by
  rw [k0_part8_eq_skeleton]
  unfold on k0_part8_skel
  simp only [semSignalWord, semWaitWord, Prog.lift, Prog.bind_op, Prog.bind_ret, Prog.pure_eq_ret]
  iintro ⟨#HR, B01, K011, O6, T011, K010, T010⟩ Hk
  ihave Hsplit := (atv_thirds c _ _).mp $$ B01
  icases Hsplit with ⟨B01t0, B01t1, B01t2⟩
  iapply (hop_pc I K c 0 1 1 6 rfl (dev7 c) rfl rfl) $$ [K011 O6 B01t1 T011]
  · isplitr; · iexact HR
    isplitl [K011]; · iexact K011
    isplitl [O6]; · iexact O6
    isplitl [B01t1]; · iexact B01t1
    iexact T011
  iintro ⟨Cs011, O7⟩
  iapply (hop_pc I K c 0 1 0 7 rfl (dev8 c) rfl rfl) $$ [K010 O7 B01t0 T010]
  · isplitr; · iexact HR
    isplitl [K010]; · iexact K010
    isplitl [O7]; · iexact O7
    isplitl [B01t0]; · iexact B01t0
    iexact T010
  iintro ⟨Cs010, O8⟩
  iapply wp_end
  iapply Hk $$ [B01t2 Cs011 Cs010 O8]
  · isplitl [B01t2]; · iexact B01t2
    isplitl [Cs011]; · iexact Cs011
    isplitl [Cs010]; · iexact Cs010
    iexact O8

/-- Part 9 of the body: what it needs and what it leaves. -/
theorem part9_spec (u0 : BitVec 32) (u1 : BitVec 32) (u2 : BitVec 1) (u3 : BitVec 1) (u4 : BitVec 1){Q : _ → sProp (MM F)} :
    iprop(recs I K ∗ sendTok F c (gOf 0 1) 2 ∗ owe F c 8 ∗ atv c (pcV 0 1) (third 2) (blk I 0 1 c) ∗ anyv F (peer c 2) (slV 0 0 1) ∗ fly c 2 (Memref.whole main_arg3) (wiV 1) ((I c).wi 1) ∗ anyv F c (wibV 1))
      ⊢ iprop((∀ (w0 : BitVec 32), (crd F c (some (false, gOf 0 1, 2)) N32 ∗ arg3R I c ∗ wz F c 2 ∗ owe F c 9 ∗ atv c (wiV 1) fullShare ((I c).wi 1) ∗ atv c (wibV 1) fullShare (winB (I c) 1)) -∗ Q w0)
          -∗ WP c ((on (k0_part9 (F := F))) c u0 u1 u2 u3 u4) Q) := by
  rw [k0_part9_eq_skeleton]
  unfold on k0_part9_skel
  simp only [semSignalWord, semWaitWord, Prog.lift, Prog.bind_op, Prog.bind_ret, Prog.pure_eq_ret]
  iintro ⟨#HR, K012, O8, B01t2, T012, Fl2, Wi1⟩ Hk
  iapply (hop_pc I K c 0 1 2 8 rfl (dev9 c) rfl rfl) $$ [K012 O8 B01t2 T012]
  · isplitr; · iexact HR
    isplitl [K012]; · iexact K012
    isplitl [O8]; · iexact O8
    isplitl [B01t2]; · iexact B01t2
    iexact T012
  iintro ⟨Cs012, O9⟩
  iapply (ar I K c 2 9 (Memref.whole main_arg3) (wiV 1) ((I c).wi 1) rfl (by decide)) $$ [Fl2 O9]
  · isplitr; · iexact HR
    isplitl [Fl2]; · iexact Fl2
    iexact O9
  iintro ⟨V2, A3, W2, O9⟩
  iapply (ld_wi c 1 ((I c).wi 1)) $$ [V2]
  · iexact V2
  iintro V2
  iapply (la_wib c 1) $$ [Wi1]
  · iexact Wi1
  iintro %_v Wi1
  iapply (st_wib c 1 (winB (I c) 1) (v9 _)) $$ [Wi1]
  · iexact Wi1
  iintro Wib1
  iapply wp_end
  iapply Hk $$ [Cs012 A3 W2 O9 V2 Wib1]
  · isplitl [Cs012]; · iexact Cs012
    isplitl [A3]; · iexact A3
    isplitl [W2]; · iexact W2
    isplitl [O9]; · iexact O9
    isplitl [V2]; · iexact V2
    iexact Wib1

/-- Part 10 of the body: what it needs and what it leaves. -/
theorem part10_spec (u0 : BitVec 32) (u1 : BitVec 32){Q : _ → sProp (MM F)} :
    iprop(recs I K ∗ fly c 3 (Memref.whole main_arg4) (woV 1) ((I c).wo 1) ∗ owe F c 9 ∗ anyv F c (wobV 1) ∗ posAt F c (some (true, gOf 0 0, 2)) ∗ crd F c (some (true, gOf 0 0, 2)) N32)
      ⊢ iprop(((arg4R I c ∗ wz F c 3 ∗ atv c (woV 1) fullShare ((I c).wo 1) ∗ atv c (wobV 1) fullShare (woutB (I c) 1) ∗ cz F c (some (true, gOf 0 0, 2)) ∗ owe F c 9 ∗ atv c (slV 0 2 0) fullShare (blk I 0 0 (peer c 2))) -∗ Q (addf (part0 I 0 c) (ex (blk I 0 0 (peer c 2)))))
          -∗ WP c ((on (k0_part10 (F := F))) (part0 I 0 c) u0 u1) Q) := by
  rw [k0_part10_eq_skeleton]
  unfold on k0_part10_skel
  simp only [semSignalWord, semWaitWord, Prog.lift, Prog.bind_op, Prog.bind_ret, Prog.pure_eq_ret]
  iintro ⟨#HR, Fl3, O9, Wo1, Pr002, Cr002⟩ Hk
  iapply (ar I K c 3 9 (Memref.whole main_arg4) (woV 1) ((I c).wo 1) rfl (by decide)) $$ [Fl3 O9]
  · isplitr; · iexact HR
    isplitl [Fl3]; · iexact Fl3
    iexact O9
  iintro ⟨V3, A4, W3, O9⟩
  iapply (ld_wo c 1 ((I c).wo 1)) $$ [V3]
  · iexact V3
  iintro V3
  iapply (la_wob c 1) $$ [Wo1]
  · iexact Wo1
  iintro %_v Wo1
  iapply (st_wob c 1 (woutB (I c) 1) (v10 _)) $$ [Wo1]
  · iexact Wo1
  iintro Wob1
  iapply (take_sl I K c 0 0 2 9 (by decide) rfl) $$ [Pr002 Cr002 O9]
  · isplitr; · iexact HR
    isplitl [Pr002]; · iexact Pr002
    isplitl [Cr002]; · iexact Cr002
    iexact O9
  iintro ⟨L002, Zr002, O9⟩
  iapply (ld_sl c 0 2 0 (blk I 0 0 (peer c 2))) $$ [L002]
  · iexact L002
  iintro L002
  rw [v11]
  iapply wp_end
  iapply Hk $$ [A4 W3 V3 Wob1 Zr002 O9 L002]
  · isplitl [A4]; · iexact A4
    isplitl [W3]; · iexact W3
    isplitl [V3]; · iexact V3
    isplitl [Wob1]; · iexact Wob1
    isplitl [Zr002]; · iexact Zr002
    isplitl [O9]; · iexact O9
    iexact L002

/-- Part 11 of the body: what it needs and what it leaves. -/
theorem part11_spec (u0 : BitVec 32){Q : _ → sProp (MM F)} :
    iprop(recs I K ∗ posAt F c (some (true, gOf 0 0, 0)) ∗ crd F c (some (true, gOf 0 0, 0)) N32 ∗ owe F c 9 ∗ posAt F c (some (true, gOf 0 0, 1)) ∗ crd F c (some (true, gOf 0 0, 1)) N32 ∗ atv c (wibV 1) fullShare (winB (I c) 1))
      ⊢ iprop(((cz F c (some (true, gOf 0 0, 0)) ∗ atv c (slV 0 0 0) fullShare (blk I 0 0 (peer c 0)) ∗ cz F c (some (true, gOf 0 0, 1)) ∗ owe F c 9 ∗ atv c (slV 0 1 0) fullShare (blk I 0 0 (peer c 1)) ∗ atv c (wibV 1) fullShare (winB (I c) 1)) -∗ Q ⟨dotIn (summed (part0 I 0) c) (winB (I c) 1), k0_pay13⟩)
          -∗ WP c ((on (k0_part11 (F := F))) u0 (addf (part0 I 0 c) (ex (blk I 0 0 (peer c 2))))) Q) := by
  rw [k0_part11_eq_skeleton]
  unfold on k0_part11_skel
  simp only [semSignalWord, semWaitWord, Prog.lift, Prog.bind_op, Prog.bind_ret, Prog.pure_eq_ret]
  iintro ⟨#HR, Pr000, Cr000, O9, Pr001, Cr001, Wib1⟩ Hk
  iapply (take_sl I K c 0 0 0 9 (by decide) rfl) $$ [Pr000 Cr000 O9]
  · isplitr; · iexact HR
    isplitl [Pr000]; · iexact Pr000
    isplitl [Cr000]; · iexact Cr000
    iexact O9
  iintro ⟨L000, Zr000, O9⟩
  iapply (ld_sl c 0 0 0 (blk I 0 0 (peer c 0))) $$ [L000]
  · iexact L000
  iintro L000
  iapply (take_sl I K c 0 0 1 9 (by decide) rfl) $$ [Pr001 Cr001 O9]
  · isplitr; · iexact HR
    isplitl [Pr001]; · iexact Pr001
    isplitl [Cr001]; · iexact Cr001
    iexact O9
  iintro ⟨L001, Zr001, O9⟩
  iapply (ld_sl c 0 1 0 (blk I 0 0 (peer c 1))) $$ [L001]
  · iexact L001
  iintro L001
  iapply (ld_wib c 1 (winB (I c) 1)) $$ [Wib1]
  · iexact Wib1
  iintro Wib1
  rw [show _ = dotIn (summed (part0 I 0) c) (winB (I c) 1) from v12 (winB (I c) 1) (addf (part0 I 0 c) (ex (blk I 0 0 (peer c 2)))) (blk I 0 0 (peer c 0)) (blk I 0 0 (peer c 1))]
  iapply wp_end
  iapply Hk $$ [Zr000 L000 Zr001 O9 L001 Wib1]
  · isplitl [Zr000]; · iexact Zr000
    isplitl [L000]; · iexact L000
    isplitl [Zr001]; · iexact Zr001
    isplitl [O9]; · iexact O9
    isplitl [L001]; · iexact L001
    iexact Wib1

end Cert.Mlp

end
-- ==== Proof.PartsB.lean ====
/-
  The middle parts of the body, effect by effect.
-/
module

public import proofs.«01_k».proof.Proof.PartsA

@[expose] public section

noncomputable section

namespace Cert.Mlp

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (I : Dev nD → Ins F) (K : Dev nD × CI → ℕ) (c : Dev nD)

/-- Part 12 of the body: what it needs and what it leaves. -/
theorem part12_spec (u0 : BitVec 32){Q : _ → sProp (MM F)} :
    iprop(atv c (wobV 1) fullShare (woutB (I c) 1) ∗ anyv F c (pcV 1 0))
      ⊢ iprop((∀ (w0 : BitVec 32), (atv c (wobV 1) fullShare (woutB (I c) 1) ∗ atv c (pcV 1 0) fullShare (blk I 1 0 c)) -∗ Q ⟨part1 I 0 c, w0⟩)
          -∗ WP c ((on (k0_part12 (F := F))) u0 (dotIn (summed (part0 I 0) c) (winB (I c) 1)) k0_pay13) Q) := by
  rw [k0_part12_eq_skeleton]
  unfold on k0_part12_skel
  simp only [semSignalWord, semWaitWord, Prog.lift, Prog.bind_op, Prog.bind_ret, Prog.pure_eq_ret]
  iintro ⟨Wob1, Q10⟩ Hk
  iapply (ld_wob c 1 (woutB (I c) 1)) $$ [Wob1]
  · iexact Wob1
  iintro Wob1
  iapply (la_pc c 1 0) $$ [Q10]
  · iexact Q10
  iintro %_v Q10
  iapply (st_pc c 1 0 (blk I 1 0 c) (v15 _ _)) $$ [Q10]
  · iexact Q10
  iintro B10
  rw [show _ = part1 I 0 c from v14 _ _]
  iapply wp_end
  iapply Hk $$ [Wob1 B10]
  · isplitl [Wob1]; · iexact Wob1
    iexact B10

/-- Part 13 of the body: what it needs and what it leaves. -/
theorem part13_spec (u0 : BitVec 32){Q : _ → sProp (MM F)} :
    iprop(recs I K ∗ atv c (pcV 1 0) fullShare (blk I 1 0 c) ∗ sendTok F c (gOf 1 0) 1 ∗ owe F c 9 ∗ anyv F (peer c 1) (slV 1 1 0) ∗ sendTok F c (gOf 1 0) 0 ∗ anyv F (peer c 0) (slV 1 2 0))
      ⊢ iprop((∀ (w0 : BitVec 32) (w1 : BitVec 32) (w2 : BitVec 32) (w3 : BitVec 1) (w4 : BitVec 1), (atv c (pcV 1 0) (third 2) (blk I 1 0 c) ∗ crd F c (some (false, gOf 1 0, 1)) N32 ∗ crd F c (some (false, gOf 1 0, 0)) N32 ∗ owe F c 11) -∗ Q ⟨w0, w1, w2, w3, w4⟩)
          -∗ WP c ((on (k0_part13 (F := F))) c u0) Q) := by
  rw [k0_part13_eq_skeleton]
  unfold on k0_part13_skel
  simp only [semSignalWord, semWaitWord, Prog.lift, Prog.bind_op, Prog.bind_ret, Prog.pure_eq_ret]
  iintro ⟨#HR, B10, K101, O9, T101, K100, T100⟩ Hk
  ihave Hsplit := (atv_thirds c _ _).mp $$ B10
  icases Hsplit with ⟨B10t0, B10t1, B10t2⟩
  iapply (hop_pc I K c 1 0 1 9 rfl (dev10 c) rfl rfl) $$ [K101 O9 B10t1 T101]
  · isplitr; · iexact HR
    isplitl [K101]; · iexact K101
    isplitl [O9]; · iexact O9
    isplitl [B10t1]; · iexact B10t1
    iexact T101
  iintro ⟨Cs101, O10⟩
  iapply (hop_pc I K c 1 0 0 10 rfl (dev11 c) rfl rfl) $$ [K100 O10 B10t0 T100]
  · isplitr; · iexact HR
    isplitl [K100]; · iexact K100
    isplitl [O10]; · iexact O10
    isplitl [B10t0]; · iexact B10t0
    iexact T100
  iintro ⟨Cs100, O11⟩
  iapply wp_end
  iapply Hk $$ [B10t2 Cs101 Cs100 O11]
  · isplitl [B10t2]; · iexact B10t2
    isplitl [Cs101]; · iexact Cs101
    isplitl [Cs100]; · iexact Cs100
    iexact O11

/-- Part 14 of the body: what it needs and what it leaves. -/
theorem part14_spec (u0 : BitVec 32) (u1 : BitVec 32) (u2 : BitVec 32) (u3 : BitVec 1) (u4 : BitVec 1){Q : _ → sProp (MM F)} :
    iprop(recs I K ∗ sendTok F c (gOf 1 0) 2 ∗ owe F c 11 ∗ atv c (pcV 1 0) (third 2) (blk I 1 0 c) ∗ anyv F (peer c 2) (slV 1 0 0) ∗ posAt F c (some (true, gOf 0 1, 2)) ∗ crd F c (some (true, gOf 0 1, 2)) N32)
      ⊢ iprop((∀ (w0 : BitVec 32), (crd F c (some (false, gOf 1 0, 2)) N32 ∗ cz F c (some (true, gOf 0 1, 2)) ∗ owe F c 12 ∗ atv c (slV 0 2 1) fullShare (blk I 0 1 (peer c 2))) -∗ Q ⟨w0, (ex (blk I 0 1 (peer c 2)))⟩)
          -∗ WP c ((on (k0_part14 (F := F))) c u0 u1 u2 u3 u4) Q) := by
  rw [k0_part14_eq_skeleton]
  unfold on k0_part14_skel
  simp only [semSignalWord, semWaitWord, Prog.lift, Prog.bind_op, Prog.bind_ret, Prog.pure_eq_ret]
  iintro ⟨#HR, K102, O11, B10t2, T102, Pr012, Cr012⟩ Hk
  iapply (hop_pc I K c 1 0 2 11 rfl (dev12 c) rfl rfl) $$ [K102 O11 B10t2 T102]
  · isplitr; · iexact HR
    isplitl [K102]; · iexact K102
    isplitl [O11]; · iexact O11
    isplitl [B10t2]; · iexact B10t2
    iexact T102
  iintro ⟨Cs102, O12⟩
  iapply (take_sl I K c 0 1 2 12 (by decide) rfl) $$ [Pr012 Cr012 O12]
  · isplitr; · iexact HR
    isplitl [Pr012]; · iexact Pr012
    isplitl [Cr012]; · iexact Cr012
    iexact O12
  iintro ⟨L012, Zr012, O12⟩
  iapply (ld_sl c 0 2 1 (blk I 0 1 (peer c 2))) $$ [L012]
  · iexact L012
  iintro L012
  rw [v16]
  iapply wp_end
  iapply Hk $$ [Cs102 Zr012 O12 L012]
  · isplitl [Cs102]; · iexact Cs102
    isplitl [Zr012]; · iexact Zr012
    isplitl [O12]; · iexact O12
    iexact L012

/-- Part 15 of the body: what it needs and what it leaves. -/
theorem part15_spec (u0 : BitVec 32) (u1 : BitVec 32){Q : _ → sProp (MM F)} :
    iprop(recs I K ∗ posAt F c (some (true, gOf 0 1, 0)) ∗ crd F c (some (true, gOf 0 1, 0)) N32 ∗ owe F c 12 ∗ posAt F c (some (true, gOf 0 1, 1)) ∗ crd F c (some (true, gOf 0 1, 1)) N32)
      ⊢ iprop(((cz F c (some (true, gOf 0 1, 0)) ∗ atv c (slV 0 0 1) fullShare (blk I 0 1 (peer c 0)) ∗ atv c (slV 0 1 1) fullShare (blk I 0 1 (peer c 1)) ∗ cz F c (some (true, gOf 0 1, 1)) ∗ owe F c 12) -∗ Q (addf (addf (part0 I 1 c) (ex (blk I 0 1 (peer c 2)))) (ex (blk I 0 1 (peer c 0)))))
          -∗ WP c ((on (k0_part15 (F := F))) (part0 I 1 c) u0 u1 (ex (blk I 0 1 (peer c 2)))) Q) := by
  rw [k0_part15_eq_skeleton]
  unfold on k0_part15_skel
  simp only [semSignalWord, semWaitWord, Prog.lift, Prog.bind_op, Prog.bind_ret, Prog.pure_eq_ret]
  iintro ⟨#HR, Pr010, Cr010, O12, Pr011, Cr011⟩ Hk
  iapply (take_sl I K c 0 1 0 12 (by decide) rfl) $$ [Pr010 Cr010 O12]
  · isplitr; · iexact HR
    isplitl [Pr010]; · iexact Pr010
    isplitl [Cr010]; · iexact Cr010
    iexact O12
  iintro ⟨L010, Zr010, O12⟩
  iapply (ld_sl c 0 0 1 (blk I 0 1 (peer c 0))) $$ [L010]
  · iexact L010
  iintro L010
  iapply (take_sl I K c 0 1 1 12 (by decide) rfl) $$ [Pr011 Cr011 O12]
  · isplitr; · iexact HR
    isplitl [Pr011]; · iexact Pr011
    isplitl [Cr011]; · iexact Cr011
    iexact O12
  iintro ⟨L011, Zr011, O12⟩
  rw [v17]
  iapply wp_end
  iapply Hk $$ [Zr010 L010 L011 Zr011 O12]
  · isplitl [Zr010]; · iexact Zr010
    isplitl [L010]; · iexact L010
    isplitl [L011]; · iexact L011
    isplitl [Zr011]; · iexact Zr011
    iexact O12

/-- Part 16 of the body: what it needs and what it leaves. -/
theorem part16_spec (u0 : BitVec 32){Q : _ → sProp (MM F)} :
    iprop(atv c (slV 0 1 1) fullShare (blk I 0 1 (peer c 1)) ∗ atv c (wibV 1) fullShare (winB (I c) 1) ∗ atv c (wobV 1) fullShare (woutB (I c) 1) ∗ anyv F c (pcV 1 1))
      ⊢ iprop((∀ (w0 : BitVec 32), (atv c (slV 0 1 1) fullShare (blk I 0 1 (peer c 1)) ∗ atv c (wibV 1) fullShare (winB (I c) 1) ∗ atv c (wobV 1) fullShare (woutB (I c) 1) ∗ atv c (pcV 1 1) fullShare (blk I 1 1 c)) -∗ Q ⟨part1 I 1 c, w0, 1#32⟩)
          -∗ WP c ((on (k0_part16 (F := F))) u0 (addf (addf (part0 I 1 c) (ex (blk I 0 1 (peer c 2)))) (ex (blk I 0 1 (peer c 0))))) Q) := by
  rw [k0_part16_eq_skeleton]
  unfold on k0_part16_skel
  simp only [semSignalWord, semWaitWord, Prog.lift, Prog.bind_op, Prog.bind_ret, Prog.pure_eq_ret]
  iintro ⟨L011, Wib1, Wob1, Q11⟩ Hk
  iapply (ld_sl c 0 1 1 (blk I 0 1 (peer c 1))) $$ [L011]
  · iexact L011
  iintro L011
  iapply (ld_wib c 1 (winB (I c) 1)) $$ [Wib1]
  · iexact Wib1
  iintro Wib1
  iapply (ld_wob c 1 (woutB (I c) 1)) $$ [Wob1]
  · iexact Wob1
  iintro Wob1
  iapply (la_pc c 1 1) $$ [Q11]
  · iexact Q11
  iintro %_v Q11
  iapply (st_pc c 1 1 (blk I 1 1 c) (v19 _ _ _ _)) $$ [Q11]
  · iexact Q11
  iintro B11
  rw [show _ = part1 I 1 c from v18 (winB (I c) 1) (woutB (I c) 1) (addf (addf (part0 I 1 c) (ex (blk I 0 1 (peer c 2)))) (ex (blk I 0 1 (peer c 0)))) (blk I 0 1 (peer c 1))]
  iapply wp_end
  iapply Hk $$ [L011 Wib1 Wob1 B11]
  · isplitl [L011]; · iexact L011
    isplitl [Wib1]; · iexact Wib1
    isplitl [Wob1]; · iexact Wob1
    iexact B11

/-- Part 17 of the body: what it needs and what it leaves. -/
theorem part17_spec (u0 : BitVec 32) (u1 : BitVec 32) (u2 : BitVec 32){Q : _ → sProp (MM F)} :
    iprop(recs I K ∗ atv c (pcV 1 1) fullShare (blk I 1 1 c) ∗ sendTok F c (gOf 1 1) 1 ∗ owe F c 12 ∗ anyv F (peer c 1) (slV 1 1 1) ∗ sendTok F c (gOf 1 1) 0 ∗ anyv F (peer c 0) (slV 1 2 1))
      ⊢ iprop((∀ (w0 : BitVec 32), (atv c (pcV 1 1) (third 2) (blk I 1 1 c) ∗ crd F c (some (false, gOf 1 1, 1)) N32 ∗ crd F c (some (false, gOf 1 1, 0)) N32 ∗ owe F c 14) -∗ Q w0)
          -∗ WP c ((on (k0_part17 (F := F))) c u0 u1 u2) Q) := by
  rw [k0_part17_eq_skeleton]
  unfold on k0_part17_skel
  simp only [semSignalWord, semWaitWord, Prog.lift, Prog.bind_op, Prog.bind_ret, Prog.pure_eq_ret]
  iintro ⟨#HR, B11, K111, O12, T111, K110, T110⟩ Hk
  ihave Hsplit := (atv_thirds c _ _).mp $$ B11
  icases Hsplit with ⟨B11t0, B11t1, B11t2⟩
  iapply (hop_pc I K c 1 1 1 12 rfl (dev13 c) rfl rfl) $$ [K111 O12 B11t1 T111]
  · isplitr; · iexact HR
    isplitl [K111]; · iexact K111
    isplitl [O12]; · iexact O12
    isplitl [B11t1]; · iexact B11t1
    iexact T111
  iintro ⟨Cs111, O13⟩
  iapply (hop_pc I K c 1 1 0 13 rfl (dev14 c) rfl rfl) $$ [K110 O13 B11t0 T110]
  · isplitr; · iexact HR
    isplitl [K110]; · iexact K110
    isplitl [O13]; · iexact O13
    isplitl [B11t0]; · iexact B11t0
    iexact T110
  iintro ⟨Cs110, O14⟩
  iapply wp_end
  iapply Hk $$ [B11t2 Cs111 Cs110 O14]
  · isplitl [B11t2]; · iexact B11t2
    isplitl [Cs111]; · iexact Cs111
    isplitl [Cs110]; · iexact Cs110
    iexact O14

/-- Part 18 of the body: what it needs and what it leaves. -/
theorem part18_spec (u0 : BitVec 32){Q : _ → sProp (MM F)} :
    iprop(recs I K ∗ sendTok F c (gOf 1 1) 2 ∗ owe F c 14 ∗ atv c (pcV 1 1) (third 2) (blk I 1 1 c) ∗ anyv F (peer c 2) (slV 1 0 1) ∗ fly c 4 (Memref.whole main_arg5) (wiV 2) ((I c).wi 2))
      ⊢ iprop((∀ (w0 : BitVec 32), (crd F c (some (false, gOf 1 1, 2)) N32 ∗ arg5R I c ∗ wz F c 4 ∗ owe F c 15 ∗ atv c (wiV 2) fullShare ((I c).wi 2)) -∗ Q ⟨w0, winB (I c) 2⟩)
          -∗ WP c ((on (k0_part18 (F := F))) c u0) Q) := by
  rw [k0_part18_eq_skeleton]
  unfold on k0_part18_skel
  simp only [semSignalWord, semWaitWord, Prog.lift, Prog.bind_op, Prog.bind_ret, Prog.pure_eq_ret]
  iintro ⟨#HR, K112, O14, B11t2, T112, Fl4⟩ Hk
  iapply (hop_pc I K c 1 1 2 14 rfl (dev15 c) rfl rfl) $$ [K112 O14 B11t2 T112]
  · isplitr; · iexact HR
    isplitl [K112]; · iexact K112
    isplitl [O14]; · iexact O14
    isplitl [B11t2]; · iexact B11t2
    iexact T112
  iintro ⟨Cs112, O15⟩
  iapply (ar I K c 4 15 (Memref.whole main_arg5) (wiV 2) ((I c).wi 2) rfl (by decide)) $$ [Fl4 O15]
  · isplitr; · iexact HR
    isplitl [Fl4]; · iexact Fl4
    iexact O15
  iintro ⟨V4, A5, W4, O15⟩
  iapply (ld_wi c 2 ((I c).wi 2)) $$ [V4]
  · iexact V4
  iintro V4
  rw [show _ = winB (I c) 2 from v20 _]
  iapply wp_end
  iapply Hk $$ [Cs112 A5 W4 O15 V4]
  · isplitl [Cs112]; · iexact Cs112
    isplitl [A5]; · iexact A5
    isplitl [W4]; · iexact W4
    isplitl [O15]; · iexact O15
    iexact V4

/-- Part 19 of the body: what it needs and what it leaves. -/
theorem part19_spec (u0 : BitVec 32){Q : _ → sProp (MM F)} :
    iprop(recs I K ∗ anyv F c (wibV 2) ∗ fly c 5 (Memref.whole main_arg6) (woV 2) ((I c).wo 2) ∗ owe F c 15 ∗ anyv F c (wobV 2) ∗ posAt F c (some (true, gOf 1 0, 2)) ∗ crd F c (some (true, gOf 1 0, 2)) N32)
      ⊢ iprop(((atv c (wibV 2) fullShare (winB (I c) 2) ∗ arg6R I c ∗ wz F c 5 ∗ atv c (woV 2) fullShare ((I c).wo 2) ∗ atv c (wobV 2) fullShare (woutB (I c) 2) ∗ cz F c (some (true, gOf 1 0, 2)) ∗ owe F c 15 ∗ atv c (slV 1 2 0) fullShare (blk I 1 0 (peer c 2))) -∗ Q (addf (part1 I 0 c) (ex (blk I 1 0 (peer c 2)))))
          -∗ WP c ((on (k0_part19 (F := F))) (part1 I 0 c) u0 (winB (I c) 2)) Q) := by
  rw [k0_part19_eq_skeleton]
  unfold on k0_part19_skel
  simp only [semSignalWord, semWaitWord, Prog.lift, Prog.bind_op, Prog.bind_ret, Prog.pure_eq_ret]
  iintro ⟨#HR, Wi2, Fl5, O15, Wo2, Pr102, Cr102⟩ Hk
  iapply (la_wib c 2) $$ [Wi2]
  · iexact Wi2
  iintro %_v Wi2
  iapply (st_wib c 2 (winB (I c) 2) (v21 _)) $$ [Wi2]
  · iexact Wi2
  iintro Wib2
  iapply (ar I K c 5 15 (Memref.whole main_arg6) (woV 2) ((I c).wo 2) rfl (by decide)) $$ [Fl5 O15]
  · isplitr; · iexact HR
    isplitl [Fl5]; · iexact Fl5
    iexact O15
  iintro ⟨V5, A6, W5, O15⟩
  iapply (ld_wo c 2 ((I c).wo 2)) $$ [V5]
  · iexact V5
  iintro V5
  iapply (la_wob c 2) $$ [Wo2]
  · iexact Wo2
  iintro %_v Wo2
  iapply (st_wob c 2 (woutB (I c) 2) (v22 _)) $$ [Wo2]
  · iexact Wo2
  iintro Wob2
  iapply (take_sl I K c 1 0 2 15 (by decide) rfl) $$ [Pr102 Cr102 O15]
  · isplitr; · iexact HR
    isplitl [Pr102]; · iexact Pr102
    isplitl [Cr102]; · iexact Cr102
    iexact O15
  iintro ⟨L102, Zr102, O15⟩
  iapply (ld_sl c 1 2 0 (blk I 1 0 (peer c 2))) $$ [L102]
  · iexact L102
  iintro L102
  rw [v23]
  iapply wp_end
  iapply Hk $$ [Wib2 A6 W5 V5 Wob2 Zr102 O15 L102]
  · isplitl [Wib2]; · iexact Wib2
    isplitl [A6]; · iexact A6
    isplitl [W5]; · iexact W5
    isplitl [V5]; · iexact V5
    isplitl [Wob2]; · iexact Wob2
    isplitl [Zr102]; · iexact Zr102
    isplitl [O15]; · iexact O15
    iexact L102

/-- Part 20 of the body: what it needs and what it leaves. -/
theorem part20_spec (u0 : BitVec 32) (u1 : BitVec 32){Q : _ → sProp (MM F)} :
    iprop(recs I K ∗ posAt F c (some (true, gOf 1 0, 0)) ∗ crd F c (some (true, gOf 1 0, 0)) N32 ∗ owe F c 15 ∗ posAt F c (some (true, gOf 1 0, 1)) ∗ crd F c (some (true, gOf 1 0, 1)) N32)
      ⊢ iprop(((cz F c (some (true, gOf 1 0, 0)) ∗ atv c (slV 1 0 0) fullShare (blk I 1 0 (peer c 0)) ∗ atv c (slV 1 1 0) fullShare (blk I 1 0 (peer c 1)) ∗ cz F c (some (true, gOf 1 0, 1)) ∗ owe F c 15) -∗ Q (addf (addf (part1 I 0 c) (ex (blk I 1 0 (peer c 2)))) (ex (blk I 1 0 (peer c 0)))))
          -∗ WP c ((on (k0_part20 (F := F))) u0 u1 (addf (part1 I 0 c) (ex (blk I 1 0 (peer c 2))))) Q) := by
  rw [k0_part20_eq_skeleton]
  unfold on k0_part20_skel
  simp only [semSignalWord, semWaitWord, Prog.lift, Prog.bind_op, Prog.bind_ret, Prog.pure_eq_ret]
  iintro ⟨#HR, Pr100, Cr100, O15, Pr101, Cr101⟩ Hk
  iapply (take_sl I K c 1 0 0 15 (by decide) rfl) $$ [Pr100 Cr100 O15]
  · isplitr; · iexact HR
    isplitl [Pr100]; · iexact Pr100
    isplitl [Cr100]; · iexact Cr100
    iexact O15
  iintro ⟨L100, Zr100, O15⟩
  iapply (ld_sl c 1 0 0 (blk I 1 0 (peer c 0))) $$ [L100]
  · iexact L100
  iintro L100
  iapply (take_sl I K c 1 0 1 15 (by decide) rfl) $$ [Pr101 Cr101 O15]
  · isplitr; · iexact HR
    isplitl [Pr101]; · iexact Pr101
    isplitl [Cr101]; · iexact Cr101
    iexact O15
  iintro ⟨L101, Zr101, O15⟩
  rw [v24]
  iapply wp_end
  iapply Hk $$ [Zr100 L100 L101 Zr101 O15]
  · isplitl [Zr100]; · iexact Zr100
    isplitl [L100]; · iexact L100
    isplitl [L101]; · iexact L101
    isplitl [Zr101]; · iexact Zr101
    iexact O15

/-- Part 21 of the body: what it needs and what it leaves. -/
theorem part21_spec (u0 : BitVec 32){Q : _ → sProp (MM F)} :
    iprop(recs I K ∗ atv c (slV 1 1 0) fullShare (blk I 1 0 (peer c 1)) ∗ atv c (wibV 2) fullShare (winB (I c) 2) ∗ atv c (wobV 2) fullShare (woutB (I c) 2) ∗ anyv F c (pcV 2 0) ∗ posAt F c (some (true, gOf 1 1, 2)) ∗ crd F c (some (true, gOf 1 1, 2)) N32 ∗ owe F c 15)
      ⊢ iprop(((atv c (slV 1 1 0) fullShare (blk I 1 0 (peer c 1)) ∗ atv c (wibV 2) fullShare (winB (I c) 2) ∗ atv c (wobV 2) fullShare (woutB (I c) 2) ∗ atv c (pcV 2 0) fullShare (blk I 2 0 c) ∗ cz F c (some (true, gOf 1 1, 2)) ∗ owe F c 15 ∗ atv c (slV 1 2 1) fullShare (blk I 1 1 (peer c 2))) -∗ Q (cSl (blk I 1 1 (peer c 2))))
          -∗ WP c ((on (k0_part21 (F := F))) u0 (addf (addf (part1 I 0 c) (ex (blk I 1 0 (peer c 2)))) (ex (blk I 1 0 (peer c 0))))) Q) := by
  rw [k0_part21_eq_skeleton]
  unfold on k0_part21_skel
  simp only [semSignalWord, semWaitWord, Prog.lift, Prog.bind_op, Prog.bind_ret, Prog.pure_eq_ret]
  iintro ⟨#HR, L101, Wib2, Wob2, Q20, Pr112, Cr112, O15⟩ Hk
  iapply (ld_sl c 1 1 0 (blk I 1 0 (peer c 1))) $$ [L101]
  · iexact L101
  iintro L101
  iapply (ld_wib c 2 (winB (I c) 2)) $$ [Wib2]
  · iexact Wib2
  iintro Wib2
  iapply (ld_wob c 2 (woutB (I c) 2)) $$ [Wob2]
  · iexact Wob2
  iintro Wob2
  iapply (la_pc c 2 0) $$ [Q20]
  · iexact Q20
  iintro %_v Q20
  iapply (st_pc c 2 0 (blk I 2 0 c) (v25 _ _ _ _)) $$ [Q20]
  · iexact Q20
  iintro B20
  iapply (take_sl I K c 1 1 2 15 (by decide) rfl) $$ [Pr112 Cr112 O15]
  · isplitr; · iexact HR
    isplitl [Pr112]; · iexact Pr112
    isplitl [Cr112]; · iexact Cr112
    iexact O15
  iintro ⟨L112, Zr112, O15⟩
  iapply (ld_sl c 1 2 1 (blk I 1 1 (peer c 2))) $$ [L112]
  · iexact L112
  iintro L112
  iapply wp_end
  iapply Hk $$ [L101 Wib2 Wob2 B20 Zr112 O15 L112]
  · isplitl [L101]; · iexact L101
    isplitl [Wib2]; · iexact Wib2
    isplitl [Wob2]; · iexact Wob2
    isplitl [B20]; · iexact B20
    isplitl [Zr112]; · iexact Zr112
    isplitl [O15]; · iexact O15
    iexact L112

end Cert.Mlp

end
-- ==== Proof.PartsC.lean ====
/-
  The last parts of the body, effect by effect.
-/
module

public import proofs.«01_k».proof.Proof.PartsB

@[expose] public section

noncomputable section

namespace Cert.Mlp

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (I : Dev nD → Ins F) (K : Dev nD × CI → ℕ) (c : Dev nD)

/-- Part 22 of the body: what it needs and what it leaves. -/
theorem part22_spec (u0 : BitVec 32) (u1 : BitVec 32){Q : _ → sProp (MM F)} :
    iprop(recs I K ∗ posAt F c (some (true, gOf 1 1, 0)) ∗ crd F c (some (true, gOf 1 1, 0)) N32 ∗ owe F c 15 ∗ posAt F c (some (true, gOf 1 1, 1)) ∗ crd F c (some (true, gOf 1 1, 1)) N32)
      ⊢ iprop(((cz F c (some (true, gOf 1 1, 0)) ∗ atv c (slV 1 0 1) fullShare (blk I 1 1 (peer c 0)) ∗ atv c (slV 1 1 1) fullShare (blk I 1 1 (peer c 1)) ∗ cz F c (some (true, gOf 1 1, 1)) ∗ owe F c 15) -∗ Q (addf (addf (part1 I 1 c) (ex (blk I 1 1 (peer c 2)))) (ex (blk I 1 1 (peer c 0)))))
          -∗ WP c ((on (k0_part22 (F := F))) (part1 I 1 c) u0 u1 (cSl (blk I 1 1 (peer c 2)))) Q) := by
  rw [k0_part22_eq_skeleton]
  unfold on k0_part22_skel
  simp only [semSignalWord, semWaitWord, Prog.lift, Prog.bind_op, Prog.bind_ret, Prog.pure_eq_ret]
  iintro ⟨#HR, Pr110, Cr110, O15, Pr111, Cr111⟩ Hk
  iapply (take_sl I K c 1 1 0 15 (by decide) rfl) $$ [Pr110 Cr110 O15]
  · isplitr; · iexact HR
    isplitl [Pr110]; · iexact Pr110
    isplitl [Cr110]; · iexact Cr110
    iexact O15
  iintro ⟨L110, Zr110, O15⟩
  iapply (ld_sl c 1 0 1 (blk I 1 1 (peer c 0))) $$ [L110]
  · iexact L110
  iintro L110
  iapply (take_sl I K c 1 1 1 15 (by decide) rfl) $$ [Pr111 Cr111 O15]
  · isplitr; · iexact HR
    isplitl [Pr111]; · iexact Pr111
    isplitl [Cr111]; · iexact Cr111
    iexact O15
  iintro ⟨L111, Zr111, O15⟩
  rw [v26]
  iapply wp_end
  iapply Hk $$ [Zr110 L110 L111 Zr111 O15]
  · isplitl [Zr110]; · iexact Zr110
    isplitl [L110]; · iexact L110
    isplitl [L111]; · iexact L111
    isplitl [Zr111]; · iexact Zr111
    iexact O15

/-- Part 23 of the body: what it needs and what it leaves. -/
theorem part23_spec (u0 : BitVec 32){Q : _ → sProp (MM F)} :
    iprop(atv c (slV 1 1 1) fullShare (blk I 1 1 (peer c 1)) ∗ atv c (wibV 2) fullShare (winB (I c) 2) ∗ atv c (wobV 2) fullShare (woutB (I c) 2) ∗ anyv F c (pcV 2 1))
      ⊢ iprop((∀ (w0 : BitVec 32), (atv c (slV 1 1 1) fullShare (blk I 1 1 (peer c 1)) ∗ atv c (wibV 2) fullShare (winB (I c) 2) ∗ atv c (wobV 2) fullShare (woutB (I c) 2) ∗ atv c (pcV 2 1) fullShare (blk I 2 1 c)) -∗ Q w0)
          -∗ WP c ((on (k0_part23 (F := F))) u0 (addf (addf (part1 I 1 c) (ex (blk I 1 1 (peer c 2)))) (ex (blk I 1 1 (peer c 0))))) Q) := by
  rw [k0_part23_eq_skeleton]
  unfold on k0_part23_skel
  simp only [semSignalWord, semWaitWord, Prog.lift, Prog.bind_op, Prog.bind_ret, Prog.pure_eq_ret]
  iintro ⟨L111, Wib2, Wob2, Q21⟩ Hk
  iapply (ld_sl c 1 1 1 (blk I 1 1 (peer c 1))) $$ [L111]
  · iexact L111
  iintro L111
  iapply (ld_wib c 2 (winB (I c) 2)) $$ [Wib2]
  · iexact Wib2
  iintro Wib2
  iapply (ld_wob c 2 (woutB (I c) 2)) $$ [Wob2]
  · iexact Wob2
  iintro Wob2
  iapply (la_pc c 2 1) $$ [Q21]
  · iexact Q21
  iintro %_v Q21
  iapply (st_pc c 2 1 (blk I 2 1 c) (v27 _ _ _ _)) $$ [Q21]
  · iexact Q21
  iintro B21
  iapply wp_end
  iapply Hk $$ [L111 Wib2 Wob2 B21]
  · isplitl [L111]; · iexact L111
    isplitl [Wib2]; · iexact Wib2
    isplitl [Wob2]; · iexact Wob2
    iexact B21

/-- Part 24 of the body: what it needs and what it leaves. -/
theorem part24_spec (u0 : BitVec 32) (u1 : BitVec 32){Q : _ → sProp (MM F)} :
    iprop(recs I K ∗ sendTok F c 4 1 ∗ owe F c 15 ∗ atv c (rwV (peer c 1)) fullShare (rows I (peer c 1) c) ∗ anyv F (peer c 1) (s2V 1))
      ⊢ iprop((∀ (w0 : BitVec 32), (crd F c (some (false, 4, 1)) N16 ∗ owe F c 16) -∗ Q w0)
          -∗ WP c ((on (k0_part24 (F := F))) c u0 u1) Q) := by
  rw [k0_part24_eq_skeleton]
  unfold on k0_part24_skel
  simp only [semSignalWord, semWaitWord, Prog.lift, Prog.bind_op, Prog.bind_ret, Prog.pure_eq_ret]
  iintro ⟨#HR, K41, O15, R1, T41⟩ Hk
  iapply (hop_rw I K c 1 15 rfl (dev16 c) (off1_1 c) rfl rfl) $$ [K41 O15 R1 T41]
  · isplitr; · iexact HR
    isplitl [K41]; · iexact K41
    isplitl [O15]; · iexact O15
    isplitl [R1]; · iexact R1
    iexact T41
  iintro ⟨Cs41, O16⟩
  iapply wp_end
  iapply Hk $$ [Cs41 O16]
  · isplitl [Cs41]; · iexact Cs41
    iexact O16

/-- Part 25 of the body: what it needs and what it leaves. -/
theorem part25_spec (u0 : BitVec 32){Q : _ → sProp (MM F)} :
    iprop(recs I K ∗ sendTok F c 4 0 ∗ owe F c 16 ∗ atv c (rwV (peer c 0)) fullShare (rows I (peer c 0) c) ∗ anyv F (peer c 0) (s2V 2) ∗ sendTok F c 4 2 ∗ atv c (rwV (peer c 2)) fullShare (rows I (peer c 2) c) ∗ anyv F (peer c 2) (s2V 0) ∗ atv c (rwV c) fullShare (rows I c c))
      ⊢ iprop((∀ (w0 : BitVec 32), (crd F c (some (false, 4, 0)) N16 ∗ crd F c (some (false, 4, 2)) N16 ∗ owe F c 18 ∗ atv c (rwV c) fullShare (rows I c c)) -∗ Q ⟨w0, ex2 (rows I c c)⟩)
          -∗ WP c ((on (k0_part25 (F := F))) c u0) Q) := by
  rw [k0_part25_eq_skeleton]
  unfold on k0_part25_skel
  simp only [semSignalWord, semWaitWord, Prog.lift, Prog.bind_op, Prog.bind_ret, Prog.pure_eq_ret]
  iintro ⟨#HR, K40, O16, R0, T40, K42, R2, T42, Rown⟩ Hk
  iapply (hop_rw I K c 0 16 rfl (dev17 c) (off1_0 c) rfl rfl) $$ [K40 O16 R0 T40]
  · isplitr; · iexact HR
    isplitl [K40]; · iexact K40
    isplitl [O16]; · iexact O16
    isplitl [R0]; · iexact R0
    iexact T40
  iintro ⟨Cs40, O17⟩
  iapply (hop_rw I K c 2 17 rfl (dev18 c) (off1_2 c) rfl rfl) $$ [K42 O17 R2 T42]
  · isplitr; · iexact HR
    isplitl [K42]; · iexact K42
    isplitl [O17]; · iexact O17
    isplitl [R2]; · iexact R2
    iexact T42
  iintro ⟨Cs42, O18⟩
  iapply (wp_ldrow c c (rows I c c) (k0_off2_eq c) (k0_off2_inb c) fullShare) $$ [Rown]
  · iexact Rown
  iintro Rown
  rw [v28]
  iapply wp_end
  iapply Hk $$ [Cs40 Cs42 O18 Rown]
  · isplitl [Cs40]; · iexact Cs40
    isplitl [Cs42]; · iexact Cs42
    isplitl [O18]; · iexact O18
    iexact Rown

/-- Part 26 of the body: what it needs and what it leaves. -/
theorem part26_spec (u0 : BitVec 32) (u1 : BitVec 32){Q : _ → sProp (MM F)} :
    iprop(recs I K ∗ posAt F c (some (true, 4, 2)) ∗ crd F c (some (true, 4, 2)) N16 ∗ owe F c 18 ∗ posAt F c (some (true, 4, 0)) ∗ crd F c (some (true, 4, 0)) N16)
      ⊢ iprop(((cz F c (some (true, 4, 2)) ∗ atv c (s2V 2) fullShare (rows I c (peer c 2)) ∗ cz F c (some (true, 4, 0)) ∗ owe F c 18 ∗ atv c (s2V 0) fullShare (rows I c (peer c 0))) -∗ Q (addf (addf (ex2 (rows I c c)) (ex2 (rows I c (peer c 2)))) (ex2 (rows I c (peer c 0)))))
          -∗ WP c ((on (k0_part26 (F := F))) c u0 u1 (ex2 (rows I c c))) Q) := by
  rw [k0_part26_eq_skeleton]
  unfold on k0_part26_skel
  simp only [semSignalWord, semWaitWord, Prog.lift, Prog.bind_op, Prog.bind_ret, Prog.pure_eq_ret]
  iintro ⟨#HR, Pr42, Cr42, O18, Pr40, Cr40⟩ Hk
  iapply (take_s2 I K c 2 18 (by decide) rfl) $$ [Pr42 Cr42 O18]
  · isplitr; · iexact HR
    isplitl [Pr42]; · iexact Pr42
    isplitl [Cr42]; · iexact Cr42
    iexact O18
  iintro ⟨L42, Zr42, O18⟩
  iapply (ld_s2 c 2 (rows I c (peer c 2))) $$ [L42]
  · iexact L42
  iintro L42
  iapply (take_s2 I K c 0 18 (by decide) rfl) $$ [Pr40 Cr40 O18]
  · isplitr; · iexact HR
    isplitl [Pr40]; · iexact Pr40
    isplitl [Cr40]; · iexact Cr40
    iexact O18
  iintro ⟨L40, Zr40, O18⟩
  iapply (ld_s2 c 0 (rows I c (peer c 0))) $$ [L40]
  · iexact L40
  iintro L40
  rw [v29]
  iapply wp_end
  iapply Hk $$ [Zr42 L42 Zr40 O18 L40]
  · isplitl [Zr42]; · iexact Zr42
    isplitl [L42]; · iexact L42
    isplitl [Zr40]; · iexact Zr40
    isplitl [O18]; · iexact O18
    iexact L40

/-- Part 27 of the body: what it needs and what it leaves. -/
theorem part27_spec (u0 : BitVec 32){Q : _ → sProp (MM F)} :
    iprop(recs I K ∗ posAt F c (some (true, 4, 1)) ∗ crd F c (some (true, 4, 1)) N16 ∗ owe F c 18 ∗ anyv F c outM ∗ posAt F c (some (false, gOf 0 0, 1)) ∗ crd F c (some (false, gOf 0 0, 1)) N32)
      ⊢ iprop(((cz F c (some (true, 4, 1)) ∗ atv c (s2V 1) fullShare (rows I c (peer c 1)) ∗ atv c outM fullShare (outV I c) ∗ atv c (pcV 0 0) (third 1) (blk I 0 0 c) ∗ cz F c (some (false, gOf 0 0, 1)) ∗ owe F c 18) -∗ Q ⟨⟩)
          -∗ WP c ((on (k0_part27 (F := F))) c u0 (addf (addf (ex2 (rows I c c)) (ex2 (rows I c (peer c 2)))) (ex2 (rows I c (peer c 0))))) Q) := by
  rw [k0_part27_eq_skeleton]
  unfold on k0_part27_skel
  simp only [semSignalWord, semWaitWord, Prog.lift, Prog.bind_op, Prog.bind_ret, Prog.pure_eq_ret]
  iintro ⟨#HR, Pr41, Cr41, O18, out, Ps001, Cs001⟩ Hk
  iapply (take_s2 I K c 1 18 (by decide) rfl) $$ [Pr41 Cr41 O18]
  · isplitr; · iexact HR
    isplitl [Pr41]; · iexact Pr41
    isplitl [Cr41]; · iexact Cr41
    iexact O18
  iintro ⟨L41, Zr41, O18⟩
  iapply (ld_s2 c 1 (rows I c (peer c 1))) $$ [L41]
  · iexact L41
  iintro L41
  iapply (la_all c outM (fun a => by fin_cases a <;> rfl)) $$ [out]
  · iexact out
  iintro %_v out
  iapply (st_all c outM (fun a => by fin_cases a <;> rfl) (outV I c) (v30 _ _)) $$ [out]
  · iexact out
  iintro outV
  iapply (take_pc I K c 0 0 1 18 (by decide) rfl) $$ [Ps001 Cs001 O18]
  · isplitr; · iexact HR
    isplitl [Ps001]; · iexact Ps001
    isplitl [Cs001]; · iexact Cs001
    iexact O18
  iintro ⟨B00t1, Zs001, O18⟩
  iapply wp_end
  iapply Hk $$ [Zr41 L41 outV B00t1 Zs001 O18]
  · isplitl [Zr41]; · iexact Zr41
    isplitl [L41]; · iexact L41
    isplitl [outV]; · iexact outV
    isplitl [B00t1]; · iexact B00t1
    isplitl [Zs001]; · iexact Zs001
    iexact O18

/-- Part 28 of the body: what it needs and what it leaves. -/
theorem part28_spec {Q : _ → sProp (MM F)} :
    iprop(recs I K ∗ posAt F c (some (false, gOf 0 0, 0)) ∗ crd F c (some (false, gOf 0 0, 0)) N32 ∗ owe F c 18 ∗ posAt F c (some (false, gOf 0 0, 2)) ∗ crd F c (some (false, gOf 0 0, 2)) N32 ∗ posAt F c (some (false, gOf 0 1, 1)) ∗ crd F c (some (false, gOf 0 1, 1)) N32)
      ⊢ iprop(((atv c (pcV 0 0) (third 0) (blk I 0 0 c) ∗ cz F c (some (false, gOf 0 0, 0)) ∗ atv c (pcV 0 0) (third 2) (blk I 0 0 c) ∗ cz F c (some (false, gOf 0 0, 2)) ∗ atv c (pcV 0 1) (third 1) (blk I 0 1 c) ∗ cz F c (some (false, gOf 0 1, 1)) ∗ owe F c 18) -∗ Q ⟨⟩)
          -∗ WP c ((on (k0_part28 (F := F))) ) Q) := by
  rw [k0_part28_eq_skeleton]
  unfold on k0_part28_skel
  simp only [semSignalWord, semWaitWord, Prog.lift, Prog.bind_op, Prog.bind_ret, Prog.pure_eq_ret]
  iintro ⟨#HR, Ps000, Cs000, O18, Ps002, Cs002, Ps011, Cs011⟩ Hk
  iapply (take_pc I K c 0 0 0 18 (by decide) rfl) $$ [Ps000 Cs000 O18]
  · isplitr; · iexact HR
    isplitl [Ps000]; · iexact Ps000
    isplitl [Cs000]; · iexact Cs000
    iexact O18
  iintro ⟨B00t0, Zs000, O18⟩
  iapply (take_pc I K c 0 0 2 18 (by decide) rfl) $$ [Ps002 Cs002 O18]
  · isplitr; · iexact HR
    isplitl [Ps002]; · iexact Ps002
    isplitl [Cs002]; · iexact Cs002
    iexact O18
  iintro ⟨B00t2, Zs002, O18⟩
  iapply (take_pc I K c 0 1 1 18 (by decide) rfl) $$ [Ps011 Cs011 O18]
  · isplitr; · iexact HR
    isplitl [Ps011]; · iexact Ps011
    isplitl [Cs011]; · iexact Cs011
    iexact O18
  iintro ⟨B01t1, Zs011, O18⟩
  iapply wp_end
  iapply Hk $$ [B00t0 Zs000 B00t2 Zs002 B01t1 Zs011 O18]
  · isplitl [B00t0]; · iexact B00t0
    isplitl [Zs000]; · iexact Zs000
    isplitl [B00t2]; · iexact B00t2
    isplitl [Zs002]; · iexact Zs002
    isplitl [B01t1]; · iexact B01t1
    isplitl [Zs011]; · iexact Zs011
    iexact O18

/-- Part 29 of the body: what it needs and what it leaves. -/
theorem part29_spec {Q : _ → sProp (MM F)} :
    iprop(recs I K ∗ posAt F c (some (false, gOf 0 1, 0)) ∗ crd F c (some (false, gOf 0 1, 0)) N32 ∗ owe F c 18 ∗ posAt F c (some (false, gOf 0 1, 2)) ∗ crd F c (some (false, gOf 0 1, 2)) N32 ∗ posAt F c (some (false, gOf 1 0, 1)) ∗ crd F c (some (false, gOf 1 0, 1)) N32)
      ⊢ iprop(((atv c (pcV 0 1) (third 0) (blk I 0 1 c) ∗ cz F c (some (false, gOf 0 1, 0)) ∗ atv c (pcV 0 1) (third 2) (blk I 0 1 c) ∗ cz F c (some (false, gOf 0 1, 2)) ∗ atv c (pcV 1 0) (third 1) (blk I 1 0 c) ∗ cz F c (some (false, gOf 1 0, 1)) ∗ owe F c 18) -∗ Q ⟨⟩)
          -∗ WP c ((on (k0_part29 (F := F))) ) Q) := by
  rw [k0_part29_eq_skeleton]
  unfold on k0_part29_skel
  simp only [semSignalWord, semWaitWord, Prog.lift, Prog.bind_op, Prog.bind_ret, Prog.pure_eq_ret]
  iintro ⟨#HR, Ps010, Cs010, O18, Ps012, Cs012, Ps101, Cs101⟩ Hk
  iapply (take_pc I K c 0 1 0 18 (by decide) rfl) $$ [Ps010 Cs010 O18]
  · isplitr; · iexact HR
    isplitl [Ps010]; · iexact Ps010
    isplitl [Cs010]; · iexact Cs010
    iexact O18
  iintro ⟨B01t0, Zs010, O18⟩
  iapply (take_pc I K c 0 1 2 18 (by decide) rfl) $$ [Ps012 Cs012 O18]
  · isplitr; · iexact HR
    isplitl [Ps012]; · iexact Ps012
    isplitl [Cs012]; · iexact Cs012
    iexact O18
  iintro ⟨B01t2, Zs012, O18⟩
  iapply (take_pc I K c 1 0 1 18 (by decide) rfl) $$ [Ps101 Cs101 O18]
  · isplitr; · iexact HR
    isplitl [Ps101]; · iexact Ps101
    isplitl [Cs101]; · iexact Cs101
    iexact O18
  iintro ⟨B10t1, Zs101, O18⟩
  iapply wp_end
  iapply Hk $$ [B01t0 Zs010 B01t2 Zs012 B10t1 Zs101 O18]
  · isplitl [B01t0]; · iexact B01t0
    isplitl [Zs010]; · iexact Zs010
    isplitl [B01t2]; · iexact B01t2
    isplitl [Zs012]; · iexact Zs012
    isplitl [B10t1]; · iexact B10t1
    isplitl [Zs101]; · iexact Zs101
    iexact O18

/-- Part 30 of the body: what it needs and what it leaves. -/
theorem part30_spec {Q : _ → sProp (MM F)} :
    iprop(recs I K ∗ posAt F c (some (false, gOf 1 0, 0)) ∗ crd F c (some (false, gOf 1 0, 0)) N32 ∗ owe F c 18 ∗ posAt F c (some (false, gOf 1 0, 2)) ∗ crd F c (some (false, gOf 1 0, 2)) N32 ∗ posAt F c (some (false, gOf 1 1, 1)) ∗ crd F c (some (false, gOf 1 1, 1)) N32)
      ⊢ iprop(((atv c (pcV 1 0) (third 0) (blk I 1 0 c) ∗ cz F c (some (false, gOf 1 0, 0)) ∗ atv c (pcV 1 0) (third 2) (blk I 1 0 c) ∗ cz F c (some (false, gOf 1 0, 2)) ∗ atv c (pcV 1 1) (third 1) (blk I 1 1 c) ∗ cz F c (some (false, gOf 1 1, 1)) ∗ owe F c 18) -∗ Q ⟨⟩)
          -∗ WP c ((on (k0_part30 (F := F))) ) Q) := by
  rw [k0_part30_eq_skeleton]
  unfold on k0_part30_skel
  simp only [semSignalWord, semWaitWord, Prog.lift, Prog.bind_op, Prog.bind_ret, Prog.pure_eq_ret]
  iintro ⟨#HR, Ps100, Cs100, O18, Ps102, Cs102, Ps111, Cs111⟩ Hk
  iapply (take_pc I K c 1 0 0 18 (by decide) rfl) $$ [Ps100 Cs100 O18]
  · isplitr; · iexact HR
    isplitl [Ps100]; · iexact Ps100
    isplitl [Cs100]; · iexact Cs100
    iexact O18
  iintro ⟨B10t0, Zs100, O18⟩
  iapply (take_pc I K c 1 0 2 18 (by decide) rfl) $$ [Ps102 Cs102 O18]
  · isplitr; · iexact HR
    isplitl [Ps102]; · iexact Ps102
    isplitl [Cs102]; · iexact Cs102
    iexact O18
  iintro ⟨B10t2, Zs102, O18⟩
  iapply (take_pc I K c 1 1 1 18 (by decide) rfl) $$ [Ps111 Cs111 O18]
  · isplitr; · iexact HR
    isplitl [Ps111]; · iexact Ps111
    isplitl [Cs111]; · iexact Cs111
    iexact O18
  iintro ⟨B11t1, Zs111, O18⟩
  iapply wp_end
  iapply Hk $$ [B10t0 Zs100 B10t2 Zs102 B11t1 Zs111 O18]
  · isplitl [B10t0]; · iexact B10t0
    isplitl [Zs100]; · iexact Zs100
    isplitl [B10t2]; · iexact B10t2
    isplitl [Zs102]; · iexact Zs102
    isplitl [B11t1]; · iexact B11t1
    isplitl [Zs111]; · iexact Zs111
    iexact O18

/-- Part 31 of the body: what it needs and what it leaves. -/
theorem part31_spec {Q : _ → sProp (MM F)} :
    iprop(recs I K ∗ posAt F c (some (false, gOf 1 1, 0)) ∗ crd F c (some (false, gOf 1 1, 0)) N32 ∗ owe F c 18 ∗ posAt F c (some (false, gOf 1 1, 2)) ∗ crd F c (some (false, gOf 1 1, 2)) N32 ∗ posAt F c (some (false, 4, 1)) ∗ crd F c (some (false, 4, 1)) N16)
      ⊢ iprop(((atv c (pcV 1 1) (third 0) (blk I 1 1 c) ∗ cz F c (some (false, gOf 1 1, 0)) ∗ atv c (pcV 1 1) (third 2) (blk I 1 1 c) ∗ cz F c (some (false, gOf 1 1, 2)) ∗ atv c (rwV (peer c 1)) fullShare (rows I (peer c 1) c) ∗ cz F c (some (false, 4, 1)) ∗ owe F c 18) -∗ Q ⟨⟩)
          -∗ WP c ((on (k0_part31 (F := F))) c) Q) := by
  rw [k0_part31_eq_skeleton]
  unfold on k0_part31_skel
  simp only [semSignalWord, semWaitWord, Prog.lift, Prog.bind_op, Prog.bind_ret, Prog.pure_eq_ret]
  iintro ⟨#HR, Ps110, Cs110, O18, Ps112, Cs112, Ps41, Cs41⟩ Hk
  iapply (take_pc I K c 1 1 0 18 (by decide) rfl) $$ [Ps110 Cs110 O18]
  · isplitr; · iexact HR
    isplitl [Ps110]; · iexact Ps110
    isplitl [Cs110]; · iexact Cs110
    iexact O18
  iintro ⟨B11t0, Zs110, O18⟩
  iapply (take_pc I K c 1 1 2 18 (by decide) rfl) $$ [Ps112 Cs112 O18]
  · isplitr; · iexact HR
    isplitl [Ps112]; · iexact Ps112
    isplitl [Cs112]; · iexact Cs112
    iexact O18
  iintro ⟨B11t2, Zs112, O18⟩
  iapply (take_rw I K c 1 18 (by decide) rfl) $$ [Ps41 Cs41 O18]
  · isplitr; · iexact HR
    isplitl [Ps41]; · iexact Ps41
    isplitl [Cs41]; · iexact Cs41
    iexact O18
  iintro ⟨R1, Zs41, O18⟩
  iapply wp_end
  iapply Hk $$ [B11t0 Zs110 B11t2 Zs112 R1 Zs41 O18]
  · isplitl [B11t0]; · iexact B11t0
    isplitl [Zs110]; · iexact Zs110
    isplitl [B11t2]; · iexact B11t2
    isplitl [Zs112]; · iexact Zs112
    isplitl [R1]; · iexact R1
    isplitl [Zs41]; · iexact Zs41
    iexact O18

end Cert.Mlp

end
-- ==== Proof.Split.lean ====
/-
  The scratch buffers and their pieces: each buffer held whole is its pieces, and its pieces join back to it.
-/
module

public import proofs.«01_k».proof.Proof.Rules
public import Idealize.ShloMosaic.Lib.Ring

@[expose] public section

noncomputable section

namespace Cert.Mlp

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- Members weakened one by one. -/
theorem big_mono {B : Type} {S : Finset B} {Φ Ψ : B → sProp (MM F)} (h : ∀ b, Φ b ⊢ Ψ b) : bigSep S Φ ⊢ bigSep S Ψ :=
  bigSep_mono fun b _ => h b

/-! ## A buffer split by a key of its indices -/

section Key

variable {ℓ : Loc nD τ sig} {B : Type} [Fintype B] [DecidableEq B] (P : B → Finset (Idx ℓ)) (κ : Idx ℓ → B)
  (h : ∀ b i, i ∈ P b ↔ κ i = b)

include h in
theorem key_disj (b b' : B) (hb : b ≠ b') : Disjoint (P b) (P b') := by
  rw [Finset.disjoint_left]
  intro i hi hi'
  exact hb (((h b i).mp hi).symm.trans ((h b' i).mp hi'))

include h in
theorem key_cover : Finset.univ.biUnion P = Finset.univ := by
  ext i
  simp only [Finset.mem_biUnion, Finset.mem_univ, true_and, iff_true]
  exact ⟨κ i, (h _ i).mpr rfl⟩

include h in
/-- A buffer held whole is held piece by piece. -/
theorem key_split : iprop(∃ f : Buf (Elt F) ℓ, ℓ ↦{fullShare} f) ⊢ (bigSep Finset.univ fun b => iprop(∃ f : Buf (Elt F) ℓ, ℓ ↦[P b]{fullShare} f) : sProp (MM F)) := by
  iintro ⟨%f, H⟩
  have e := Ring.pointsTo_blocks (Val := Elt F) (Ix := Unit) (Name := ℕ) (U := UU) (Lvl := ℕ) P (key_disj P κ h) (key_cover P κ h) (q := fullShare) f
  have he : ∀ b, (iprop(ℓ ↦[P b]{fullShare} f) : sProp (MM F)) ⊢ iprop(∃ f : Buf (Elt F) ℓ, ℓ ↦[P b]{fullShare} f) := fun b => by
    iintro H; iexists f; iexact H
  iapply (big_mono he)
  iapply (Entails.of_eq e)
  iexact H

include h in
/-- Pieces held at any contents are the buffer held whole at some. -/
theorem key_join (f₀ : Buf (Elt F) ℓ) : (bigSep Finset.univ fun b => iprop(∃ f : Buf (Elt F) ℓ, ℓ ↦[P b]{fullShare} f) : sProp (MM F)) ⊢ iprop(∃ f : Buf (Elt F) ℓ, ℓ ↦{fullShare} f) :=
  Ring.pointsTo_blocks_join_exists (Val := Elt F) (Ix := Unit) (Name := ℕ) (U := UU) (Lvl := ℕ) P (key_disj P κ h) (key_cover P κ h) f₀

end Key

/-! ## The elements of each piece -/

theorem pcV_set (r : Fin 3) (s : Fin 2) : (pcV r s).view.set = (Rect.unit (s := S3x64x512) ![r.val, 32 * s.val, 0] S1x32x512.size (pc_inb r s)).set :=
  (View.set_reshape _ _).trans (View.set_slice_whole _ _)
theorem rwV_set (i : Fin 4) : (rwV i).view.set = (Rect.unit (s := S3x64x512) ![2, 16 * i.val, 0] S1x16x512.size (rw_inb i)).set :=
  (View.set_reshape _ _).trans (View.set_slice_whole _ _)
theorem slV_set (r : Fin 2) (j : Fin 3) (s : Fin 2) : (slV r j s).view.set
    = (Rect.unit (s := S2x3x64x512) ![r.val, j.val, 32 * s.val, 0] S1x1x32x512.size (sl_inb r j s)).set :=
  (View.set_reshape _ _).trans (View.set_slice_whole _ _)
theorem s2V_set (j : Fin 3) : (s2V j).view.set = (Rect.unit (s := S3x16x512) ![j.val, 0, 0] S1x16x512.size (s2_inb j)).set :=
  (View.set_reshape _ _).trans (View.set_slice_whole _ _)
theorem wiV_set (r : Fin 3) : (wiV r).view.set = (Rect.unit (s := S3x512x1024) ![r.val, 0, 0] S1x512x1024.size (wi_inb r)).set :=
  (View.set_reshape _ _).trans (View.set_slice_whole _ _)
theorem woV_set (r : Fin 3) : (woV r).view.set = (Rect.unit (s := S3x1024x512) ![r.val, 0, 0] S1x1024x512.size (wo_inb r)).set :=
  (View.set_reshape _ _).trans (View.set_slice_whole _ _)
theorem wibV_set (r : Fin 3) : (wibV r).view.set = (Rect.unit (s := S3x512x1024) ![r.val, 0, 0] S1x512x1024.size (wi_inb r)).set :=
  (View.set_reshape _ _).trans (View.set_slice_whole _ _)
theorem wobV_set (r : Fin 3) : (wobV r).view.set = (Rect.unit (s := S3x1024x512) ![r.val, 0, 0] S1x1024x512.size (wo_inb r)).set :=
  (View.set_reshape _ _).trans (View.set_slice_whole _ _)

theorem pc_mem (r : Fin 3) (s : Fin 2) (i : S3x64x512.Idx) :
    i ∈ (Rect.unit (s := S3x64x512) ![r.val, 32 * s.val, 0] S1x32x512.size (pc_inb r s)).set ↔ (i 0).val = r.val ∧ (i 1).val / 32 = s.val := by
  rw [Rect.mem_set_unit]
  have h1 : (i 1).val < 64 := (i 1).isLt
  have h2 : (i 2).val < 512 := (i 2).isLt
  constructor
  · intro h
    have a0 : r.val ≤ (i 0).val ∧ (i 0).val < r.val + 1 := h 0
    have a1 : 32 * s.val ≤ (i 1).val ∧ (i 1).val < 32 * s.val + 32 := h 1
    omega
  · rintro ⟨e0, e1⟩ a
    fin_cases a
    · show r.val ≤ (i 0).val ∧ (i 0).val < r.val + 1
      omega
    · show 32 * s.val ≤ (i 1).val ∧ (i 1).val < 32 * s.val + 32
      omega
    · show 0 ≤ (i 2).val ∧ (i 2).val < 0 + 512
      omega

theorem rw_mem (k : Fin 4) (i : S3x64x512.Idx) :
    i ∈ (Rect.unit (s := S3x64x512) ![2, 16 * k.val, 0] S1x16x512.size (rw_inb k)).set ↔ (i 0).val = 2 ∧ (i 1).val / 16 = k.val := by
  rw [Rect.mem_set_unit]
  have h1 : (i 1).val < 64 := (i 1).isLt
  have h2 : (i 2).val < 512 := (i 2).isLt
  constructor
  · intro h
    have a0 : 2 ≤ (i 0).val ∧ (i 0).val < 2 + 1 := h 0
    have a1 : 16 * k.val ≤ (i 1).val ∧ (i 1).val < 16 * k.val + 16 := h 1
    omega
  · rintro ⟨e0, e1⟩ a
    fin_cases a
    · show 2 ≤ (i 0).val ∧ (i 0).val < 2 + 1
      omega
    · show 16 * k.val ≤ (i 1).val ∧ (i 1).val < 16 * k.val + 16
      omega
    · show 0 ≤ (i 2).val ∧ (i 2).val < 0 + 512
      omega

theorem sl_mem (r : Fin 2) (j : Fin 3) (s : Fin 2) (i : S2x3x64x512.Idx) :
    i ∈ (Rect.unit (s := S2x3x64x512) ![r.val, j.val, 32 * s.val, 0] S1x1x32x512.size (sl_inb r j s)).set
      ↔ (i 0).val = r.val ∧ (i 1).val = j.val ∧ (i 2).val / 32 = s.val := by
  rw [Rect.mem_set_unit]
  have h2 : (i 2).val < 64 := (i 2).isLt
  have h3 : (i 3).val < 512 := (i 3).isLt
  constructor
  · intro h
    have a0 : r.val ≤ (i 0).val ∧ (i 0).val < r.val + 1 := h 0
    have a1 : j.val ≤ (i 1).val ∧ (i 1).val < j.val + 1 := h 1
    have a2 : 32 * s.val ≤ (i 2).val ∧ (i 2).val < 32 * s.val + 32 := h 2
    omega
  · rintro ⟨e0, e1, e2⟩ a
    fin_cases a
    · show r.val ≤ (i 0).val ∧ (i 0).val < r.val + 1
      omega
    · show j.val ≤ (i 1).val ∧ (i 1).val < j.val + 1
      omega
    · show 32 * s.val ≤ (i 2).val ∧ (i 2).val < 32 * s.val + 32
      omega
    · show 0 ≤ (i 3).val ∧ (i 3).val < 0 + 512
      omega

/-- A plane of a buffer of three axes: the indices whose first coordinate is the plane's number. -/
theorem plane_mem (n m l : ℕ) (r : ℕ) (inb : ∀ a, (![r, 0, 0] : Fin 3 → ℕ) a + (⟨3, ![1, m, l]⟩ : Shape).size a ≤ (⟨3, ![n, m, l]⟩ : Shape).size a)
    (i : (⟨3, ![n, m, l]⟩ : Shape).Idx) :
    i ∈ (Rect.unit (s := ⟨3, ![n, m, l]⟩) ![r, 0, 0] (⟨3, ![1, m, l]⟩ : Shape).size inb).set ↔ (i 0).val = r := by
  rw [Rect.mem_set_unit]
  have h1 : (i 1).val < m := (i 1).isLt
  have h2 : (i 2).val < l := (i 2).isLt
  constructor
  · intro h
    have a0 : r ≤ (i 0).val ∧ (i 0).val < r + 1 := h 0
    omega
  · intro e0 a
    fin_cases a
    · show r ≤ (i 0).val ∧ (i 0).val < r + 1
      omega
    · show 0 ≤ (i 1).val ∧ (i 1).val < 0 + m
      omega
    · show 0 ≤ (i 2).val ∧ (i 2).val < 0 + l
      omega

/-! ## The keys -/

def kPc (i : S3x64x512.Idx) : Fin 3 × Fin 2 := (i 0, ⟨(i 1).val / 32, by have h : (i 1).val < 64 := (i 1).isLt; omega⟩)
def kSl (i : S2x3x64x512.Idx) : Fin 2 × Fin 3 × Fin 2 := (i 0, i 1, ⟨(i 2).val / 32, by have h : (i 2).val < 64 := (i 2).isLt; omega⟩)

theorem kPc_iff (b : Fin 3 × Fin 2) (i : S3x64x512.Idx) : i ∈ (pcV b.1 b.2).view.set ↔ kPc i = b := by
  obtain ⟨r, s⟩ := b
  rw [pcV_set]
  refine (pc_mem r s i).trans ?_
  exact ⟨fun h => Prod.ext (Fin.ext h.1) (Fin.ext h.2), fun h => ⟨congrArg (fun x => x.1.val) h, congrArg (fun x => x.2.val) h⟩⟩

theorem kSl_iff (b : Fin 2 × Fin 3 × Fin 2) (i : S2x3x64x512.Idx) : i ∈ (slV b.1 b.2.1 b.2.2).view.set ↔ kSl i = b := by
  obtain ⟨r, j, s⟩ := b
  rw [slV_set]
  refine (sl_mem r j s i).trans ?_
  exact ⟨fun h => Prod.ext (Fin.ext h.1) (Prod.ext (Fin.ext h.2.1) (Fin.ext h.2.2)),
    fun h => ⟨congrArg (fun x => x.1.val) h, congrArg (fun x => x.2.1.val) h, congrArg (fun x => x.2.2.val) h⟩⟩

theorem kS2_iff (b : Fin 3) (i : S3x16x512.Idx) : i ∈ (s2V b).view.set ↔ (i 0 : Fin 3) = b := by
  rw [s2V_set]; exact (plane_mem 3 16 512 b.val _ i).trans Fin.ext_iff.symm
theorem kWi_iff (b : Fin 3) (i : S3x512x1024.Idx) : i ∈ (wiV b).view.set ↔ (i 0 : Fin 3) = b := by
  rw [wiV_set]; exact (plane_mem 3 512 1024 b.val _ i).trans Fin.ext_iff.symm
theorem kWo_iff (b : Fin 3) (i : S3x1024x512.Idx) : i ∈ (woV b).view.set ↔ (i 0 : Fin 3) = b := by
  rw [woV_set]; exact (plane_mem 3 1024 512 b.val _ i).trans Fin.ext_iff.symm
theorem kWib_iff (b : Fin 3) (i : S3x512x1024.Idx) : i ∈ (wibV b).view.set ↔ (i 0 : Fin 3) = b := by
  rw [wibV_set]; exact (plane_mem 3 512 1024 b.val _ i).trans Fin.ext_iff.symm
theorem kWob_iff (b : Fin 3) (i : S3x1024x512.Idx) : i ∈ (wobV b).view.set ↔ (i 0 : Fin 3) = b := by
  rw [wobV_set]; exact (plane_mem 3 1024 512 b.val _ i).trans Fin.ext_iff.symm

/-! ## The buffers -/

variable (c : Dev nD)

/-- A buffer of device `c` held whole at some contents. -/
abbrev someBuf (F : FTy → Type) (c : Dev nD) (b : Ref sig .tc) : sProp (MM F) := iprop(∃ f : Buf (Elt F) ((c : Thread nD τ).loc b), ((c : Thread nD τ).loc b) ↦{fullShare} f)

theorem part_split : someBuf F c cc0_scratch0 ⊢ bigSep Finset.univ fun b : Fin 3 × Fin 2 => anyv F c (pcV b.1 b.2) :=
  key_split (ℓ := (c : Thread nD τ).loc cc0_scratch0) (fun b : Fin 3 × Fin 2 => (pcV b.1 b.2).view.set) kPc kPc_iff
theorem part_join (f₀ : Buf (Elt F) ((c : Thread nD τ).loc cc0_scratch0)) : (bigSep Finset.univ fun b : Fin 3 × Fin 2 => anyv F c (pcV b.1 b.2)) ⊢ someBuf F c cc0_scratch0 :=
  key_join (ℓ := (c : Thread nD τ).loc cc0_scratch0) (fun b : Fin 3 × Fin 2 => (pcV b.1 b.2).view.set) kPc kPc_iff f₀
theorem comm_split : someBuf F c cc0_scratch1 ⊢ bigSep Finset.univ fun b : Fin 2 × Fin 3 × Fin 2 => anyv F c (slV b.1 b.2.1 b.2.2) :=
  key_split (ℓ := (c : Thread nD τ).loc cc0_scratch1) (fun b : Fin 2 × Fin 3 × Fin 2 => (slV b.1 b.2.1 b.2.2).view.set) kSl kSl_iff
theorem comm_join (f₀ : Buf (Elt F) ((c : Thread nD τ).loc cc0_scratch1)) : (bigSep Finset.univ fun b : Fin 2 × Fin 3 × Fin 2 => anyv F c (slV b.1 b.2.1 b.2.2)) ⊢ someBuf F c cc0_scratch1 :=
  key_join (ℓ := (c : Thread nD τ).loc cc0_scratch1) (fun b : Fin 2 × Fin 3 × Fin 2 => (slV b.1 b.2.1 b.2.2).view.set) kSl kSl_iff f₀
theorem comm2_split : someBuf F c cc0_scratch2 ⊢ bigSep Finset.univ fun b : Fin 3 => anyv F c (s2V b) :=
  key_split (ℓ := (c : Thread nD τ).loc cc0_scratch2) (fun b : Fin 3 => (s2V b).view.set) (fun i => i (0 : Fin 3)) kS2_iff
theorem comm2_join (f₀ : Buf (Elt F) ((c : Thread nD τ).loc cc0_scratch2)) : (bigSep Finset.univ fun b : Fin 3 => anyv F c (s2V b)) ⊢ someBuf F c cc0_scratch2 :=
  key_join (ℓ := (c : Thread nD τ).loc cc0_scratch2) (fun b : Fin 3 => (s2V b).view.set) (fun i => i (0 : Fin 3)) kS2_iff f₀
theorem wins_split : someBuf F c cc0_scratch4 ⊢ bigSep Finset.univ fun b : Fin 3 => anyv F c (wiV b) :=
  key_split (ℓ := (c : Thread nD τ).loc cc0_scratch4) (fun b : Fin 3 => (wiV b).view.set) (fun i => i (0 : Fin 3)) kWi_iff
theorem wins_join (f₀ : Buf (Elt F) ((c : Thread nD τ).loc cc0_scratch4)) : (bigSep Finset.univ fun b : Fin 3 => anyv F c (wiV b)) ⊢ someBuf F c cc0_scratch4 :=
  key_join (ℓ := (c : Thread nD τ).loc cc0_scratch4) (fun b : Fin 3 => (wiV b).view.set) (fun i => i (0 : Fin 3)) kWi_iff f₀
theorem wouts_split : someBuf F c cc0_scratch5 ⊢ bigSep Finset.univ fun b : Fin 3 => anyv F c (woV b) :=
  key_split (ℓ := (c : Thread nD τ).loc cc0_scratch5) (fun b : Fin 3 => (woV b).view.set) (fun i => i (0 : Fin 3)) kWo_iff
theorem wouts_join (f₀ : Buf (Elt F) ((c : Thread nD τ).loc cc0_scratch5)) : (bigSep Finset.univ fun b : Fin 3 => anyv F c (woV b)) ⊢ someBuf F c cc0_scratch5 :=
  key_join (ℓ := (c : Thread nD τ).loc cc0_scratch5) (fun b : Fin 3 => (woV b).view.set) (fun i => i (0 : Fin 3)) kWo_iff f₀
theorem winb_split : someBuf F c cc0_scratch6 ⊢ bigSep Finset.univ fun b : Fin 3 => anyv F c (wibV b) :=
  key_split (ℓ := (c : Thread nD τ).loc cc0_scratch6) (fun b : Fin 3 => (wibV b).view.set) (fun i => i (0 : Fin 3)) kWib_iff
theorem winb_join (f₀ : Buf (Elt F) ((c : Thread nD τ).loc cc0_scratch6)) : (bigSep Finset.univ fun b : Fin 3 => anyv F c (wibV b)) ⊢ someBuf F c cc0_scratch6 :=
  key_join (ℓ := (c : Thread nD τ).loc cc0_scratch6) (fun b : Fin 3 => (wibV b).view.set) (fun i => i (0 : Fin 3)) kWib_iff f₀
theorem woutb_split : someBuf F c cc0_scratch7 ⊢ bigSep Finset.univ fun b : Fin 3 => anyv F c (wobV b) :=
  key_split (ℓ := (c : Thread nD τ).loc cc0_scratch7) (fun b : Fin 3 => (wobV b).view.set) (fun i => i (0 : Fin 3)) kWob_iff
theorem woutb_join (f₀ : Buf (Elt F) ((c : Thread nD τ).loc cc0_scratch7)) : (bigSep Finset.univ fun b : Fin 3 => anyv F c (wobV b)) ⊢ someBuf F c cc0_scratch7 :=
  key_join (ℓ := (c : Thread nD τ).loc cc0_scratch7) (fun b : Fin 3 => (wobV b).view.set) (fun i => i (0 : Fin 3)) kWob_iff f₀

/-- The buffer the first activation lands in, and the result's. -/
theorem x_any : someBuf F c cc0_scratch3 = anyv F c xM := by unfold anyv; rw [View.set_whole]
theorem out_any : someBuf F c cc0_stg0_0 = anyv F c outM := by unfold anyv; rw [View.set_whole]

/-! ## The last layer's halves and rows -/

variable (I : Dev nD → Ins F)

theorem half_rows (s : Fin 2) (a b : Fin 4) (ha : a.val = 2 * s.val) (hb : b.val = 2 * s.val + 1) :
    (pcV 2 s).view.set = (rwV a).view.set ∪ (rwV b).view.set := by
  rw [pcV_set, rwV_set, rwV_set]
  ext i
  refine (pc_mem 2 s i).trans ?_
  refine Iff.trans ?_ (Finset.mem_union.trans (or_congr (rw_mem a i) (rw_mem b i))).symm
  show ((i (0 : Fin 3)).val = 2 ∧ _) ↔ _
  have h1 : (i (1 : Fin 3)).val < 64 := (i 1).isLt
  omega

theorem rows_disj (a b : Fin 4) (h : a.val ≠ b.val) : Disjoint (rwV a).view.set (rwV b).view.set := by
  rw [rwV_set, rwV_set, Finset.disjoint_left]
  intro i hi hi'
  have h1 := (rw_mem a i).mp hi
  have h2 := (rw_mem b i).mp hi'
  omega

/-- A half of the last layer is its two blocks of rows. -/
theorem half_split (s : Fin 2) (a b : Fin 4) (ha : a.val = 2 * s.val) (hb : b.val = 2 * s.val + 1)
    (ea : rows I a c = (rwV a).view.read (Elt F) ((pcV 2 s).view.rep (blk I 2 s c)))
    (eb : rows I b c = (rwV b).view.read (Elt F) ((pcV 2 s).view.rep (blk I 2 s c))) :
    atv c (pcV 2 s) fullShare (blk I 2 s c) ⊣⊢ iprop(atv c (rwV a) fullShare (rows I a c) ∗ atv c (rwV b) fullShare (rows I b c)) := by
  rw [ea, eb, ← atv_of c (rwV a), ← atv_of c (rwV b)]
  unfold atv
  rw [half_rows s a b ha hb]
  exact pointsTo_union (rows_disj a b (by omega))

/-- Four assertions over a type of four. -/
theorem bigSep_four {B : Type} [Fintype B] [DecidableEq B] (Φ : B → sProp (MM F)) (a b d e : B) (h : Finset.univ = [a, b, d, e].toFinset) (hn : [a, b, d, e].Nodup) :
    bigSep Finset.univ Φ = iprop(Φ a ∗ Φ b ∗ Φ d ∗ Φ e) := by
  rw [bigSep_univ_eq_bigSepL _ h hn]; rfl

/-- Both halves are the four blocks of rows, -/
theorem halves_split : iprop(atv c (pcV 2 0) fullShare (blk I 2 0 c) ∗ atv c (pcV 2 1) fullShare (blk I 2 1 c))
    ⊣⊢ bigSep Finset.univ fun i => atv c (rwV i) fullShare (rows I i c) := by
  rw [bigSep_four _ (0 : Fin 4) 1 2 3 (by decide) (by decide)]
  have h0 := half_split c I 0 0 1 rfl rfl rfl rfl
  have h1 := half_split c I 1 2 3 rfl rfl rfl rfl
  constructor
  · iintro ⟨H0, H1⟩
    ihave H0' := h0.1 $$ H0
    ihave H1' := h1.1 $$ H1
    icases H0' with ⟨A, B⟩
    icases H1' with ⟨C, D⟩
    iframe
  · iintro ⟨A, B, C, D⟩
    isplitl [A B]
    · iapply h0.2
      iframe
    · iapply h1.2
      iframe

/-- taken from the device's own on. -/
theorem rows_turn : (bigSep Finset.univ fun i => atv c (rwV i) fullShare (rows I i c))
    = iprop(atv c (rwV c) fullShare (rows I c c) ∗ atv c (rwV (peer c 0)) fullShare (rows I (peer c 0) c)
      ∗ atv c (rwV (peer c 1)) fullShare (rows I (peer c 1) c) ∗ atv c (rwV (peer c 2)) fullShare (rows I (peer c 2) c)) := by
  rw [bigSep_four _ c (peer c 0) (peer c 1) (peer c 2) (by revert c; decide) (by revert c; decide)]

/-- The halves of the last layer given up for the rows, -/
theorem rows_take : iprop(atv c (pcV 2 0) fullShare (blk I 2 0 c) ∗ atv c (pcV 2 1) fullShare (blk I 2 1 c))
    ⊢ iprop(atv c (rwV c) fullShare (rows I c c) ∗ atv c (rwV (peer c 0)) fullShare (rows I (peer c 0) c)
      ∗ atv c (rwV (peer c 1)) fullShare (rows I (peer c 1) c) ∗ atv c (rwV (peer c 2)) fullShare (rows I (peer c 2) c)) := by
  rw [← rows_turn]; exact (halves_split c I).1

/-- and back. -/
theorem rows_give : iprop(atv c (rwV c) fullShare (rows I c c) ∗ atv c (rwV (peer c 0)) fullShare (rows I (peer c 0) c)
      ∗ atv c (rwV (peer c 1)) fullShare (rows I (peer c 1) c) ∗ atv c (rwV (peer c 2)) fullShare (rows I (peer c 2) c))
    ⊢ iprop(atv c (pcV 2 0) fullShare (blk I 2 0 c) ∗ atv c (pcV 2 1) fullShare (blk I 2 1 c)) := by
  rw [← rows_turn]; exact (halves_split c I).2

end Cert.Mlp

end
-- ==== Proof.Body.lean ====
/-
  The whole body: its parts one after the other, from what a device holds at the start to what it holds at the end.
-/
module

public import proofs.«01_k».proof.Proof.PartsC
public import proofs.«01_k».proof.Proof.Split

@[expose] public section

noncomputable section

namespace Cert.Mlp

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (I : Dev nD → Ins F) (K : Dev nD × CI → ℕ) (c : Dev nD)

theorem wp_seq {α β : Type} (p : Prog (TpuEff nD τ sig (Elt F) Λ₀ .tc) α) (k : α → Prog (TpuEff nD τ sig (Elt F) Λ₀ .tc) β) {Q : β → sProp (MM F)} :
    WP c p (fun a => WP c (k a) Q) ⊢ WP c (p >>= k) Q := by
  unfold WP
  rw [wp_bind]

/-- A device's slots for one peer, slot by slot. -/
theorem slots_eq (F : FTy → Type) [FloatOps F] (d : Dev nD) (j : Fin 3) : slots F d j
    ⊢ iprop(anyv F d (slV 0 j 0) ∗ anyv F d (slV 0 j 1) ∗ anyv F d (slV 1 j 0) ∗ anyv F d (slV 1 j 1) ∗ anyv F d (s2V j)) :=
  BI.Entails.refl _

/-- What a device holds when its body starts. -/
def bodyIn : sProp (MM F) :=
  iprop(arg0R I c
    ∗ anyv F c xM
    ∗ wz F c 6
    ∗ arg1R I c
    ∗ anyv F c (wiV 0)
    ∗ wz F c 0
    ∗ arg2R I c
    ∗ anyv F c (woV 0)
    ∗ wz F c 1
    ∗ arg3R I c
    ∗ anyv F c (wiV 1)
    ∗ wz F c 2
    ∗ arg4R I c
    ∗ anyv F c (woV 1)
    ∗ wz F c 3
    ∗ arg5R I c
    ∗ anyv F c (wiV 2)
    ∗ wz F c 4
    ∗ arg6R I c
    ∗ anyv F c (woV 2)
    ∗ wz F c 5
    ∗ barTok F c 0
    ∗ owe F c 0
    ∗ slots F c 0
    ∗ barTok F c 1
    ∗ slots F c 1
    ∗ barTok F c 2
    ∗ slots F c 2
    ∗ anyv F c (wibV 0)
    ∗ anyv F c (wobV 0)
    ∗ anyv F c (pcV 0 0)
    ∗ posAt F c none
    ∗ crd F c none 3
    ∗ sendTok F c (gOf 0 0) 1
    ∗ sendTok F c (gOf 0 0) 0
    ∗ sendTok F c (gOf 0 0) 2
    ∗ anyv F c (pcV 0 1)
    ∗ sendTok F c (gOf 0 1) 1
    ∗ sendTok F c (gOf 0 1) 0
    ∗ sendTok F c (gOf 0 1) 2
    ∗ anyv F c (wibV 1)
    ∗ anyv F c (wobV 1)
    ∗ posAt F c (some (true, gOf 0 0, 2))
    ∗ crd F c (some (true, gOf 0 0, 2)) N32
    ∗ posAt F c (some (true, gOf 0 0, 0))
    ∗ crd F c (some (true, gOf 0 0, 0)) N32
    ∗ posAt F c (some (true, gOf 0 0, 1))
    ∗ crd F c (some (true, gOf 0 0, 1)) N32
    ∗ anyv F c (pcV 1 0)
    ∗ sendTok F c (gOf 1 0) 1
    ∗ sendTok F c (gOf 1 0) 0
    ∗ sendTok F c (gOf 1 0) 2
    ∗ posAt F c (some (true, gOf 0 1, 2))
    ∗ crd F c (some (true, gOf 0 1, 2)) N32
    ∗ posAt F c (some (true, gOf 0 1, 0))
    ∗ crd F c (some (true, gOf 0 1, 0)) N32
    ∗ posAt F c (some (true, gOf 0 1, 1))
    ∗ crd F c (some (true, gOf 0 1, 1)) N32
    ∗ anyv F c (pcV 1 1)
    ∗ sendTok F c (gOf 1 1) 1
    ∗ sendTok F c (gOf 1 1) 0
    ∗ sendTok F c (gOf 1 1) 2
    ∗ anyv F c (wibV 2)
    ∗ anyv F c (wobV 2)
    ∗ posAt F c (some (true, gOf 1 0, 2))
    ∗ crd F c (some (true, gOf 1 0, 2)) N32
    ∗ posAt F c (some (true, gOf 1 0, 0))
    ∗ crd F c (some (true, gOf 1 0, 0)) N32
    ∗ posAt F c (some (true, gOf 1 0, 1))
    ∗ crd F c (some (true, gOf 1 0, 1)) N32
    ∗ anyv F c (pcV 2 0)
    ∗ posAt F c (some (true, gOf 1 1, 2))
    ∗ crd F c (some (true, gOf 1 1, 2)) N32
    ∗ posAt F c (some (true, gOf 1 1, 0))
    ∗ crd F c (some (true, gOf 1 1, 0)) N32
    ∗ posAt F c (some (true, gOf 1 1, 1))
    ∗ crd F c (some (true, gOf 1 1, 1)) N32
    ∗ anyv F c (pcV 2 1)
    ∗ sendTok F c 4 1
    ∗ sendTok F c 4 0
    ∗ sendTok F c 4 2
    ∗ posAt F c (some (true, 4, 2))
    ∗ crd F c (some (true, 4, 2)) N16
    ∗ posAt F c (some (true, 4, 0))
    ∗ crd F c (some (true, 4, 0)) N16
    ∗ posAt F c (some (true, 4, 1))
    ∗ crd F c (some (true, 4, 1)) N16
    ∗ anyv F c outM
    ∗ posAt F c (some (false, gOf 0 0, 1))
    ∗ posAt F c (some (false, gOf 0 0, 0))
    ∗ posAt F c (some (false, gOf 0 0, 2))
    ∗ posAt F c (some (false, gOf 0 1, 1))
    ∗ posAt F c (some (false, gOf 0 1, 0))
    ∗ posAt F c (some (false, gOf 0 1, 2))
    ∗ posAt F c (some (false, gOf 1 0, 1))
    ∗ posAt F c (some (false, gOf 1 0, 0))
    ∗ posAt F c (some (false, gOf 1 0, 2))
    ∗ posAt F c (some (false, gOf 1 1, 1))
    ∗ posAt F c (some (false, gOf 1 1, 0))
    ∗ posAt F c (some (false, gOf 1 1, 2))
    ∗ posAt F c (some (false, 4, 1))
    ∗ posAt F c (some (false, 4, 0))
    ∗ posAt F c (some (false, 4, 2)))

/-- What it holds when its body ends. -/
def bodyOut : sProp (MM F) :=
  iprop(arg0R I c
    ∗ wz F c 6
    ∗ atv c xM fullShare (I c).x
    ∗ arg1R I c
    ∗ wz F c 0
    ∗ atv c (wiV 0) fullShare ((I c).wi 0)
    ∗ arg2R I c
    ∗ wz F c 1
    ∗ atv c (woV 0) fullShare ((I c).wo 0)
    ∗ cz F c none
    ∗ atv c (wibV 0) fullShare (winB (I c) 0)
    ∗ atv c (wobV 0) fullShare (woutB (I c) 0)
    ∗ arg3R I c
    ∗ wz F c 2
    ∗ atv c (wiV 1) fullShare ((I c).wi 1)
    ∗ arg4R I c
    ∗ wz F c 3
    ∗ atv c (woV 1) fullShare ((I c).wo 1)
    ∗ cz F c (some (true, gOf 0 0, 2))
    ∗ atv c (slV 0 2 0) fullShare (blk I 0 0 (peer c 2))
    ∗ cz F c (some (true, gOf 0 0, 0))
    ∗ atv c (slV 0 0 0) fullShare (blk I 0 0 (peer c 0))
    ∗ cz F c (some (true, gOf 0 0, 1))
    ∗ atv c (slV 0 1 0) fullShare (blk I 0 0 (peer c 1))
    ∗ cz F c (some (true, gOf 0 1, 2))
    ∗ atv c (slV 0 2 1) fullShare (blk I 0 1 (peer c 2))
    ∗ cz F c (some (true, gOf 0 1, 0))
    ∗ atv c (slV 0 0 1) fullShare (blk I 0 1 (peer c 0))
    ∗ cz F c (some (true, gOf 0 1, 1))
    ∗ atv c (slV 0 1 1) fullShare (blk I 0 1 (peer c 1))
    ∗ atv c (wibV 1) fullShare (winB (I c) 1)
    ∗ atv c (wobV 1) fullShare (woutB (I c) 1)
    ∗ arg5R I c
    ∗ wz F c 4
    ∗ atv c (wiV 2) fullShare ((I c).wi 2)
    ∗ arg6R I c
    ∗ wz F c 5
    ∗ atv c (woV 2) fullShare ((I c).wo 2)
    ∗ cz F c (some (true, gOf 1 0, 2))
    ∗ atv c (slV 1 2 0) fullShare (blk I 1 0 (peer c 2))
    ∗ cz F c (some (true, gOf 1 0, 0))
    ∗ atv c (slV 1 0 0) fullShare (blk I 1 0 (peer c 0))
    ∗ cz F c (some (true, gOf 1 0, 1))
    ∗ atv c (slV 1 1 0) fullShare (blk I 1 0 (peer c 1))
    ∗ cz F c (some (true, gOf 1 1, 2))
    ∗ atv c (slV 1 2 1) fullShare (blk I 1 1 (peer c 2))
    ∗ cz F c (some (true, gOf 1 1, 0))
    ∗ atv c (slV 1 0 1) fullShare (blk I 1 1 (peer c 0))
    ∗ cz F c (some (true, gOf 1 1, 1))
    ∗ atv c (slV 1 1 1) fullShare (blk I 1 1 (peer c 1))
    ∗ atv c (wibV 2) fullShare (winB (I c) 2)
    ∗ atv c (wobV 2) fullShare (woutB (I c) 2)
    ∗ atv c (rwV c) fullShare (rows I c c)
    ∗ cz F c (some (true, 4, 2))
    ∗ atv c (s2V 2) fullShare (rows I c (peer c 2))
    ∗ cz F c (some (true, 4, 0))
    ∗ atv c (s2V 0) fullShare (rows I c (peer c 0))
    ∗ cz F c (some (true, 4, 1))
    ∗ atv c (s2V 1) fullShare (rows I c (peer c 1))
    ∗ atv c outM fullShare (outV I c)
    ∗ atv c (pcV 0 0) (third 1) (blk I 0 0 c)
    ∗ cz F c (some (false, gOf 0 0, 1))
    ∗ atv c (pcV 0 0) (third 0) (blk I 0 0 c)
    ∗ cz F c (some (false, gOf 0 0, 0))
    ∗ atv c (pcV 0 0) (third 2) (blk I 0 0 c)
    ∗ cz F c (some (false, gOf 0 0, 2))
    ∗ atv c (pcV 0 1) (third 1) (blk I 0 1 c)
    ∗ cz F c (some (false, gOf 0 1, 1))
    ∗ atv c (pcV 0 1) (third 0) (blk I 0 1 c)
    ∗ cz F c (some (false, gOf 0 1, 0))
    ∗ atv c (pcV 0 1) (third 2) (blk I 0 1 c)
    ∗ cz F c (some (false, gOf 0 1, 2))
    ∗ atv c (pcV 1 0) (third 1) (blk I 1 0 c)
    ∗ cz F c (some (false, gOf 1 0, 1))
    ∗ atv c (pcV 1 0) (third 0) (blk I 1 0 c)
    ∗ cz F c (some (false, gOf 1 0, 0))
    ∗ atv c (pcV 1 0) (third 2) (blk I 1 0 c)
    ∗ cz F c (some (false, gOf 1 0, 2))
    ∗ atv c (pcV 1 1) (third 1) (blk I 1 1 c)
    ∗ cz F c (some (false, gOf 1 1, 1))
    ∗ atv c (pcV 1 1) (third 0) (blk I 1 1 c)
    ∗ cz F c (some (false, gOf 1 1, 0))
    ∗ atv c (pcV 1 1) (third 2) (blk I 1 1 c)
    ∗ cz F c (some (false, gOf 1 1, 2))
    ∗ atv c (rwV (peer c 1)) fullShare (rows I (peer c 1) c)
    ∗ cz F c (some (false, 4, 1))
    ∗ atv c (rwV (peer c 0)) fullShare (rows I (peer c 0) c)
    ∗ cz F c (some (false, 4, 0))
    ∗ atv c (rwV (peer c 2)) fullShare (rows I (peer c 2) c)
    ∗ cz F c (some (false, 4, 2))
    ∗ owe F c 18)

set_option maxHeartbeats 2000000 in
/-- The body of device `c`. -/
theorem body_spec {Q : PUnit → sProp (MM F)} :
    iprop(recs I K ∗ bodyIn I c) ⊢ iprop((bodyOut I c -∗ Q ⟨⟩) -∗ WP c (on (cc0_body (F := F))) Q) := by
  rw [cc0_body_eq_skeleton]
  unfold on cc0_body_skel
  rw [k0_part32_eq_skeleton]
  unfold k0_part32_skel bodyIn bodyOut
  simp only [Prog.lift, Prog.bind_op, Prog.bind_ret, Prog.pure_eq_ret, bind_assoc]
  iintro ⟨#HR, A0, D6, W6, A1, D0, W0, A2, D1, W1, A3, D2, W2, A4, D3, W3, A5, D4, W4, A6, D5, W5, BT0, O0, SL0, BT1, SL1, BT2, SL2, Wi0, Wo0, Q00, Pb, Cb, K001, K000, K002, Q01, K011, K010, K012, Wi1, Wo1, Pr002, Cr002, Pr000, Cr000, Pr001, Cr001, Q10, K101, K100, K102, Pr012, Cr012, Pr010, Cr010, Pr011, Cr011, Q11, K111, K110, K112, Wi2, Wo2, Pr102, Cr102, Pr100, Cr100, Pr101, Cr101, Q20, Pr112, Cr112, Pr110, Cr110, Pr111, Cr111, Q21, K41, K40, K42, Pr42, Cr42, Pr40, Cr40, Pr41, Cr41, out, Ps001, Ps000, Ps002, Ps011, Ps010, Ps012, Ps101, Ps100, Ps102, Ps111, Ps110, Ps112, Ps41, Ps40, Ps42⟩ Hk
  iapply wp_seq
  iapply (part1_spec I c) $$ [A0 D6 W6 A1 D0 W0 A2 D1 W1 A3 D2 W2 A4 D3 W3 A5 D4 W4]
  · isplitl [A0]; · iexact A0
    isplitl [D6]; · iexact D6
    isplitl [W6]; · iexact W6
    isplitl [A1]; · iexact A1
    isplitl [D0]; · iexact D0
    isplitl [W0]; · iexact W0
    isplitl [A2]; · iexact A2
    isplitl [D1]; · iexact D1
    isplitl [W1]; · iexact W1
    isplitl [A3]; · iexact A3
    isplitl [D2]; · iexact D2
    isplitl [W2]; · iexact W2
    isplitl [A4]; · iexact A4
    isplitl [D3]; · iexact D3
    isplitl [W3]; · iexact W3
    isplitl [A5]; · iexact A5
    isplitl [D4]; · iexact D4
    iexact W4
  iintro %w1_0 ⟨Fl6, Fl0, Fl1, Fl2, Fl3, Fl4⟩
  iapply wp_seq
  iapply (part2_spec I K c _) $$ [A6 D5 W5 BT0 O0 SL0 BT1 SL1]
  · isplitr; · iexact HR
    isplitl [A6]; · iexact A6
    isplitl [D5]; · iexact D5
    isplitl [W5]; · iexact W5
    isplitl [BT0]; · iexact BT0
    isplitl [O0]; · iexact O0
    isplitl [SL0]; · iexact SL0
    isplitl [BT1]; · iexact BT1
    iexact SL1
  iintro %w2_0 %w2_1 ⟨Fl5, O2⟩
  iapply wp_seq
  iapply (part3_spec I K c _ _) $$ [BT2 O2 SL2 Fl6 Fl0 Wi0 Fl1]
  · isplitr; · iexact HR
    isplitl [BT2]; · iexact BT2
    isplitl [O2]; · iexact O2
    isplitl [SL2]; · iexact SL2
    isplitl [Fl6]; · iexact Fl6
    isplitl [Fl0]; · iexact Fl0
    isplitl [Wi0]; · iexact Wi0
    iexact Fl1
  iintro  ⟨A0, W6, V6, A1, W0, V0, Wib0, A2, W1, O3, V1⟩
  iapply wp_seq
  iapply (part4_spec I K c _) $$ [Wo0 Wib0 Q00 Pb Cb O3]
  · isplitr; · iexact HR
    isplitl [Wo0]; · iexact Wo0
    isplitl [Wib0]; · iexact Wib0
    isplitl [Q00]; · iexact Q00
    isplitl [Pb]; · iexact Pb
    isplitl [Cb]; · iexact Cb
    iexact O3
  iintro %w4_0 ⟨Wib0, Wob0, B00, PS0, PS1, PS2, Zb, O3⟩
  ihave Hsl := (slots_eq F (peer c 0) 2) $$ PS0
  icases Hsl with ⟨T000, T010, T100, T110, T40⟩
  ihave Hsl := (slots_eq F (peer c 1) 1) $$ PS1
  icases Hsl with ⟨T001, T011, T101, T111, T41⟩
  ihave Hsl := (slots_eq F (peer c 2) 0) $$ PS2
  icases Hsl with ⟨T002, T012, T102, T112, T42⟩
  iapply wp_seq
  iapply (part5_spec I K c _ _) $$ [B00 K001 O3 T001]
  · isplitr; · iexact HR
    isplitl [B00]; · iexact B00
    isplitl [K001]; · iexact K001
    isplitl [O3]; · iexact O3
    iexact T001
  iintro %w5_0 ⟨B00t0, B00t2, Cs001, O4⟩
  iapply wp_seq
  iapply (part6_spec I K c _) $$ [K000 O4 B00t0 T000 K002 B00t2 T002 Wib0]
  · isplitr; · iexact HR
    isplitl [K000]; · iexact K000
    isplitl [O4]; · iexact O4
    isplitl [B00t0]; · iexact B00t0
    isplitl [T000]; · iexact T000
    isplitl [K002]; · iexact K002
    isplitl [B00t2]; · iexact B00t2
    isplitl [T002]; · iexact T002
    iexact Wib0
  iintro %w6_0 ⟨Cs000, Cs002, O6, Wib0⟩
  iapply wp_seq
  iapply (part7_spec I c _) $$ [Wob0 Q01]
  · isplitl [Wob0]; · iexact Wob0
    iexact Q01
  iintro %w7_0 ⟨Wob0, B01⟩
  iapply wp_seq
  iapply (part8_spec I K c _) $$ [B01 K011 O6 T011 K010 T010]
  · isplitr; · iexact HR
    isplitl [B01]; · iexact B01
    isplitl [K011]; · iexact K011
    isplitl [O6]; · iexact O6
    isplitl [T011]; · iexact T011
    isplitl [K010]; · iexact K010
    iexact T010
  iintro %w8_0 %w8_1 %w8_2 %w8_3 %w8_4 %w8_5 ⟨B01t2, Cs011, Cs010, O8⟩
  iapply wp_seq
  iapply (part9_spec I K c _ _ _ _ _) $$ [K012 O8 B01t2 T012 Fl2 Wi1]
  · isplitr; · iexact HR
    isplitl [K012]; · iexact K012
    isplitl [O8]; · iexact O8
    isplitl [B01t2]; · iexact B01t2
    isplitl [T012]; · iexact T012
    isplitl [Fl2]; · iexact Fl2
    iexact Wi1
  iintro %w9_0 ⟨Cs012, A3, W2, O9, V2, Wib1⟩
  iapply wp_seq
  iapply (part10_spec I K c _ _) $$ [Fl3 O9 Wo1 Pr002 Cr002]
  · isplitr; · iexact HR
    isplitl [Fl3]; · iexact Fl3
    isplitl [O9]; · iexact O9
    isplitl [Wo1]; · iexact Wo1
    isplitl [Pr002]; · iexact Pr002
    iexact Cr002
  iintro  ⟨A4, W3, V3, Wob1, Zr002, O9, L002⟩
  iapply wp_seq
  iapply (part11_spec I K c _) $$ [Pr000 Cr000 O9 Pr001 Cr001 Wib1]
  · isplitr; · iexact HR
    isplitl [Pr000]; · iexact Pr000
    isplitl [Cr000]; · iexact Cr000
    isplitl [O9]; · iexact O9
    isplitl [Pr001]; · iexact Pr001
    isplitl [Cr001]; · iexact Cr001
    iexact Wib1
  iintro  ⟨Zr000, L000, Zr001, O9, L001, Wib1⟩
  iapply wp_seq
  iapply (part12_spec I c _) $$ [Wob1 Q10]
  · isplitl [Wob1]; · iexact Wob1
    iexact Q10
  iintro %w12_0 ⟨Wob1, B10⟩
  iapply wp_seq
  iapply (part13_spec I K c _) $$ [B10 K101 O9 T101 K100 T100]
  · isplitr; · iexact HR
    isplitl [B10]; · iexact B10
    isplitl [K101]; · iexact K101
    isplitl [O9]; · iexact O9
    isplitl [T101]; · iexact T101
    isplitl [K100]; · iexact K100
    iexact T100
  iintro %w13_0 %w13_1 %w13_2 %w13_3 %w13_4 ⟨B10t2, Cs101, Cs100, O11⟩
  iapply wp_seq
  iapply (part14_spec I K c _ _ _ _ _) $$ [K102 O11 B10t2 T102 Pr012 Cr012]
  · isplitr; · iexact HR
    isplitl [K102]; · iexact K102
    isplitl [O11]; · iexact O11
    isplitl [B10t2]; · iexact B10t2
    isplitl [T102]; · iexact T102
    isplitl [Pr012]; · iexact Pr012
    iexact Cr012
  iintro %w14_0 ⟨Cs102, Zr012, O12, L012⟩
  iapply wp_seq
  iapply (part15_spec I K c _ _) $$ [Pr010 Cr010 O12 Pr011 Cr011]
  · isplitr; · iexact HR
    isplitl [Pr010]; · iexact Pr010
    isplitl [Cr010]; · iexact Cr010
    isplitl [O12]; · iexact O12
    isplitl [Pr011]; · iexact Pr011
    iexact Cr011
  iintro  ⟨Zr010, L010, L011, Zr011, O12⟩
  iapply wp_seq
  iapply (part16_spec I c _) $$ [L011 Wib1 Wob1 Q11]
  · isplitl [L011]; · iexact L011
    isplitl [Wib1]; · iexact Wib1
    isplitl [Wob1]; · iexact Wob1
    iexact Q11
  iintro %w16_0 ⟨L011, Wib1, Wob1, B11⟩
  iapply wp_seq
  iapply (part17_spec I K c _ _ _) $$ [B11 K111 O12 T111 K110 T110]
  · isplitr; · iexact HR
    isplitl [B11]; · iexact B11
    isplitl [K111]; · iexact K111
    isplitl [O12]; · iexact O12
    isplitl [T111]; · iexact T111
    isplitl [K110]; · iexact K110
    iexact T110
  iintro %w17_0 ⟨B11t2, Cs111, Cs110, O14⟩
  iapply wp_seq
  iapply (part18_spec I K c _) $$ [K112 O14 B11t2 T112 Fl4]
  · isplitr; · iexact HR
    isplitl [K112]; · iexact K112
    isplitl [O14]; · iexact O14
    isplitl [B11t2]; · iexact B11t2
    isplitl [T112]; · iexact T112
    iexact Fl4
  iintro %w18_0 ⟨Cs112, A5, W4, O15, V4⟩
  iapply wp_seq
  iapply (part19_spec I K c _) $$ [Wi2 Fl5 O15 Wo2 Pr102 Cr102]
  · isplitr; · iexact HR
    isplitl [Wi2]; · iexact Wi2
    isplitl [Fl5]; · iexact Fl5
    isplitl [O15]; · iexact O15
    isplitl [Wo2]; · iexact Wo2
    isplitl [Pr102]; · iexact Pr102
    iexact Cr102
  iintro  ⟨Wib2, A6, W5, V5, Wob2, Zr102, O15, L102⟩
  iapply wp_seq
  iapply (part20_spec I K c _ _) $$ [Pr100 Cr100 O15 Pr101 Cr101]
  · isplitr; · iexact HR
    isplitl [Pr100]; · iexact Pr100
    isplitl [Cr100]; · iexact Cr100
    isplitl [O15]; · iexact O15
    isplitl [Pr101]; · iexact Pr101
    iexact Cr101
  iintro  ⟨Zr100, L100, L101, Zr101, O15⟩
  iapply wp_seq
  iapply (part21_spec I K c _) $$ [L101 Wib2 Wob2 Q20 Pr112 Cr112 O15]
  · isplitr; · iexact HR
    isplitl [L101]; · iexact L101
    isplitl [Wib2]; · iexact Wib2
    isplitl [Wob2]; · iexact Wob2
    isplitl [Q20]; · iexact Q20
    isplitl [Pr112]; · iexact Pr112
    isplitl [Cr112]; · iexact Cr112
    iexact O15
  iintro  ⟨L101, Wib2, Wob2, B20, Zr112, O15, L112⟩
  iapply wp_seq
  iapply (part22_spec I K c _ _) $$ [Pr110 Cr110 O15 Pr111 Cr111]
  · isplitr; · iexact HR
    isplitl [Pr110]; · iexact Pr110
    isplitl [Cr110]; · iexact Cr110
    isplitl [O15]; · iexact O15
    isplitl [Pr111]; · iexact Pr111
    iexact Cr111
  iintro  ⟨Zr110, L110, L111, Zr111, O15⟩
  iapply wp_seq
  iapply (part23_spec I c _) $$ [L111 Wib2 Wob2 Q21]
  · isplitl [L111]; · iexact L111
    isplitl [Wib2]; · iexact Wib2
    isplitl [Wob2]; · iexact Wob2
    iexact Q21
  iintro %w23_0 ⟨L111, Wib2, Wob2, B21⟩
  ihave Hrw := (rows_take c I) $$ [B20 B21]
  · isplitl [B20]; · iexact B20
    iexact B21
  icases Hrw with ⟨Rown, R0, R1, R2⟩
  iapply wp_seq
  iapply (part24_spec I K c _ _) $$ [K41 O15 R1 T41]
  · isplitr; · iexact HR
    isplitl [K41]; · iexact K41
    isplitl [O15]; · iexact O15
    isplitl [R1]; · iexact R1
    iexact T41
  iintro %w24_0 ⟨Cs41, O16⟩
  iapply wp_seq
  iapply (part25_spec I K c _) $$ [K40 O16 R0 T40 K42 R2 T42 Rown]
  · isplitr; · iexact HR
    isplitl [K40]; · iexact K40
    isplitl [O16]; · iexact O16
    isplitl [R0]; · iexact R0
    isplitl [T40]; · iexact T40
    isplitl [K42]; · iexact K42
    isplitl [R2]; · iexact R2
    isplitl [T42]; · iexact T42
    iexact Rown
  iintro %w25_0 ⟨Cs40, Cs42, O18, Rown⟩
  iapply wp_seq
  iapply (part26_spec I K c _ _) $$ [Pr42 Cr42 O18 Pr40 Cr40]
  · isplitr; · iexact HR
    isplitl [Pr42]; · iexact Pr42
    isplitl [Cr42]; · iexact Cr42
    isplitl [O18]; · iexact O18
    isplitl [Pr40]; · iexact Pr40
    iexact Cr40
  iintro  ⟨Zr42, L42, Zr40, O18, L40⟩
  iapply wp_seq
  iapply (part27_spec I K c _) $$ [Pr41 Cr41 O18 out Ps001 Cs001]
  · isplitr; · iexact HR
    isplitl [Pr41]; · iexact Pr41
    isplitl [Cr41]; · iexact Cr41
    isplitl [O18]; · iexact O18
    isplitl [out]; · iexact out
    isplitl [Ps001]; · iexact Ps001
    iexact Cs001
  iintro  ⟨Zr41, L41, outV, B00t1, Zs001, O18⟩
  iapply wp_seq
  iapply (part28_spec I K c) $$ [Ps000 Cs000 O18 Ps002 Cs002 Ps011 Cs011]
  · isplitr; · iexact HR
    isplitl [Ps000]; · iexact Ps000
    isplitl [Cs000]; · iexact Cs000
    isplitl [O18]; · iexact O18
    isplitl [Ps002]; · iexact Ps002
    isplitl [Cs002]; · iexact Cs002
    isplitl [Ps011]; · iexact Ps011
    iexact Cs011
  iintro  ⟨B00t0, Zs000, B00t2, Zs002, B01t1, Zs011, O18⟩
  iapply wp_seq
  iapply (part29_spec I K c) $$ [Ps010 Cs010 O18 Ps012 Cs012 Ps101 Cs101]
  · isplitr; · iexact HR
    isplitl [Ps010]; · iexact Ps010
    isplitl [Cs010]; · iexact Cs010
    isplitl [O18]; · iexact O18
    isplitl [Ps012]; · iexact Ps012
    isplitl [Cs012]; · iexact Cs012
    isplitl [Ps101]; · iexact Ps101
    iexact Cs101
  iintro  ⟨B01t0, Zs010, B01t2, Zs012, B10t1, Zs101, O18⟩
  iapply wp_seq
  iapply (part30_spec I K c) $$ [Ps100 Cs100 O18 Ps102 Cs102 Ps111 Cs111]
  · isplitr; · iexact HR
    isplitl [Ps100]; · iexact Ps100
    isplitl [Cs100]; · iexact Cs100
    isplitl [O18]; · iexact O18
    isplitl [Ps102]; · iexact Ps102
    isplitl [Cs102]; · iexact Cs102
    isplitl [Ps111]; · iexact Ps111
    iexact Cs111
  iintro  ⟨B10t0, Zs100, B10t2, Zs102, B11t1, Zs111, O18⟩
  iapply wp_seq
  iapply (part31_spec I K c) $$ [Ps110 Cs110 O18 Ps112 Cs112 Ps41 Cs41]
  · isplitr; · iexact HR
    isplitl [Ps110]; · iexact Ps110
    isplitl [Cs110]; · iexact Cs110
    isplitl [O18]; · iexact O18
    isplitl [Ps112]; · iexact Ps112
    isplitl [Cs112]; · iexact Cs112
    isplitl [Ps41]; · iexact Ps41
    iexact Cs41
  iintro  ⟨B11t0, Zs110, B11t2, Zs112, R1, Zs41, O18⟩
  iapply (take_rw I K c 0 18 (by decide) rfl) $$ [Ps40 Cs40 O18]
  · isplitr; · iexact HR
    isplitl [Ps40]; · iexact Ps40
    isplitl [Cs40]; · iexact Cs40
    iexact O18
  iintro ⟨R0, Zs40, O18⟩
  iapply (take_rw I K c 2 18 (by decide) rfl) $$ [Ps42 Cs42 O18]
  · isplitr; · iexact HR
    isplitl [Ps42]; · iexact Ps42
    isplitl [Cs42]; · iexact Cs42
    iexact O18
  iintro ⟨R2, Zs42, O18⟩
  iapply wp_end
  iapply Hk $$ [A0 W6 V6 A1 W0 V0 A2 W1 V1 Zb Wib0 Wob0 A3 W2 V2 A4 W3 V3 Zr002 L002 Zr000 L000 Zr001 L001 Zr012 L012 Zr010 L010 Zr011 L011 Wib1 Wob1 A5 W4 V4 A6 W5 V5 Zr102 L102 Zr100 L100 Zr101 L101 Zr112 L112 Zr110 L110 Zr111 L111 Wib2 Wob2 Rown Zr42 L42 Zr40 L40 Zr41 L41 outV B00t1 Zs001 B00t0 Zs000 B00t2 Zs002 B01t1 Zs011 B01t0 Zs010 B01t2 Zs012 B10t1 Zs101 B10t0 Zs100 B10t2 Zs102 B11t1 Zs111 B11t0 Zs110 B11t2 Zs112 R1 Zs41 R0 Zs40 R2 Zs42 O18]
  · isplitl [A0]; · iexact A0
    isplitl [W6]; · iexact W6
    isplitl [V6]; · iexact V6
    isplitl [A1]; · iexact A1
    isplitl [W0]; · iexact W0
    isplitl [V0]; · iexact V0
    isplitl [A2]; · iexact A2
    isplitl [W1]; · iexact W1
    isplitl [V1]; · iexact V1
    isplitl [Zb]; · iexact Zb
    isplitl [Wib0]; · iexact Wib0
    isplitl [Wob0]; · iexact Wob0
    isplitl [A3]; · iexact A3
    isplitl [W2]; · iexact W2
    isplitl [V2]; · iexact V2
    isplitl [A4]; · iexact A4
    isplitl [W3]; · iexact W3
    isplitl [V3]; · iexact V3
    isplitl [Zr002]; · iexact Zr002
    isplitl [L002]; · iexact L002
    isplitl [Zr000]; · iexact Zr000
    isplitl [L000]; · iexact L000
    isplitl [Zr001]; · iexact Zr001
    isplitl [L001]; · iexact L001
    isplitl [Zr012]; · iexact Zr012
    isplitl [L012]; · iexact L012
    isplitl [Zr010]; · iexact Zr010
    isplitl [L010]; · iexact L010
    isplitl [Zr011]; · iexact Zr011
    isplitl [L011]; · iexact L011
    isplitl [Wib1]; · iexact Wib1
    isplitl [Wob1]; · iexact Wob1
    isplitl [A5]; · iexact A5
    isplitl [W4]; · iexact W4
    isplitl [V4]; · iexact V4
    isplitl [A6]; · iexact A6
    isplitl [W5]; · iexact W5
    isplitl [V5]; · iexact V5
    isplitl [Zr102]; · iexact Zr102
    isplitl [L102]; · iexact L102
    isplitl [Zr100]; · iexact Zr100
    isplitl [L100]; · iexact L100
    isplitl [Zr101]; · iexact Zr101
    isplitl [L101]; · iexact L101
    isplitl [Zr112]; · iexact Zr112
    isplitl [L112]; · iexact L112
    isplitl [Zr110]; · iexact Zr110
    isplitl [L110]; · iexact L110
    isplitl [Zr111]; · iexact Zr111
    isplitl [L111]; · iexact L111
    isplitl [Wib2]; · iexact Wib2
    isplitl [Wob2]; · iexact Wob2
    isplitl [Rown]; · iexact Rown
    isplitl [Zr42]; · iexact Zr42
    isplitl [L42]; · iexact L42
    isplitl [Zr40]; · iexact Zr40
    isplitl [L40]; · iexact L40
    isplitl [Zr41]; · iexact Zr41
    isplitl [L41]; · iexact L41
    isplitl [outV]; · iexact outV
    isplitl [B00t1]; · iexact B00t1
    isplitl [Zs001]; · iexact Zs001
    isplitl [B00t0]; · iexact B00t0
    isplitl [Zs000]; · iexact Zs000
    isplitl [B00t2]; · iexact B00t2
    isplitl [Zs002]; · iexact Zs002
    isplitl [B01t1]; · iexact B01t1
    isplitl [Zs011]; · iexact Zs011
    isplitl [B01t0]; · iexact B01t0
    isplitl [Zs010]; · iexact Zs010
    isplitl [B01t2]; · iexact B01t2
    isplitl [Zs012]; · iexact Zs012
    isplitl [B10t1]; · iexact B10t1
    isplitl [Zs101]; · iexact Zs101
    isplitl [B10t0]; · iexact B10t0
    isplitl [Zs100]; · iexact Zs100
    isplitl [B10t2]; · iexact B10t2
    isplitl [Zs102]; · iexact Zs102
    isplitl [B11t1]; · iexact B11t1
    isplitl [Zs111]; · iexact Zs111
    isplitl [B11t0]; · iexact B11t0
    isplitl [Zs110]; · iexact Zs110
    isplitl [B11t2]; · iexact B11t2
    isplitl [Zs112]; · iexact Zs112
    isplitl [R1]; · iexact R1
    isplitl [Zs41]; · iexact Zs41
    isplitl [R0]; · iexact R0
    isplitl [Zs40]; · iexact Zs40
    isplitl [R2]; · iexact R2
    isplitl [Zs42]; · iexact Zs42
    iexact O18

end Cert.Mlp

end
-- ==== Proof.Entry.lean ====
/-
  From a device's buffers, cells and tokens, bundle by bundle, to what its body starts from, and back.
-/
module

public import proofs.«01_k».proof.Proof.Body

@[expose] public section

noncomputable section

namespace Cert.Mlp

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Bundles over small types, member by member -/

abbrev GK : Type := Fin 5 × Fin 3

theorem big3 (Φ : Fin 3 → sProp (MM F)) : bigSep Finset.univ Φ = iprop(Φ 0 ∗ Φ 1 ∗ Φ 2) :=
  (bigSep_univ_eq_bigSepL [0, 1, 2] (by decide) (by decide) Φ).trans rfl
theorem big7 (Φ : Fin 7 → sProp (MM F)) : bigSep Finset.univ Φ = iprop(Φ 0 ∗ Φ 1 ∗ Φ 2 ∗ Φ 3 ∗ Φ 4 ∗ Φ 5 ∗ Φ 6) :=
  (bigSep_univ_eq_bigSepL [0, 1, 2, 3, 4, 5, 6] (by decide) (by decide) Φ).trans rfl
theorem big6 (Φ : Fin 3 × Fin 2 → sProp (MM F)) : bigSep Finset.univ Φ = iprop(Φ (0, 0) ∗ Φ (0, 1) ∗ Φ (1, 0) ∗ Φ (1, 1) ∗ Φ (2, 0) ∗ Φ (2, 1)) :=
  (bigSep_univ_eq_bigSepL [(0, 0), (0, 1), (1, 0), (1, 1), (2, 0), (2, 1)] (by decide) (by decide) Φ).trans rfl
theorem big12 (Φ : Fin 2 × Fin 3 × Fin 2 → sProp (MM F)) : bigSep Finset.univ Φ = iprop(Φ (0, 0, 0) ∗ Φ (0, 0, 1) ∗ Φ (0, 1, 0) ∗ Φ (0, 1, 1) ∗ Φ (0, 2, 0) ∗ Φ (0, 2, 1) ∗ Φ (1, 0, 0) ∗ Φ (1, 0, 1) ∗ Φ (1, 1, 0) ∗ Φ (1, 1, 1) ∗ Φ (1, 2, 0) ∗ Φ (1, 2, 1)) :=
  (bigSep_univ_eq_bigSepL [(0, 0, 0), (0, 0, 1), (0, 1, 0), (0, 1, 1), (0, 2, 0), (0, 2, 1), (1, 0, 0), (1, 0, 1), (1, 1, 0), (1, 1, 1), (1, 2, 0), (1, 2, 1)] (by decide) (by decide) Φ).trans rfl
theorem big15 (Φ : GK → sProp (MM F)) : bigSep Finset.univ Φ = iprop(Φ (0, 0) ∗ Φ (0, 1) ∗ Φ (0, 2) ∗ Φ (1, 0) ∗ Φ (1, 1) ∗ Φ (1, 2) ∗ Φ (2, 0) ∗ Φ (2, 1) ∗ Φ (2, 2) ∗ Φ (3, 0) ∗ Φ (3, 1) ∗ Φ (3, 2) ∗ Φ (4, 0) ∗ Φ (4, 1) ∗ Φ (4, 2)) :=
  (bigSep_univ_eq_bigSepL [(0, 0), (0, 1), (0, 2), (1, 0), (1, 1), (1, 2), (2, 0), (2, 1), (2, 2), (3, 0), (3, 1), (3, 2), (4, 0), (4, 1), (4, 2)] (by decide) (by decide) Φ).trans rfl

theorem bigOpt {A : Type} [Fintype A] (Φ : Option A → sProp (MM F)) :
    bigSep Finset.univ Φ = iprop(Φ none ∗ bigSep Finset.univ fun a => Φ (some a)) := by
  rw [bigSep_univ_equiv ((Equiv.optionEquivSumPUnit.{0} A).trans (Equiv.sumComm _ _)).symm Φ, bigSep_univ_sum]
  show iprop(bigSep Finset.univ (fun _ : PUnit => Φ none) ∗ bigSep Finset.univ (fun a => Φ (some a))) = _
  rw [show (Finset.univ : Finset PUnit.{1}) = {PUnit.unit} from rfl, bigSep_singleton]

/-- A bundle over a device's cells: the barrier's, the send cells' and the receive cells'. -/
theorem bigCI (Φ : CI → sProp (MM F)) : bigSep Finset.univ Φ
    = iprop(Φ none ∗ (bigSep Finset.univ fun y : GK => Φ (some (false, y))) ∗ bigSep Finset.univ fun y : GK => Φ (some (true, y))) := by
  rw [bigOpt, bigSep_univ_prod, bigSep_univ_eq_bigSepL [false, true] (by decide) (by decide)]; rfl

variable (I : Dev nD → Ins F) (c : Dev nD)

/-- The arguments of a device, with their contents. -/
def args : sProp (MM F) := iprop(arg0R I c ∗ arg1R I c ∗ arg2R I c ∗ arg3R I c ∗ arg4R I c ∗ arg5R I c ∗ arg6R I c)

/-- Its scratch buffers, at whatever contents. -/
def scratch (F : FTy → Type) (c : Dev nD) : sProp (MM F) :=
  iprop(someBuf F c cc0_scratch0 ∗ someBuf F c cc0_scratch1 ∗ someBuf F c cc0_scratch2 ∗ someBuf F c cc0_scratch3
    ∗ someBuf F c cc0_scratch4 ∗ someBuf F c cc0_scratch5 ∗ someBuf F c cc0_scratch6 ∗ someBuf F c cc0_scratch7)

/-- The tokens of the duties it pays. -/
def payToks (F : FTy → Type) (c : Dev nD) : sProp (MM F) :=
  iprop((bigSep Finset.univ fun y : GK => sendTok F c y.1 y.2) ∗ bigSep Finset.univ fun k : Fin 3 => barTok F c k)

/-- The credits for what the others owe it. -/
def credits (F : FTy → Type) (c : Dev nD) : sProp (MM F) :=
  iprop(crd F c none 3 ∗ bigSep Finset.univ fun y : GK => crd F c (some (true, y)) (amtG y.1))

/-- What a device's body starts from, in bundles. -/
def entry : sProp (MM F) :=
  iprop(args I c ∗ scratch F c ∗ (bigSep Finset.univ fun i : Fin 7 => wz F c i) ∗ (bigSep Finset.univ fun x : CI => posAt F c x)
    ∗ payToks F c ∗ credits F c ∗ owe F c 0 ∗ anyv F c outM)

/-- What it ends with. -/
def exit : sProp (MM F) :=
  iprop(args I c ∗ scratch F c ∗ (bigSep Finset.univ fun i : Fin 7 => wz F c i) ∗ (bigSep Finset.univ fun x : CI => cz F c x)
    ∗ owe F c 18 ∗ atv c outM fullShare (outV I c))

theorem slots_mk (F : FTy → Type) [FloatOps F] (d : Dev nD) (j : Fin 3) :
    iprop(anyv F d (slV 0 j 0) ∗ anyv F d (slV 0 j 1) ∗ anyv F d (slV 1 j 0) ∗ anyv F d (slV 1 j 1) ∗ anyv F d (s2V j)) ⊢ slots F d j :=
  BI.Entails.refl _

set_option maxHeartbeats 1000000 in
/-- The bundles a device starts from are what its body starts from. -/
theorem entry_body : entry I c ⊢ bodyIn I c := by
  unfold entry bodyIn args scratch payToks credits
  iintro ⟨⟨A0, A1, A2, A3, A4, A5, A6⟩, ⟨X0, X1, X2, D6, X4, X5, X6, X7⟩, HW, HP, ⟨HS, HB⟩, ⟨Cb, HC⟩, O0, out⟩
  ihave H := (part_split c) $$ X0
  ihave H := (Entails.of_eq (big6 _)) $$ H
  icases H with ⟨Q00, Q01, Q10, Q11, Q20, Q21⟩
  ihave H := (comm_split c) $$ X1
  ihave H := (Entails.of_eq (big12 _)) $$ H
  icases H with ⟨S000, S010, S001, S011, S002, S012, S100, S110, S101, S111, S102, S112⟩
  ihave H := (comm2_split c) $$ X2
  ihave H := (Entails.of_eq (big3 _)) $$ H
  icases H with ⟨S40, S41, S42⟩
  ihave H := (wins_split c) $$ X4
  ihave H := (Entails.of_eq (big3 _)) $$ H
  icases H with ⟨D0, D2, D4⟩
  ihave H := (wouts_split c) $$ X5
  ihave H := (Entails.of_eq (big3 _)) $$ H
  icases H with ⟨D1, D3, D5⟩
  ihave H := (winb_split c) $$ X6
  ihave H := (Entails.of_eq (big3 _)) $$ H
  icases H with ⟨Wi0, Wi1, Wi2⟩
  ihave H := (woutb_split c) $$ X7
  ihave H := (Entails.of_eq (big3 _)) $$ H
  icases H with ⟨Wo0, Wo1, Wo2⟩
  ihave D6 := (Entails.of_eq (x_any (F := F) c)) $$ D6
  ihave H := (Entails.of_eq (big7 _)) $$ HW
  icases H with ⟨W0, W1, W2, W3, W4, W5, W6⟩
  ihave H := (Entails.of_eq (bigCI _)) $$ HP
  icases H with ⟨Pb, HPs, HPr⟩
  ihave H := (Entails.of_eq (big15 _)) $$ HPs
  icases H with ⟨Ps000, Ps001, Ps002, Ps010, Ps011, Ps012, Ps100, Ps101, Ps102, Ps110, Ps111, Ps112, Ps40, Ps41, Ps42⟩
  ihave H := (Entails.of_eq (big15 _)) $$ HPr
  icases H with ⟨Pr000, Pr001, Pr002, Pr010, Pr011, Pr012, Pr100, Pr101, Pr102, Pr110, Pr111, Pr112, Pr40, Pr41, Pr42⟩
  ihave H := (Entails.of_eq (big15 _)) $$ HS
  icases H with ⟨K000, K001, K002, K010, K011, K012, K100, K101, K102, K110, K111, K112, K40, K41, K42⟩
  ihave H := (Entails.of_eq (big3 _)) $$ HB
  icases H with ⟨BT0, BT1, BT2⟩
  ihave H := (Entails.of_eq (big15 _)) $$ HC
  icases H with ⟨Cr000, Cr001, Cr002, Cr010, Cr011, Cr012, Cr100, Cr101, Cr102, Cr110, Cr111, Cr112, Cr40, Cr41, Cr42⟩
  ihave SL0 := (slots_mk F c 0) $$ [S000 S010 S100 S110 S40]
  · isplitl [S000]; · iexact S000
    isplitl [S010]; · iexact S010
    isplitl [S100]; · iexact S100
    isplitl [S110]; · iexact S110
    iexact S40
  ihave SL1 := (slots_mk F c 1) $$ [S001 S011 S101 S111 S41]
  · isplitl [S001]; · iexact S001
    isplitl [S011]; · iexact S011
    isplitl [S101]; · iexact S101
    isplitl [S111]; · iexact S111
    iexact S41
  ihave SL2 := (slots_mk F c 2) $$ [S002 S012 S102 S112 S42]
  · isplitl [S002]; · iexact S002
    isplitl [S012]; · iexact S012
    isplitl [S102]; · iexact S102
    isplitl [S112]; · iexact S112
    iexact S42
  isplitl [A0]; · iexact A0
  isplitl [D6]; · iexact D6
  isplitl [W6]; · iexact W6
  isplitl [A1]; · iexact A1
  isplitl [D0]; · iexact D0
  isplitl [W0]; · iexact W0
  isplitl [A2]; · iexact A2
  isplitl [D1]; · iexact D1
  isplitl [W1]; · iexact W1
  isplitl [A3]; · iexact A3
  isplitl [D2]; · iexact D2
  isplitl [W2]; · iexact W2
  isplitl [A4]; · iexact A4
  isplitl [D3]; · iexact D3
  isplitl [W3]; · iexact W3
  isplitl [A5]; · iexact A5
  isplitl [D4]; · iexact D4
  isplitl [W4]; · iexact W4
  isplitl [A6]; · iexact A6
  isplitl [D5]; · iexact D5
  isplitl [W5]; · iexact W5
  isplitl [BT0]; · iexact BT0
  isplitl [O0]; · iexact O0
  isplitl [SL0]; · iexact SL0
  isplitl [BT1]; · iexact BT1
  isplitl [SL1]; · iexact SL1
  isplitl [BT2]; · iexact BT2
  isplitl [SL2]; · iexact SL2
  isplitl [Wi0]; · iexact Wi0
  isplitl [Wo0]; · iexact Wo0
  isplitl [Q00]; · iexact Q00
  isplitl [Pb]; · iexact Pb
  isplitl [Cb]; · iexact Cb
  isplitl [K001]; · iexact K001
  isplitl [K000]; · iexact K000
  isplitl [K002]; · iexact K002
  isplitl [Q01]; · iexact Q01
  isplitl [K011]; · iexact K011
  isplitl [K010]; · iexact K010
  isplitl [K012]; · iexact K012
  isplitl [Wi1]; · iexact Wi1
  isplitl [Wo1]; · iexact Wo1
  isplitl [Pr002]; · iexact Pr002
  isplitl [Cr002]; · iexact Cr002
  isplitl [Pr000]; · iexact Pr000
  isplitl [Cr000]; · iexact Cr000
  isplitl [Pr001]; · iexact Pr001
  isplitl [Cr001]; · iexact Cr001
  isplitl [Q10]; · iexact Q10
  isplitl [K101]; · iexact K101
  isplitl [K100]; · iexact K100
  isplitl [K102]; · iexact K102
  isplitl [Pr012]; · iexact Pr012
  isplitl [Cr012]; · iexact Cr012
  isplitl [Pr010]; · iexact Pr010
  isplitl [Cr010]; · iexact Cr010
  isplitl [Pr011]; · iexact Pr011
  isplitl [Cr011]; · iexact Cr011
  isplitl [Q11]; · iexact Q11
  isplitl [K111]; · iexact K111
  isplitl [K110]; · iexact K110
  isplitl [K112]; · iexact K112
  isplitl [Wi2]; · iexact Wi2
  isplitl [Wo2]; · iexact Wo2
  isplitl [Pr102]; · iexact Pr102
  isplitl [Cr102]; · iexact Cr102
  isplitl [Pr100]; · iexact Pr100
  isplitl [Cr100]; · iexact Cr100
  isplitl [Pr101]; · iexact Pr101
  isplitl [Cr101]; · iexact Cr101
  isplitl [Q20]; · iexact Q20
  isplitl [Pr112]; · iexact Pr112
  isplitl [Cr112]; · iexact Cr112
  isplitl [Pr110]; · iexact Pr110
  isplitl [Cr110]; · iexact Cr110
  isplitl [Pr111]; · iexact Pr111
  isplitl [Cr111]; · iexact Cr111
  isplitl [Q21]; · iexact Q21
  isplitl [K41]; · iexact K41
  isplitl [K40]; · iexact K40
  isplitl [K42]; · iexact K42
  isplitl [Pr42]; · iexact Pr42
  isplitl [Cr42]; · iexact Cr42
  isplitl [Pr40]; · iexact Pr40
  isplitl [Cr40]; · iexact Cr40
  isplitl [Pr41]; · iexact Pr41
  isplitl [Cr41]; · iexact Cr41
  isplitl [out]; · iexact out
  isplitl [Ps001]; · iexact Ps001
  isplitl [Ps000]; · iexact Ps000
  isplitl [Ps002]; · iexact Ps002
  isplitl [Ps011]; · iexact Ps011
  isplitl [Ps010]; · iexact Ps010
  isplitl [Ps012]; · iexact Ps012
  isplitl [Ps101]; · iexact Ps101
  isplitl [Ps100]; · iexact Ps100
  isplitl [Ps102]; · iexact Ps102
  isplitl [Ps111]; · iexact Ps111
  isplitl [Ps110]; · iexact Ps110
  isplitl [Ps112]; · iexact Ps112
  isplitl [Ps41]; · iexact Ps41
  isplitl [Ps40]; · iexact Ps40
  iexact Ps42

theorem thirds_back {sp : Space} {s : Shape} {e : EltTy} (M : Memref sig .tc sp s e) (X : s.Idx → Elt F e) :
    iprop(atv c M (third 0) X ∗ atv c M (third 1) X ∗ atv c M (third 2) X) ⊢ anyv F c M := by
  iintro ⟨H0, H1, H2⟩
  iapply (atv_any c M X)
  iapply (atv_thirds c M X).2
  isplitl [H0]; · iexact H0
  isplitl [H1]; · iexact H1
  iexact H2

set_option maxHeartbeats 1000000 in
/-- What a device's body ends with, back in bundles. -/
theorem body_exit : bodyOut I c ⊢ exit I c := by
  unfold exit bodyOut args scratch
  iintro ⟨A0, W6, V6, A1, W0, V0, A2, W1, V1, Zb, Wib0, Wob0, A3, W2, V2, A4, W3, V3, Zr002, L002, Zr000, L000, Zr001, L001, Zr012, L012, Zr010, L010, Zr011, L011, Wib1, Wob1, A5, W4, V4, A6, W5, V5, Zr102, L102, Zr100, L100, Zr101, L101, Zr112, L112, Zr110, L110, Zr111, L111, Wib2, Wob2, Rown, Zr42, L42, Zr40, L40, Zr41, L41, outV, B00t1, Zs001, B00t0, Zs000, B00t2, Zs002, B01t1, Zs011, B01t0, Zs010, B01t2, Zs012, B10t1, Zs101, B10t0, Zs100, B10t2, Zs102, B11t1, Zs111, B11t0, Zs110, B11t2, Zs112, R1, Zs41, R0, Zs40, R2, Zs42, O18⟩
  ihave Q00 := (thirds_back c (pcV 0 0) (blk I 0 0 c)) $$ [B00t0 B00t1 B00t2]
  · isplitl [B00t0]; · iexact B00t0
    isplitl [B00t1]; · iexact B00t1
    iexact B00t2
  ihave Q01 := (thirds_back c (pcV 0 1) (blk I 0 1 c)) $$ [B01t0 B01t1 B01t2]
  · isplitl [B01t0]; · iexact B01t0
    isplitl [B01t1]; · iexact B01t1
    iexact B01t2
  ihave Q10 := (thirds_back c (pcV 1 0) (blk I 1 0 c)) $$ [B10t0 B10t1 B10t2]
  · isplitl [B10t0]; · iexact B10t0
    isplitl [B10t1]; · iexact B10t1
    iexact B10t2
  ihave Q11 := (thirds_back c (pcV 1 1) (blk I 1 1 c)) $$ [B11t0 B11t1 B11t2]
  · isplitl [B11t0]; · iexact B11t0
    isplitl [B11t1]; · iexact B11t1
    iexact B11t2
  ihave H := (rows_give c I) $$ [Rown R0 R1 R2]
  · isplitl [Rown]; · iexact Rown
    isplitl [R0]; · iexact R0
    isplitl [R1]; · iexact R1
    iexact R2
  icases H with ⟨Q20, Q21⟩
  ihave Q20 := (atv_any c (pcV 2 0) _) $$ Q20
  ihave Q21 := (atv_any c (pcV 2 1) _) $$ Q21
  ihave X0 := (Entails.of_eq (big6 (F := F) (fun b => anyv F c (pcV b.1 b.2))).symm) $$ [Q00 Q01 Q10 Q11 Q20 Q21]
  · isplitl [Q00]; · iexact Q00
    isplitl [Q01]; · iexact Q01
    isplitl [Q10]; · iexact Q10
    isplitl [Q11]; · iexact Q11
    isplitl [Q20]; · iexact Q20
    iexact Q21
  ihave X0 := (part_join c ((pcV 2 0).view.rep (blk I 2 0 c))) $$ X0
  ihave L000 := (atv_any c (slV 0 0 0) _) $$ L000
  ihave L010 := (atv_any c (slV 0 0 1) _) $$ L010
  ihave L001 := (atv_any c (slV 0 1 0) _) $$ L001
  ihave L011 := (atv_any c (slV 0 1 1) _) $$ L011
  ihave L002 := (atv_any c (slV 0 2 0) _) $$ L002
  ihave L012 := (atv_any c (slV 0 2 1) _) $$ L012
  ihave L100 := (atv_any c (slV 1 0 0) _) $$ L100
  ihave L110 := (atv_any c (slV 1 0 1) _) $$ L110
  ihave L101 := (atv_any c (slV 1 1 0) _) $$ L101
  ihave L111 := (atv_any c (slV 1 1 1) _) $$ L111
  ihave L102 := (atv_any c (slV 1 2 0) _) $$ L102
  ihave L112 := (atv_any c (slV 1 2 1) _) $$ L112
  ihave X1 := (Entails.of_eq (big12 (F := F) (fun b => anyv F c (slV b.1 b.2.1 b.2.2))).symm) $$ [L000 L010 L001 L011 L002 L012 L100 L110 L101 L111 L102 L112]
  · isplitl [L000]; · iexact L000
    isplitl [L010]; · iexact L010
    isplitl [L001]; · iexact L001
    isplitl [L011]; · iexact L011
    isplitl [L002]; · iexact L002
    isplitl [L012]; · iexact L012
    isplitl [L100]; · iexact L100
    isplitl [L110]; · iexact L110
    isplitl [L101]; · iexact L101
    isplitl [L111]; · iexact L111
    isplitl [L102]; · iexact L102
    iexact L112
  ihave X1 := (comm_join c ((slV 0 0 0).view.rep (blk I 0 0 c))) $$ X1
  ihave L40 := (atv_any c (s2V 0) _) $$ L40
  ihave L41 := (atv_any c (s2V 1) _) $$ L41
  ihave L42 := (atv_any c (s2V 2) _) $$ L42
  ihave X2 := (Entails.of_eq (big3 (F := F) (fun b => anyv F c (s2V b))).symm) $$ [L40 L41 L42]
  · isplitl [L40]; · iexact L40
    isplitl [L41]; · iexact L41
    iexact L42
  ihave X2 := (comm2_join c ((s2V 0).view.rep (rows I 0 c))) $$ X2
  ihave V0 := (atv_any c (wiV 0) _) $$ V0
  ihave V1 := (atv_any c (woV 0) _) $$ V1
  ihave V2 := (atv_any c (wiV 1) _) $$ V2
  ihave V3 := (atv_any c (woV 1) _) $$ V3
  ihave V4 := (atv_any c (wiV 2) _) $$ V4
  ihave V5 := (atv_any c (woV 2) _) $$ V5
  ihave V6 := (atv_any c (xM) _) $$ V6
  ihave X3 := (Entails.of_eq (x_any (F := F) c).symm) $$ V6
  ihave X4 := (Entails.of_eq (big3 (F := F) (fun b => anyv F c (wiV b))).symm) $$ [V0 V2 V4]
  · isplitl [V0]; · iexact V0
    isplitl [V2]; · iexact V2
    iexact V4
  ihave X4 := (wins_join c ((wiV 0).view.rep ((I c).wi 0))) $$ X4
  ihave X5 := (Entails.of_eq (big3 (F := F) (fun b => anyv F c (woV b))).symm) $$ [V1 V3 V5]
  · isplitl [V1]; · iexact V1
    isplitl [V3]; · iexact V3
    iexact V5
  ihave X5 := (wouts_join c ((woV 0).view.rep ((I c).wo 0))) $$ X5
  ihave Wib0 := (atv_any c (wibV 0) _) $$ Wib0
  ihave Wob0 := (atv_any c (wobV 0) _) $$ Wob0
  ihave Wib1 := (atv_any c (wibV 1) _) $$ Wib1
  ihave Wob1 := (atv_any c (wobV 1) _) $$ Wob1
  ihave Wib2 := (atv_any c (wibV 2) _) $$ Wib2
  ihave Wob2 := (atv_any c (wobV 2) _) $$ Wob2
  ihave X6 := (Entails.of_eq (big3 (F := F) (fun b => anyv F c (wibV b))).symm) $$ [Wib0 Wib1 Wib2]
  · isplitl [Wib0]; · iexact Wib0
    isplitl [Wib1]; · iexact Wib1
    iexact Wib2
  ihave X6 := (winb_join c ((wibV 0).view.rep (winB (I c) 0))) $$ X6
  ihave X7 := (Entails.of_eq (big3 (F := F) (fun b => anyv F c (wobV b))).symm) $$ [Wob0 Wob1 Wob2]
  · isplitl [Wob0]; · iexact Wob0
    isplitl [Wob1]; · iexact Wob1
    iexact Wob2
  ihave X7 := (woutb_join c ((wobV 0).view.rep (woutB (I c) 0))) $$ X7
  ihave HW := (Entails.of_eq (big7 (F := F) (fun b => wz F c b)).symm) $$ [W0 W1 W2 W3 W4 W5 W6]
  · isplitl [W0]; · iexact W0
    isplitl [W1]; · iexact W1
    isplitl [W2]; · iexact W2
    isplitl [W3]; · iexact W3
    isplitl [W4]; · iexact W4
    isplitl [W5]; · iexact W5
    iexact W6
  ihave HZs := (Entails.of_eq (big15 (F := F) (fun b => cz F c (some (false, b)))).symm) $$ [Zs000 Zs001 Zs002 Zs010 Zs011 Zs012 Zs100 Zs101 Zs102 Zs110 Zs111 Zs112 Zs40 Zs41 Zs42]
  · isplitl [Zs000]; · iexact Zs000
    isplitl [Zs001]; · iexact Zs001
    isplitl [Zs002]; · iexact Zs002
    isplitl [Zs010]; · iexact Zs010
    isplitl [Zs011]; · iexact Zs011
    isplitl [Zs012]; · iexact Zs012
    isplitl [Zs100]; · iexact Zs100
    isplitl [Zs101]; · iexact Zs101
    isplitl [Zs102]; · iexact Zs102
    isplitl [Zs110]; · iexact Zs110
    isplitl [Zs111]; · iexact Zs111
    isplitl [Zs112]; · iexact Zs112
    isplitl [Zs40]; · iexact Zs40
    isplitl [Zs41]; · iexact Zs41
    iexact Zs42
  ihave HZr := (Entails.of_eq (big15 (F := F) (fun b => cz F c (some (true, b)))).symm) $$ [Zr000 Zr001 Zr002 Zr010 Zr011 Zr012 Zr100 Zr101 Zr102 Zr110 Zr111 Zr112 Zr40 Zr41 Zr42]
  · isplitl [Zr000]; · iexact Zr000
    isplitl [Zr001]; · iexact Zr001
    isplitl [Zr002]; · iexact Zr002
    isplitl [Zr010]; · iexact Zr010
    isplitl [Zr011]; · iexact Zr011
    isplitl [Zr012]; · iexact Zr012
    isplitl [Zr100]; · iexact Zr100
    isplitl [Zr101]; · iexact Zr101
    isplitl [Zr102]; · iexact Zr102
    isplitl [Zr110]; · iexact Zr110
    isplitl [Zr111]; · iexact Zr111
    isplitl [Zr112]; · iexact Zr112
    isplitl [Zr40]; · iexact Zr40
    isplitl [Zr41]; · iexact Zr41
    iexact Zr42
  ihave HZ := (Entails.of_eq (bigCI (F := F) (fun b => cz F c b)).symm) $$ [Zb HZs HZr]
  · isplitl [Zb]; · iexact Zb
    isplitl [HZs]; · iexact HZs
    iexact HZr
  isplitl [A0 A1 A2 A3 A4 A5 A6]
  · isplitl [A0]; · iexact A0
    isplitl [A1]; · iexact A1
    isplitl [A2]; · iexact A2
    isplitl [A3]; · iexact A3
    isplitl [A4]; · iexact A4
    isplitl [A5]; · iexact A5
    iexact A6
  isplitl [X0 X1 X2 X3 X4 X5 X6 X7]
  · isplitl [X0]; · iexact X0
    isplitl [X1]; · iexact X1
    isplitl [X2]; · iexact X2
    isplitl [X3]; · iexact X3
    isplitl [X4]; · iexact X4
    isplitl [X5]; · iexact X5
    isplitl [X6]; · iexact X6
    iexact X7
  isplitl [HW]; · iexact HW
  isplitl [HZ]; · iexact HZ
  isplitl [O18]; · iexact O18
  iexact outV

end Cert.Mlp

end
-- ==== Proof.Launch.lean ====
/-
  The launch: the cells' invariants, the tokens dealt to the devices that pay them, the credits, and the run of the
  whole program at any float values.
-/
module

public import proofs.«01_k».proof.Proof.Entry
public import proofs.«01_k».proof.Proof.Gen.KernelIdeal.Launch
public import proofs.«01_k».proof.Proof.Gen.KernelIdeal.Points
public import Idealize.ShloMosaic.Lib.Pipeline.Launch
public import Idealize.ShloMosaic.Lib.Pipeline.CollectiveSegs

@[expose] public section

noncomputable section

namespace Cert.Mlp

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

variable (m : (ℓ : Loc nD τ sig) → Buf (Elt F) ℓ) (ρ : Dev nD → PrngReg)

/-- The state at launch. -/
abbrev s₀ : MemSt nD τ sig (Elt F) := ⟨m, fun _ => 0, ρ⟩

/-- What the devices are given. -/
def ins (c : Dev nD) : Ins F where
  x := m ((c : Thread nD τ).loc main_arg0)
  wi := ![m ((c : Thread nD τ).loc main_arg1), m ((c : Thread nD τ).loc main_arg3), m ((c : Thread nD τ).loc main_arg5)]
  wo := ![m ((c : Thread nD τ).loc main_arg2), m ((c : Thread nD τ).loc main_arg4), m ((c : Thread nD τ).loc main_arg6)]

/-! ## The semaphores -/

theorem un_lt (i : Fin 6) : 21 + 2 * (i.val % 3) + 18 * (i.val / 3) < sig.nDmaSem := by revert i; decide
/-- The semaphores of the kernel's arrays that no transfer uses. -/
abbrev unS (i : Fin 6) : DmaSem sig := ⟨21 + 2 * (i.val % 3) + 18 * (i.val / 3), un_lt i⟩

/-- The kernel's own semaphores: the local copies', the unused, the sends', the receives'. -/
abbrev OI : Type := Fin 7 ⊕ (Fin 6 ⊕ (GK ⊕ GK))
abbrev osem : OI → SemLoc sig
  | .inl i => .dma (wS i)
  | .inr (.inl i) => .dma (unS i)
  | .inr (.inr (.inl y)) => .dma (sendS y.1 y.2)
  | .inr (.inr (.inr y)) => .dma (recvS y.1 y.2)

set_option maxRecDepth 16384 in
theorem ownSemFacts : Pipeline.OwnSemFacts cfg0.spec osem := by decide +kernel

/-- The semaphores no cell of the protocol stands for. -/
def spare (F : FTy → Type) (c : Dev nD) : sProp (MM F) :=
  iprop((bigSep Finset.univ fun i : Fin 7 => wz F c i) ∗ bigSep Finset.univ fun i : Fin 6 => semVal ((c : Thread nD τ), .dma (unS i)) 0)

abbrev ownS (F : FTy → Type) (c : Dev nD) : sProp (MM F) :=
  Pipeline.ownSems0 (Ix := Unit) (Name := ℕ) (U := UU) (Lvl := ℕ) (Val := Elt F) (τ := τ) osem c

theorem ownS_eq (c : Dev nD) : ownS F c = iprop((bigSep Finset.univ fun i : Fin 7 => wz F c i)
    ∗ (bigSep Finset.univ fun i : Fin 6 => semVal ((c : Thread nD τ), .dma (unS i)) 0)
    ∗ (bigSep Finset.univ fun y : GK => cz F c (some (false, y))) ∗ bigSep Finset.univ fun y : GK => cz F c (some (true, y))) := by
  unfold ownS Pipeline.ownSems0
  rw [bigSep_univ_sum, bigSep_univ_sum, bigSep_univ_sum]
  rfl

/-- The barrier semaphore is the launch's one unscoped semaphore. -/
theorem unscoped_eq (c : Dev nD) : (unscopedSems0 c : sProp (MM F)) = cz F c none := by
  unfold unscopedSems0; rw [bigSep_eq_bigSepL_of_eq [SemLoc.reg barS] (by decide) (by decide)]; rfl

/-- A device's semaphores at zero are its cells' and the spare ones. -/
theorem sems_split (c : Dev nD) : iprop(ownS F c ∗ unscopedSems0 c) ⊢ iprop((bigSep Finset.univ fun x : CI => cz F c x) ∗ spare F c) := by
  rw [ownS_eq, unscoped_eq, bigCI (fun x => cz F c x)]
  unfold spare
  iintro ⟨⟨HW, HU, HS, HR⟩, HB⟩
  isplitl [HB HS HR]
  · isplitl [HB]; · iexact HB
    isplitl [HS] <;> iassumption
  isplitl [HW] <;> iassumption

theorem sems_join (c : Dev nD) : iprop((bigSep Finset.univ fun x : CI => cz F c x) ∗ spare F c) ⊢ iprop(unscopedSems0 c ∗ ownS F c) := by
  rw [ownS_eq, unscoped_eq, bigCI (fun x => cz F c x)]
  unfold spare
  iintro ⟨⟨HB, HS, HR⟩, HW, HU⟩
  isplitl [HB]; · iexact HB
  isplitl [HW]; · iexact HW
  isplitl [HU]; · iexact HU
  isplitl [HS] <;> iassumption

/-! ## The ghost state at launch -/

def cellsAll : Finset (GSem nD τ sig) := Finset.univ.map ⟨cell, fun _ _ h => cell_inj h⟩

/-- The duties of a device's own cells: its barrier's three, its send cells', its receive cells'. -/
abbrev TI : Type := Fin 3 ⊕ (GK ⊕ GK)
abbrev tokOf (x : Dev nD × TI) : GSem nD τ sig × ℕ × Fin 3 := match x.2 with
  | .inl d => (cell (x.1, none), 0, d)
  | .inr (.inl y) => (cell (x.1, some (false, y)), 0, 0)
  | .inr (.inr y) => (cell (x.1, some (true, y)), 0, 0)

theorem tokOf_inj : Function.Injective tokOf := by
  rintro ⟨c, j⟩ ⟨c', j'⟩ h
  have hc (x x' : Dev nD × CI) (d d' : Fin 3) (e : ((cell x, 0, d) : GSem nD τ sig × ℕ × Fin 3) = (cell x', 0, d')) : x = x' ∧ d = d' :=
    ⟨cell_inj (congrArg Prod.fst e), congrArg (fun z => z.2.2) e⟩
  rcases j with d | y | y <;> rcases j' with d' | y' | y' <;> have e := hc _ _ _ _ h <;> simp_all

def toksAll : Finset (GSem nD τ sig × ℕ × Fin 3) := Finset.univ.map ⟨tokOf, tokOf_inj⟩

def u₀ : UU :=
  (initOf (Pipeline.cells cfgs cellOf_inj) (Pipeline.launchToks cfgs cellOf_inj), (initOf cellsAll toksAll, 1))

/-- The duty tokens of a device's own cells. -/
def toks (F : FTy → Type) (c : Dev nD) : sProp (MM F) :=
  iprop((bigSep Finset.univ fun d : Fin 3 => dutyTok ER (cell (c, none)) 0 d)
    ∗ (bigSep Finset.univ fun y : GK => dutyTok ER (cell (c, some (false, y))) 0 0)
    ∗ bigSep Finset.univ fun y : GK => dutyTok ER (cell (c, some (true, y))) 0 0)

variable (I : Dev nD → Ins F)

/-- What the launch deals a device. -/
def G (c : Dev nD) : sProp (MM F) :=
  iprop((bigSep Finset.univ fun x : CI => roundState ER (Rd I) (cell (c, x)) 0)
    ∗ (bigSep Finset.univ fun x : CI => posAt F c x) ∗ (bigSep Finset.univ fun x : CI => reached ER (cell (c, x)) 0) ∗ toks F c)

/-- What stays with a device. -/
def linear (F : FTy → Type) (c : Dev nD) : sProp (MM F) :=
  iprop((bigSep Finset.univ fun x : CI => posAt F c x) ∗ payToks F c ∗ spare F c)

/-- What every device knows, without the levels. -/
def recs' (K : Dev nD × CI → ℕ) : sProp (MM F) :=
  bigSep Finset.univ (fun x : Dev nD × CI => iprop(cellInv ER (Rd I) (K x) (cell x) ∗ reached ER (cell x) 0))

instance recs'_persistent (K : Dev nD × CI → ℕ) : BI.Persistent (recs' I K) := by unfold recs'; infer_instance

/-- What the global step makes of it. -/
def G' (c : Dev nD) : sProp (MM F) := iprop(∃ K, recs' I K ∗ linear F c)

theorem fund_cells : BI.own (ER (initOf cellsAll toksAll)) ⊢ (|==> bigSep Finset.univ (G I) : sProp (MM F)) := by
  have hX (Φ : GSem nD τ sig → sProp (MM F)) : bigSep cellsAll Φ = bigSep Finset.univ fun c : Dev nD => bigSep Finset.univ fun x : CI => Φ (cell (c, x)) := by
    unfold cellsAll; rw [bigSep_map, bigSep_univ_prod]; rfl
  have hT : bigSep toksAll (fun x => (dutyTok ER x.1 x.2.1 x.2.2 : sProp (MM F))) = bigSep Finset.univ fun c : Dev nD => toks F c := by
    unfold toksAll; rw [bigSep_map, bigSep_univ_prod]
    exact bigSep_congr fun c _ => by unfold toks; rw [bigSep_univ_sum, bigSep_univ_sum]; rfl
  iintro HX
  imod (Rounds.fund ER (Rd I) cellsAll toksAll) $$ HX with ⟨Hst, Hr, Hat, Htok⟩
  imodintro
  ihave Hst' := (Entails.of_eq (hX fun g => roundState ER (Rd I) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G posAt; simp only [bigSep_sep']
  isplitl [Hst']; · iexact Hst'
  isplitl [Hat']; · iexact Hat'
  isplitl [Hr']; · iexact Hr'
  iexact Htok'

/-- A device's cells get their invariants. -/
theorem core_alloc (c : Dev nD) : iprop(ownS F c ∗ unscopedSems0 c ∗ G I c)
    ⊢ |={Set.univ}=> iprop((bigSep Finset.univ fun x => iprop(∃ κ : ℕ, cellInv ER (Rd I) κ (cell (c, x))))
        ∗ (bigSep Finset.univ fun x : CI => posAt F c x) ∗ (bigSep Finset.univ fun x : CI => reached ER (cell (c, x)) 0) ∗ toks F c ∗ spare F c) := by
  unfold G
  iintro ⟨Hos, Hus, Hst, Hat, Hr, Htok⟩
  ihave Hv := (sems_split (F := F) c) $$ [Hos Hus]
  · isplitl [Hos] <;> iassumption
  icases Hv with ⟨Hv, Hsp⟩
  imod (show iprop((bigSep Finset.univ fun x : CI => cz F c x) ∗ bigSep Finset.univ fun x : CI => roundState ER (Rd I) (cell (c, x)) 0)
      ⊢ (|={Set.univ}=> bigSep Finset.univ fun x => iprop(∃ κ : ℕ, cellInv ER (Rd I) κ (cell (c, x))) : sProp (MM F)) from by
        rw [← bigSep_sep']
        exact (bigSep_mono fun x _ => (Rounds.body_intro ER (Rd I) (cell (c, x))).trans inv_alloc).trans (bigSep_fupd _ _)) $$ [Hv Hst] with Hinv
  · isplitl [Hv] <;> iassumption
  imodintro
  isplitl [Hinv]; · iexact Hinv
  isplitl [Hat]; · iexact Hat
  isplitl [Hr]; · iexact Hr
  isplitl [Htok] <;> iassumption

/-! ### The tokens, from the cells' devices to the devices that pay them -/

/-- A device and a distance, seen from the other end. -/
def flip3 : Dev nD × Fin 3 ≃ Dev nD × Fin 3 where
  toFun x := (peer x.1 x.2, x.2.rev)
  invFun x := (peer x.1 x.2, x.2.rev)
  left_inv x := Prod.ext (peer_rev x.1 x.2) (Fin.rev_rev _)
  right_inv x := Prod.ext (peer_rev x.1 x.2) (Fin.rev_rev _)

/-- The same with a group of messages. -/
def flipG : Dev nD × GK ≃ Dev nD × GK where
  toFun x := (peer x.1 x.2.2, x.2.1, x.2.2.rev)
  invFun x := (peer x.1 x.2.2, x.2.1, x.2.2.rev)
  left_inv x := Prod.ext (peer_rev x.1 x.2.2) (Prod.ext rfl (Fin.rev_rev _))
  right_inv x := Prod.ext (peer_rev x.1 x.2.2) (Prod.ext rfl (Fin.rev_rev _))

theorem toks_around : (bigSep Finset.univ fun c : Dev nD => (toks F c : sProp (MM F))) ⊢ bigSep Finset.univ fun c : Dev nD => payToks F c := by
  have hb : (bigSep Finset.univ fun c : Dev nD => bigSep Finset.univ fun d : Fin 3 => (dutyTok ER (cell (c, none)) 0 d : sProp (MM F)))
      = bigSep Finset.univ fun c : Dev nD => bigSep Finset.univ fun k : Fin 3 => barTok F c k := by
    rw [← bigSep_univ_prod (fun x : Dev nD × Fin 3 => (dutyTok ER (cell (x.1, none)) 0 x.2 : sProp (MM F))), bigSep_univ_equiv flip3, bigSep_univ_prod]; rfl
  have hr : (bigSep Finset.univ fun c : Dev nD => bigSep Finset.univ fun y : GK => (dutyTok ER (cell (c, some (true, y))) 0 0 : sProp (MM F)))
      = bigSep Finset.univ fun c : Dev nD => bigSep Finset.univ fun y : GK => (dutyTok ER (cell (peer c y.2, some (true, y.1, y.2.rev))) 0 0 : sProp (MM F)) := by
    rw [← bigSep_univ_prod (fun x : Dev nD × GK => (dutyTok ER (cell (x.1, some (true, x.2))) 0 0 : sProp (MM F))), bigSep_univ_equiv flipG, bigSep_univ_prod]; rfl
  unfold toks payToks sendTok
  simp only [bigSep_sep']
  rw [hb, hr]
  iintro ⟨H1, H2, H3⟩
  isplitr [H1]
  · isplitl [H2] <;> iassumption
  iexact H1

theorem regroup :
    (bigSep Finset.univ fun c : Dev nD => iprop((bigSep Finset.univ fun x => iprop(∃ κ : ℕ, cellInv ER (Rd I) κ (cell (c, x))))
        ∗ (bigSep Finset.univ fun x : CI => posAt F c x) ∗ (bigSep Finset.univ fun x : CI => reached ER (cell (c, x)) 0) ∗ toks F c ∗ spare F c) : sProp (MM F))
      ⊢ bigSep Finset.univ (G' I) := by
  rw [bigSep_sep', bigSep_sep', bigSep_sep', bigSep_sep', ← bigSep_univ_prod (fun x : Dev nD × CI => iprop(∃ κ : ℕ, cellInv ER (Rd I) κ (cell x))),
    ← bigSep_univ_prod (fun x : Dev nD × CI => (reached ER (cell x) 0 : sProp (MM F)))]
  iintro ⟨HI, Hat, Hr, Htok, Hsp⟩
  ihave HK := (BI.bigSep_exists_pi Finset.univ (fun (x : Dev nD × CI) (κ : ℕ) => (cellInv ER (Rd I) κ (cell x) : sProp (MM F)))) $$ HI
  icases HK with ⟨%K, HI⟩
  ihave Htk := (toks_around (F := F)) $$ Htok
  have hj : iprop((bigSep Finset.univ fun x : Dev nD × CI => cellInv ER (Rd I) (K x) (cell x)) ∗ bigSep Finset.univ fun x : Dev nD × CI => reached ER (cell x) 0)
      ⊢ recs' I K := by unfold recs'; rw [bigSep_sep']
  have hg : ∀ c ∈ (Finset.univ : Finset (Dev nD)), iprop(recs' I K ∗ linear F c) ⊢ G' I c := fun c _ => by
    unfold G'; iintro H; iexists K; iexact H
  have hl : iprop((bigSep Finset.univ fun c : Dev nD => bigSep Finset.univ fun x : CI => posAt F c x) ∗ (bigSep Finset.univ fun c : Dev nD => payToks F c)
      ∗ bigSep Finset.univ fun c : Dev nD => spare F c) ⊢ bigSep Finset.univ fun c : Dev nD => linear F c := by
    unfold linear; rw [bigSep_sep', bigSep_sep']
  iapply ((sep_mono_left (BI.bigSep_of_persistent Finset.univ (recs' I K))).trans (by
    rw [← bigSep_sep']; exact bigSep_mono hg) : iprop(recs' I K ∗ bigSep Finset.univ fun c : Dev nD => linear F c) ⊢ bigSep Finset.univ (G' I))
  isplitl [HI Hr]
  · iapply hj
    isplitl [HI] <;> iassumption
  iapply hl
  isplitl [Hat]; · iexact Hat
  isplitl [Htk] <;> iassumption

/-- The global step: every device's semaphores at once. -/
theorem glob : (bigSep Finset.univ fun c => iprop(ownS F c ∗ unscopedSems0 c ∗ G I c) : sProp (MM F)) ⊢ |={Set.univ}=> bigSep Finset.univ (G' I) :=
  ((bigSep_mono fun c _ => core_alloc I c).trans (bigSep_fupd _ _)).trans (BI.fupd_mono (regroup I))

/-! ### The credits -/

/-- What a device owes a cell. -/
theorem debt_at (d : Dev nD) (z : Dev nD × CI) (l : List (Option (Fin 5) × Fin 3)) :
    debt d l (cell z) () = (l.filter fun y => decide (tgt d y = z)).length * amt z.2 := by
  induction l with
  | nil => rw [List.filter_nil, List.length_nil, Nat.zero_mul]; rfl
  | cons y l ih =>
    rw [debt_cons, Pi.add_apply, Finsupp.add_apply, ih, tallyAt_apply, List.filter_cons]
    by_cases h : tgt d y = z
    · rw [if_pos ⟨congrArg cell h.symm, rfl⟩, if_pos (decide_eq_true h), List.length_cons, h, Nat.add_mul, Nat.one_mul]
    · rw [if_neg (fun e => h (cell_inj e.1).symm), if_neg (fun e => h (of_decide_eq_true e)), Nat.add_zero]

set_option maxRecDepth 16384 in
/-- How many payments a cell gets: three at the barrier, one at a receive cell. -/
theorem count_at : ∀ c : Dev nD, (∑ d : Dev nD, (dues.filter fun y => decide (tgt d y = (c, none))).length) = 3
    ∧ ∀ y : GK, (∑ d : Dev nD, (dues.filter fun z => decide (tgt d z = (c, some (true, y)))).length) = 1 := by decide +kernel

theorem launch_at (z : Dev nD × CI) (n : ℕ) (h : (∑ d : Dev nD, (dues.filter fun y => decide (tgt d y = z)).length) * amt z.2 = n) :
    tallyOn (cell z) (launchCredit (Pipeline.owing fun d => debt d dues) 0 (cell z)) = (tallyAt (cell z) () n : CellTallies nD τ sig Unit) := by
  unfold tallyAt; refine congrArg _ (Finsupp.ext fun u => ?_); cases u
  rw [Pipeline.launchCredit_owing, Finsupp.single_eq_same, Finset.sum_congr rfl fun d _ => debt_at d z dues, ← Finset.sum_mul, h]

/-- The cells others pay, as semaphores. -/
def paidS : Option GK ↪ SemLoc sig :=
  ⟨fun o => semOf (o.map fun y => (true, y)), fun a b h => Option.map_injective (fun _ _ e => (Prod.mk.inj e).2) (semOf_inj h)⟩

theorem creds (c : Dev nD) : (Pipeline.launchCred (fun d => debt d dues) c : sProp (MM F)) ⊢ credits F c := by
  unfold Pipeline.launchCred credits
  refine (bigSep_subset (Finset.subset_univ (Finset.univ.map paidS))).trans ?_
  rw [bigSep_map, bigOpt]
  unfold crd
  refine Entails.of_eq (congrArg₂ (fun A B : sProp (MM F) => iprop(A ∗ B)) ?_ (bigSep_congr fun y _ => ?_))
  · exact congrArg (fun t => (cred t : sProp (MM F))) (launch_at (c, none) 3 (by rw [(count_at c).1]; rfl))
  · exact congrArg (fun t => (cred t : sProp (MM F))) (launch_at (c, some (true, y)) _ (by rw [(count_at c).2 y, Nat.one_mul]; rfl))

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- What a device starts from, before its scratch buffers. -/
def start (c : Dev nD) : sProp (MM F) :=
  iprop((∃ K, recs I K ∗ linear F c) ∗ credits F c ∗ args I c)

def Φ₀ (c : Dev nD) : sProp (MM F) := iprop(start I c ∗ scratch F c)
def Φ₁ (c : Dev nD) : sProp (MM F) := iprop(args I c ∗ scratch F c ∗ (bigSep Finset.univ fun x : CI => cz F c x) ∗ spare F c)

def dats (_ : Fin 1) (c : Dev nD) : Dat τ (Elt F) Unit ℕ UU ℕ cfg0 c where
  A w := m ((cfg0.win w).arr.view.loc (c : Thread nD τ))
  after w _ := match w with
    | ⟨0, _⟩ => outV (ins m) c
  Φ t := match t with
    | ⟨0, _⟩ => Φ₀ (ins m) c
    | ⟨_ + 1, _⟩ => Φ₁ (ins m) c
  q _ := fullShare
  owed t := match t with
    | ⟨0, _⟩ => debt c dues
    | ⟨_ + 1, _⟩ => 0

/-- A buffer held whole at given contents. -/
abbrev stg (c : Dev nD) (b : Ref sig .tc) (X : b.ty.Contents (Elt F)) : sProp (MM F) :=
  iprop(∃ f : Buf (Elt F) (((c : Dev nD) : Thread nD τ).loc b), ⌜f = X⌝ ∗ (((c : Thread nD τ).loc b) ↦{fullShare} f))

theorem owns_whole_eq (c : Dev nD) (b : Ref sig .tc) (X : b.ty.Contents (Elt F)) :
    (owns (Ix := Unit) (Name := ℕ) (U := UU) (Lvl := ℕ) (c : Thread nD τ) (Memref.whole b) fullShare X : sProp (MM F)) = stg c b X := by
  unfold owns; simp only [Memref.view_whole, View.read_whole, View.set_whole]

/-- A whole buffer at contents, as a piece. -/
theorem whole_atv (c : Dev nD) (b : Ref sig .tc) (X : Buf (Elt F) ((c : Thread nD τ).loc b)) :
    (((c : Thread nD τ).loc b) ↦{fullShare} X : sProp (MM F)) = atv c (Memref.whole b) fullShare X := by
  have h := atv_of c (Memref.whole b) fullShare X
  rw [show (Memref.whole b : Memref sig .tc _ _ _).view.set = Finset.univ from View.set_whole _] at h
  exact h

/-! ## The body -/

def bodyPre (c : Dev nD) : sProp (MM F) :=
  iprop(Φ₀ (ins m) c ∗ (dats m 0 c).owesAt () t₀.castSucc ∗ (∃ d, stg c cc0_stg0_0 ((dats m 0 c).before (0 : Fin 1) t₀ d)))

def bodyPost (c : Dev nD) : sProp (MM F) :=
  iprop(Φ₁ (ins m) c ∗ (dats m 0 c).owesAt () t₀.succ ∗ stg c cc0_stg0_0 (outV (ins m) c))

theorem sound_body (c : Dev nD) : bodyPre m c ⊢ WP c (on (cc0_body (F := F))) (fun _ => bodyPost m c) := by
  unfold bodyPre Φ₀ start linear spare Dat.owesAt Pipeline.owesWithin
  rw [show (dats m 0 c).owed t₀.castSucc = debt c dues from rfl]
  iintro ⟨⟨⟨⟨%K, #HR, Hpos, Htok, Hw, Hun⟩, Hcr, Ha⟩, Hscr⟩, ⟨%W, %hW, HO⟩, ⟨%d, %f, -, Hout⟩⟩
  iapply (body_spec (ins m) K c (Q := fun _ => bodyPost m c)) $$ [Hpos Htok Hw Hcr Ha Hscr HO Hout]
  · isplitr; · iexact HR
    iapply (entry_body (ins m) c)
    unfold entry owe
    isplitl [Ha]; · iexact Ha
    isplitl [Hscr]; · iexact Hscr
    isplitl [Hw]; · iexact Hw
    isplitl [Hpos]; · iexact Hpos
    isplitl [Htok]; · iexact Htok
    isplitl [Hcr]; · iexact Hcr
    isplitl [HO]
    · iexists W; iexact HO
    iapply (Entails.of_eq (out_any (F := F) c))
    iexists f; iexact Hout
  iintro H
  ihave H := (body_exit (ins m) c) $$ H
  unfold exit bodyPost Φ₁ spare owe Dat.owesAt Pipeline.owesWithin
  rw [show (dats m 0 c).owed t₀.succ = 0 from rfl]
  icases H with ⟨Ha, Hscr, Hw, Hz, ⟨%W', HO⟩, Hout⟩
  isplitl [Ha Hscr Hw Hz Hun]
  · isplitl [Ha]; · iexact Ha
    isplitl [Hscr]; · iexact Hscr
    isplitl [Hz]; · iexact Hz
    isplitl [Hw] <;> iassumption
  isplitl [HO]
  · iexists W'
    isplitr; · ipureintro; exact fun _ _ => Or.inl trivial
    iexact HO
  iexists (outV (ins m) c)
  isplitr; · (ipureintro; rfl)
  iapply (Entails.of_eq (whole_atv c cc0_stg0_0 (outV (ins m) c)).symm)
  iexact Hout

set_option maxRecDepth 100000 in
/-- The library's body obligation. -/
theorem body_obligation (c : Dev nD) : BodyObligation (dats (F := F) m 0 c) (defs₀ (F := F)) 𝒱₀ () Set.univ := fun t => by
  rw [fin_N t]
  rw [bigSep_W0, bigSep_W0]
  simp only [owns_whole_eq]
  exact sound_body m c

/-! ## The side conditions -/

theorem share_eq (c : Dev nD) (w : Fin cfg0.W) : (dats m 0 c).share w = fullShare := by unfold Dat.share; split <;> rfl

theorem args_of (c : Dev nD) : Pipeline.unscopedRestP Pipeline.Prefetch.none cfg0.spec c (fun b => m ((c : Thread nD τ).loc b)) ⊢ args (ins m) c := by
  refine (Entails.of_eq (unscopedRest0_eq c (fun b => m ((c : Thread nD τ).loc b)))).trans ?_
  unfold args
  simp only [whole_atv]
  exact BI.Entails.refl _

theorem start_intro (c : Dev nD) :
    iprop(Pipeline.unscopedRestP Pipeline.Prefetch.none cfg0.spec c (fun b => m ((c : Thread nD τ).loc b)) ∗ levAts L lv
        ∗ Pipeline.launchCred (fun d => debt d dues) c ∗ prngReg c (ρ c) ∗ G' (ins m) c)
      ⊢ |={Set.univ}=> iprop(start (ins m) c ∗ emp) := by
  unfold G' start
  iintro ⟨Ha, Hlev, Hcr, -, ⟨%K, HR, HG⟩⟩
  ihave Hc := (creds (F := F) c) $$ Hcr
  ihave Ha' := (args_of m c) $$ Ha
  imodintro
  isplitl
  · isplitl [HR HG Hlev]
    · iexists K
      isplitr [HG]
      · unfold recs recs'
        isplitl [HR] <;> iassumption
      iexact HG
    isplitl [Hc] <;> iassumption
  · iempintro

theorem phi0_intro (c : Dev nD) :
    iprop(start (ins m) c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ (ins m) c from rfl, scopedRest0_eq]
  unfold Φ₀ scratch
  iintro ⟨Hs, -, Hr⟩
  isplitl [Hs]; · iexact Hs
  iexact Hr

/-- What a device ends with outside the kernel's scope. -/
def Y (c : Dev nD) : sProp (MM F) := iprop(unscopedSems0 c ∗ args (ins m) c)

theorem phi1_exit (c : Dev nD) :
    (dats m 0 c).Φ (Fin.last cfg0.N) ⊢ iprop(Y m c ∗ ownS F c ∗ Pipeline.scopedRest cfg0.spec c) := by
  rw [show (dats m 0 c).Φ (Fin.last cfg0.N) = Φ₁ (ins m) c from rfl, scopedRest0_eq]
  unfold Φ₁ Y scratch
  iintro ⟨Ha, Hscr, Hz, Hsp⟩
  ihave H := (sems_join (F := F) c) $$ [Hz Hsp]
  · isplitl [Hz] <;> iassumption
  icases H with ⟨Hu, Ho⟩
  isplitl [Hu Ha]
  · isplitl [Hu] <;> iassumption
  isplitl [Ho]; · iexact Ho
  iexact Hscr

theorem waits (c : Dev nD) : (levAts L lv : sProp (MM F)) ⊢ Pipeline.cellsWaits cfgs (dats m) () 0 c :=
  Pipeline.cellsWaits_intro cfgs (dats m) () 0 c fun w s t => by
    rcases t with ⟨_ | _, ht⟩
    · exact mayWait_debt c _ 0 (by fin_cases w; fin_cases s; show (ciOf (SemLoc.dma 0)).elim 0 lvCI = 0; decide) dues (by decide)
    · show _ ⊢ MayWait _ _ () 0
      rw [MayWait_zero]; iintro -; iempintro

/-- The arguments' buffers. -/
abbrev argB : Fin 7 → Ref sig .tc := ![main_arg0, main_arg1, main_arg2, main_arg3, main_arg4, main_arg5, main_arg6]

theorem args_back (c : Dev nD) : args (ins m) c ⊢ bigSep Finset.univ fun i : Fin 7 => (((c : Thread nD τ).loc (argB i)) ↦{fullShare} m ((c : Thread nD τ).loc (argB i)) : sProp (MM F)) := by
  rw [big7]
  simp only [whole_atv]
  exact BI.Entails.refl _

/-! ## The run -/

/-- What the run leaves: on every device the result of its rows, the arguments as they were. -/
def QC : PUnit × MemSt nD τ sig (Elt F) → Prop := fun r =>
  (∀ c : Dev nD, ∀ w : Fin cfg0.W, r.2.mem ((cfg0.win w).arr.view.loc (c : Thread nD τ)) = (dats m 0 c).arrAt w cfg0.N)
    ∧ (∀ c : Dev nD, ∀ i : Fin 7, r.2.mem ((c : Thread nD τ).loc (argB i)) = m ((c : Thread nD τ).loc (argB i))) ∧ r.2.sem = fun _ => 0

set_option maxRecDepth 8000 in
/-- From any memory with the counters at zero, every fair execution of the four devices terminates and ends as `QC` says. -/
theorem run_raw : θ_run defs (onTc (τ := τ) (main (F := F))) (s₀ m ρ) (QC m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => body_obligation m c) (hne := fun w => by fin_cases w <;> exact Nat.succ_pos _) (harr := arr_whole0) (hstage := stage_whole0)
    (hshare := share_eq m) (hdistinct := winFacts0.arr_inj)
    (O₀ := fun c => debt c dues) (howed₀ := fun _ => rfl) (howedN := fun _ => rfl)
    (L := L) (lv := lv) (hL := L_of_ne) (hwaits := waits m)
    (G := G (ins m)) (G' := G' (ins m)) (u₀ := u₀)
    (hu₀ := by
      unfold u₀
      iintro Hu
      ihave H := (ownU_pair _ _) $$ Hu
      icases H with ⟨HP, HX⟩
      ihave H := (own_pair_emb _ _ _) $$ HX
      icases H with ⟨HX, -⟩
      imod (fund_cells (ins m)) $$ HX with HG
      imodintro
      isplitl [HP] <;> iassumption)
    (hglob := glob (ins m))
    (hA := fun _ _ => rfl) (hpf := fun _ k => k.elim0)
    (X := start (ins m)) (Y := Y m) (Z := fun _ => iprop(emp))
    (hX := start_intro m ρ) (hin := phi0_intro m) (hout := phi1_exit m)
    (QY := fun c s => (∀ sm : SemLoc sig, sm.isScoped .tc = false → s.sem ((c.tc : Thread nD τ), sm) = 0)
      ∧ ∀ i : Fin 7, s.mem ((c : Thread nD τ).loc (argB i)) = m ((c : Thread nD τ).loc (argB i)))
    (hY := fun c s' => by
      unfold Y
      iintro ⟨⟨Hu, Ha⟩, -, HSI⟩
      imod (Pipeline.unscopedSems0_read (X := unscopedSems0 c) (c := c) fupd_intro s') $$ [Hu HSI] with H
      · isplitl [Hu] <;> iassumption
      icases H with ⟨%h1, HSI⟩
      ihave Hb := (args_back m c) $$ Ha
      ihave H := (pointsTo_read_all Finset.univ (fun i : Fin 7 => (c : Thread nD τ).loc (argB i)) (fun i => m ((c : Thread nD τ).loc (argB i))) s') $$ [Hb HSI]
      · isplitl [Hb] <;> iassumption
      icases H with ⟨%h2, HSI⟩
      imodintro
      isplitr; · ipureintro; exact ⟨h1, fun i => h2 i (Finset.mem_univ i)⟩
      iexact HSI)
    (hQ := fun _ h hs => ⟨fun c w => (h c).1 w, fun c => (h c).2.2.2, sem_eq_zero hs fun c => (h c).2.2.1⟩)

end Cert.Mlp

end
-- ==== Proof.Run.lean ====
/-
  The run of the whole program, buffer by buffer, at any float values.
-/
module

public import proofs.«01_k».proof.Proof.Launch
public import Idealize.ShloMosaic.Lib.Pipeline.ValueKit

@[expose] public section

noncomputable section

namespace Cert.Mlp

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- The result array after the one point is what the body leaves. -/
theorem result_eq (c : Dev nD) : (dats m 0 c).arrAt (0 : Fin 1) cfg0.N = outV (ins m) c := by
  refine (dats m 0 c).arrAt_eq_of_after_last (0 : Fin 1) t₀ (by decide +kernel) _ fun j => ?_
  blk_simp
  rfl

/-- From any memory with the counters at zero, every fair execution of the four devices terminates with the result of
    each device at its rows of the layers' value, its arguments as they were, and every counter at zero. -/
theorem run_main : θ_run defs (onTc (τ := τ) (main (F := F))) (s₀ m ρ) fun r =>
    (∀ c : Dev nD, r.2.mem ((c : Thread nD τ).loc main_v1) = outV (ins m) c
      ∧ ∀ i : Fin 7, r.2.mem ((c : Thread nD τ).loc (argB i)) = m ((c : Thread nD τ).loc (argB i))) ∧ r.2.sem = fun _ => 0 :=
  (θ_run defs _ _).mono (fun r h => ⟨fun c => ⟨(h.1 c (0 : Fin 1)).trans (result_eq m c), h.2.1 c⟩, h.2.2⟩) (run_raw m ρ)

end Cert.Mlp

end
-- ==== Proof.Frames.lean ====
/-
  The frames of the three programs: each ends with its arguments as they were and every counter at zero. The kernel
  at machine floats has the idealized kernel's text, so the one run gives both.
-/
module

public import proofs.«01_k».proof.Defs
public import proofs.«01_k».proof.Proof.Run
public import proofs.«01_k».proof.Proof.Gen.Kernel
public import proofs.«01_k».proof.Proof.Gen.ReferenceIdeal.Run

@[expose] public section

noncomputable section

namespace Cert.Mlp

open Idealize.ShloMosaic Idealize.SL.Sem

section
open Cert.KernelIdeal Idealize.ShloMosaic.TcCoe

/-- The run, read at the arguments and the counters only, at any float values. -/
theorem run_frame {F : FTy → Type} [FloatOps F] (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)) ∧ r.2.sem = fun _ => 0 :=
  (θ_run defs _ _).mono
    (fun _ h => ⟨fun c => ⟨(h.1 c).2 0, (h.1 c).2 1, (h.1 c).2 2, (h.1 c).2 3, (h.1 c).2 4, (h.1 c).2 5, (h.1 c).2 6⟩, h.2⟩)
    (run_main m ρ)

end

/-- The two kernels' body tables are one table. -/
theorem defs₀_same : Cert.Kernel.defs₀ (F := Bits) = Cert.KernelIdeal.defs₀ (F := Bits) :=
  congrArg Defs.onTc (funext fun l => match l with
    | 0 => funext fun _ => rfl
    | ⟨_ + 1, h⟩ => absurd h (Nat.not_lt.2 (Nat.le_add_left _ _)))

theorem defs_same : Cert.Kernel.defs (F := Bits) = Cert.KernelIdeal.defs (F := Bits) :=
  congrArg (Pipeline.defs Cert.KernelIdeal.pcfgs) defs₀_same

/-- The kernel at machine floats. -/
theorem frame_Kernel : Cert.quiescent_Kernel := fun m ρ _ => by
  refine Eq.mp (congrArg (fun D => θ_run D (onTc (τ := Cert.Kernel.τ) (Cert.Kernel.main (F := Bits))) ⟨m, fun _ => 0, ρ⟩ _) defs_same.symm) ?_
  exact run_frame (F := Bits) m ρ

/-- The kernel at exact values. -/
theorem frame_KernelIdeal : Cert.quiescent_KernelIdeal := fun m ρ _ => run_frame (F := Ideal) m ρ

/-- The reference at exact values: it has no counters. -/
theorem frame_ReferenceIdeal : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

end Cert.Mlp

end
-- ==== Proof.Layers.lean ====
/-
  The values at exact arithmetic: the devices' parts of a layer sum to the layer of the whole arrays, half by half,
  so the kernel's result on each device is its rows of the three layers applied one after another.
-/
module

public import proofs.«01_k».proof.Proof.Values
public import Idealize.ShloMosaic.PureOps.Ideal.Laws
public import Idealize.ShloMosaic.Lib.MatmulPlain
public import Idealize.ShloMosaic.Lib.Layout
public import Idealize.ShloMosaic.Lib.Pipeline.ValueKit

@[expose] public section

noncomputable section

namespace Cert.Mlp

open Cert.KernelIdeal Cert.KernelIdeal.Gen
open Idealize.ShloMosaic hiding ix2
open Idealize.ShloMosaic.TcCoe Idealize.ShloMosaic.ValueIdx
open scoped BigOperators

/-! ## The whole arrays -/

/-- A matrix of extended reals. -/
abbrev Mat (a b : ℕ) : Type := (⟨2, ![a, b]⟩ : Shape).Idx → EReal

/-- One layer of one row `a`: the product with `Wi`, its positive part, the product with `Wo`. -/
def rowLayer (a : Fin 512 → EReal) (Wi : Mat 512 4096) (Wo : Mat 4096 512) (j : Fin 512) : EReal :=
  ∑ k : Fin 4096, max (∑ l : Fin 512, a l * Wi (ix2 l k)) 0 * Wo (ix2 k j)

/-- Device `c`'s column `k` among all the hidden columns. -/
def col (c : Fin 4) (k : Fin 1024) : Fin 4096 := ⟨c.val * 1024 + k.val, by omega⟩

/-- A sum over the hidden columns, device by device. -/
theorem sum_col (f : Fin 4096 → EReal) : (∑ c : Fin 4, ∑ k : Fin 1024, f (col c k)) = ∑ k : Fin 4096, f k := by
  refine (Fintype.sum_prod_type' fun (c : Fin 4) (k : Fin 1024) => f (col c k)).symm.trans ?_
  refine Fintype.sum_equiv (finProdFinEquiv (m := 4) (n := 1024)) _ _ fun x => congrArg f (Fin.ext ?_)
  show x.1.val * 1024 + x.2.val = x.2.val + 1024 * x.1.val
  omega

/-! ## One device's part -/

theorem dotIn_at (a : FVec Ideal S32x512 .bf16) (w : FVec Ideal S512x1024 .bf16) (i : Fin 32) (k : Fin 1024) :
    (dotIn a w (ix2 i k) : EReal) = ∑ l : Fin 512, a (ix2 i l) * w (ix2 l k) := by
  show FloatOps.matmul (DotDims.plain 32 512 1024) none a w (constant (⟨2, ![32, 1024]⟩ : Shape) .f32 0x00000000#32) (ix2 i k) = _
  rw [Ideal.matmul_plain_apply]
  show Ideal.ofBits .f32 0x00000000#32 + _ = _
  rw [Ideal.ofBits_zero_f32, zero_add]

theorem dotOut_at (h : FVec Ideal S32x1024 .bf16) (w : FVec Ideal S1024x512 .bf16) (i : Fin 32) (j : Fin 512) :
    (dotOut h w (ix2 i j) : EReal) = ∑ k : Fin 1024, h (ix2 i k) * w (ix2 k j) := by
  show FloatOps.matmul (DotDims.plain 32 1024 512) none h w (constant (⟨2, ![32, 512]⟩ : Shape) .f32 0x00000000#32) (ix2 i j) = _
  rw [Ideal.matmul_plain_apply]
  show Ideal.ofBits .f32 0x00000000#32 + _ = _
  rw [Ideal.ofBits_zero_f32, zero_add]

theorem relu_at (h : FVec Ideal S32x1024 .f32) (x : S32x1024.Idx) : (relu h x : EReal) = max (h x) 0 := by
  show max (h x : EReal) (Ideal.ofBits .f32 0x00000000#32) = _
  rw [Ideal.ofBits_zero_f32]

/-- Device `c`'s part of layer `r` of a row: the sum over its own hidden columns. -/
theorem layer_at (I : Ins Ideal) (r : Fin 3) (a : FVec Ideal S32x512 .bf16) (c : Fin 4) (Wi : Mat 512 4096) (Wo : Mat 4096 512)
    (hi : I.wi r = Layout.block ⟨2, ![512, 1024]⟩ ⟨2, ![512, 4096]⟩ 1 4 c Wi)
    (ho : I.wo r = Layout.block ⟨2, ![1024, 512]⟩ ⟨2, ![4096, 512]⟩ 0 4 c Wo) (i : Fin 32) (j : Fin 512) :
    (layer I r a (ix2 i j) : EReal) = ∑ k : Fin 1024, max (∑ l : Fin 512, a (ix2 i l) * Wi (ix2 l (col c k))) 0 * Wo (ix2 (col c k) j) := by
  unfold layer
  rw [dotOut_at]
  refine Finset.sum_congr rfl fun k _ => ?_
  have hw : (winB I r : Mat 512 1024) = I.wi r := rfl
  have hv : (woutB I r : Mat 1024 512) = I.wo r := rfl
  refine congrArg₂ (fun u v : EReal => u * v) ?_ ?_
  · refine (relu_at _ _).trans (congrArg (fun u : EReal => max u 0) ?_)
    rw [dotIn_at]
    refine Finset.sum_congr rfl fun l _ => congrArg (fun u : EReal => (a (ix2 i l) : EReal) * u) ?_
    rw [hw, hi, Layout.block_apply]
    refine congrArg Wi (funext fun b => Fin.ext ?_)
    fin_cases b <;> rfl
  · rw [hv, ho, Layout.block_apply]
    refine congrArg Wo (funext fun b => Fin.ext ?_)
    fin_cases b <;> rfl

/-! ## The devices together -/

/-- A device's own term and its three peers' are all four devices'. -/
theorem sum_peers (f : Fin 4 → EReal) (c : Fin 4) : f c + f (peer c 2) + f (peer c 0) + f (peer c 1) = ∑ d, f d := by
  rw [Fin.sum_univ_four]
  fin_cases c
  · show f 0 + f 3 + f 1 + f 2 = _; ac_rfl
  · show f 1 + f 0 + f 2 + f 3 = _; ac_rfl
  · show f 2 + f 1 + f 3 + f 0 = _; ac_rfl
  · show f 3 + f 2 + f 0 + f 1 = _; ac_rfl

/-- The summed parts are the sum of the parts, on every device. -/
theorem summed_at (p : Dev nD → FVec Ideal S32x512 .f32) (c : Dev nD) (x : S32x512.Idx) : (summed p c x : EReal) = ∑ d : Fin 4, (p d x : EReal) :=
  sum_peers (fun d => (p d x : EReal)) c

variable (I : Dev nD → Ins Ideal) (X : Mat 64 512) (Wi : Fin 3 → Mat 512 4096) (Wo : Fin 3 → Mat 4096 512)

/-- The devices hold the first activation whole, and their blocks of the weights. -/
structure Holds : Prop where
  x : ∀ c, (I c).x = X
  wi : ∀ (c : Fin 4) r, (I c).wi r = Layout.block ⟨2, ![512, 1024]⟩ ⟨2, ![512, 4096]⟩ 1 4 c (Wi r)
  wo : ∀ (c : Fin 4) r, (I c).wo r = Layout.block ⟨2, ![1024, 512]⟩ ⟨2, ![4096, 512]⟩ 0 4 c (Wo r)

variable {I X Wi Wo}

/-- If every device reads the same rows, the parts of a layer sum to the layer of those rows. -/
theorem layer_sum (h : Holds I X Wi Wo) (r : Fin 3) (a : Dev nD → FVec Ideal S32x512 .bf16) (A : Fin 32 → Fin 512 → EReal)
    (ha : ∀ d i l, (a d (ix2 i l) : EReal) = A i l) (i : Fin 32) (j : Fin 512) :
    (∑ d : Fin 4, (layer (I d) r (a d) (ix2 i j) : EReal)) = rowLayer (A i) (Wi r) (Wo r) j := by
  unfold rowLayer
  rw [← sum_col]
  refine Finset.sum_congr rfl fun d _ => ?_
  rw [layer_at (I d) r (a d) d (Wi r) (Wo r) (h.wi d r) (h.wo d r)]
  refine Finset.sum_congr rfl fun k _ => ?_
  refine congrArg (fun u : EReal => max u 0 * _) (Finset.sum_congr rfl fun l _ => ?_)
  rw [ha]

/-- Row `32 s + i` of a matrix of 64 rows. -/
def hrow (s : Fin 2) (i : Fin 32) : Fin 64 := ⟨32 * s.val + i.val, by omega⟩

theorem half_at (h : Holds I X Wi Wo) (s : Fin 2) (c : Dev nD) (i : Fin 32) (l : Fin 512) :
    (half (I c) s (ix2 i l) : EReal) = X (ix2 (hrow s i) l) := by
  rw [← h.x c]
  unfold half
  split <;>
  · refine (extractStridedSlice_apply _ _ _ _ (ix2 (hrow _ i) l) fun b => ?_).trans rfl
    fin_cases b
    · rfl
    · exact (Nat.zero_add _).symm

/-- The three layers of row `i` of the whole activation. -/
def threeLayers (X : Mat 64 512) (Wi : Fin 3 → Mat 512 4096) (Wo : Fin 3 → Mat 4096 512) (i : Fin 64) : Fin 512 → EReal :=
  rowLayer (rowLayer (rowLayer (fun l => X (ix2 i l)) (Wi 0) (Wo 0)) (Wi 1) (Wo 1)) (Wi 2) (Wo 2)

/-- The devices' parts of the last layer sum to the three layers of the rows. -/
theorem part2_sum (h : Holds I X Wi Wo) (s : Fin 2) (i : Fin 32) (j : Fin 512) :
    (∑ d : Fin 4, (part2 I s d (ix2 i j) : EReal)) = threeLayers X Wi Wo (hrow s i) j := by
  unfold part2 threeLayers
  refine layer_sum h 2 _ (fun i => rowLayer (rowLayer (fun l => X (ix2 (hrow s i) l)) (Wi 0) (Wo 0)) (Wi 1) (Wo 1)) (fun d i l => ?_) i j
  rw [summed_at]
  refine layer_sum h 1 _ (fun i => rowLayer (fun l => X (ix2 (hrow s i) l)) (Wi 0) (Wo 0)) (fun d i l => ?_) i l
  rw [summed_at]
  exact layer_sum h 0 _ (fun i l => X (ix2 (hrow s i) l)) (fun d i l => half_at h s d i l) i l

/-! ## The rows a device sends and keeps -/

/-- A matrix index, behind a leading unit axis. -/
theorem behind_unit (m n : ℕ) (h : (⟨3, ![1, m, n]⟩ : Shape).ShapeCasts ⟨2, ![m, n]⟩) (a : Fin m) (b : Fin n) :
    Shape.reshapeEquiv h (ix2 a b) = Fin.cons ⟨0, Nat.one_pos⟩ (ix2 a b) :=
  shapeCast_dropUnit_apply ![m, n] (fun x => x) h (ix2 a b)

theorem rwV_emb (k : Fin 4) (a : Fin 16) (b : Fin 512) : ∀ ax : Fin 3, ((rwV k).view.emb (ix2 a b) ax).val = (![2, 16 * k.val + a.val, b.val] : Fin 3 → ℕ) ax := by
  intro ax
  show ((Rect.unit (s := S3x64x512) ![2, 16 * k.val, 0] S1x16x512.size (rw_inb k)).emb (Shape.reshapeEquiv _ (ix2 a b)) ax).val = _
  rw [behind_unit, ValueKit.rect_emb_unit_val]
  fin_cases ax
  · rfl
  · rfl
  · exact Nat.zero_add _

theorem pcV_emb (r : Fin 3) (s : Fin 2) (a : Fin 32) (b : Fin 512) : ∀ ax : Fin 3, ((pcV r s).view.emb (ix2 a b) ax).val = (![r.val, 32 * s.val + a.val, b.val] : Fin 3 → ℕ) ax := by
  intro ax
  show ((Rect.unit (s := S3x64x512) ![r.val, 32 * s.val, 0] S1x32x512.size (pc_inb r s)).emb (Shape.reshapeEquiv _ (ix2 a b)) ax).val = _
  rw [behind_unit, ValueKit.rect_emb_unit_val]
  fin_cases ax
  · rfl
  · rfl
  · exact Nat.zero_add _

theorem emb_rows (k : Fin 4) (s : Fin 2) (a : Fin 16) (a' : Fin 32) (b : Fin 512) (e : 16 * k.val + a.val = 32 * s.val + a'.val) :
    (rwV k).view.emb (ix2 a b) = (pcV 2 s).view.emb (ix2 a' b) := funext fun ax => Fin.ext <| by
  refine (rwV_emb k a b ax).trans (Eq.trans ?_ (pcV_emb 2 s a' b ax).symm)
  rw [e]; rfl

/-- One buffer read through both views, -/
theorem read_same {F : FTy → Type} [FloatOps F] (k : Fin 4) (s : Fin 2) (a : Fin 16) (a' : Fin 32) (b : Fin 512) (e : 16 * k.val + a.val = 32 * s.val + a'.val)
    (f : cc0_scratch0.ty.Contents (Elt F)) :
    (rwV k).view.read (Elt F) f (ix2 a b) = (pcV 2 s).view.read (Elt F) f (ix2 a' b) :=
  congrArg f (emb_rows k s a a' b e)

/-- so a row block read of the half it lies in. -/
theorem read_rows {F : FTy → Type} [FloatOps F] (k : Fin 4) (s : Fin 2) (v : FVec F S32x512 .bf16) (a : Fin 16) (a' : Fin 32) (b : Fin 512)
    (e : 16 * k.val + a.val = 32 * s.val + a'.val) :
    (rwV k).view.read (Elt F) ((pcV 2 s).view.rep v) (ix2 a b) = v (ix2 a' b) := by
  have h := read_same k s a a' b e ((pcV 2 s).view.rep v)
  rw [View.read_rep] at h
  exact h

/-- A device's result is its rows of the three layers. -/
theorem outV_at (h : Holds I X Wi Wo) (c : Fin 4) (a : Fin 16) (b : Fin 512) :
    (outV I c (ix2 a b) : EReal) = threeLayers X Wi Wo ⟨16 * c.val + a.val, by omega⟩ b := by
  have hr (s : Fin 2) (a' : Fin 32) (e : 16 * c.val + a.val = 32 * s.val + a'.val) (d : Dev nD) :
      (rows I c d (ix2 a b) : EReal) = part2 I s d (ix2 a' b) := by
    unfold rows
    match c, e with
    | 0, e => obtain rfl : s = 0 := by omega
              exact read_rows 0 0 _ a a' b e
    | 1, e => obtain rfl : s = 0 := by omega
              exact read_rows 1 0 _ a a' b e
    | 2, e => obtain rfl : s = 1 := by omega
              exact read_rows 2 1 _ a a' b e
    | 3, e => obtain rfl : s = 1 := by omega
              exact read_rows 3 1 _ a a' b e
  refine (sum_peers (fun d => (rows I c d (ix2 a b) : EReal)) c).trans ?_
  have e : 16 * c.val + a.val = 32 * (⟨c.val / 2, by omega⟩ : Fin 2).val + (⟨16 * (c.val % 2) + a.val, by omega⟩ : Fin 32).val := by
    show _ = 32 * (c.val / 2) + (16 * (c.val % 2) + a.val); omega
  refine (Finset.sum_congr rfl fun d _ => hr _ _ e d).trans ((part2_sum h _ _ b).trans ?_)
  exact congrArg (fun i => threeLayers X Wi Wo i b) (Fin.ext e.symm)

end Cert.Mlp

end
-- ==== Proof.Algebraic.lean ====
/-
  The value claim: over the reals each device ends with its rows of the reference's result.
-/
module

public import proofs.«01_k».proof.Defs
public import proofs.«01_k».proof.Proof.Layers
public import proofs.«01_k».proof.Proof.Run
public import proofs.«01_k».proof.Proof.Gen.ReferenceIdeal.Run
public import Idealize.ShloMosaic.Lib.StackMember

@[expose] public section

noncomputable section

namespace Cert.Mlp

open Idealize.ShloMosaic hiding ix2
open Idealize.ShloMosaic.TcCoe Idealize.ShloMosaic.ValueIdx Idealize.SL.Sem

/-! ## The reference -/

section
open Cert.ReferenceIdeal Cert.ReferenceIdeal.Gen

/-- One layer as the reference's host computes it. -/
def hostLayer (A : FVec Ideal S64x512 .f32) (Wi : FVec Ideal S512x4096 .f32) (Wo : FVec Ideal S4096x512 .f32) : FVec Ideal S64x512 .f32 :=
  Host.dotGeneral dot_S64x4096_S4096x512_S64x512_1_0_0_1_n_n none
    (maximumf (Host.dotGeneral dot_S64x512_S512x4096_S64x4096_1_0_0_1_n_n none A Wi)
      (broadcastInDim S64x4096 ![] bcast_S_S64x4096 (constant S_ .f32 0x00000000#32))) Wo

/-- Read at an element it is the layer of its row. -/
theorem hostLayer_at (A : FVec Ideal S64x512 .f32) (Wi : FVec Ideal S512x4096 .f32) (Wo : FVec Ideal S4096x512 .f32) (i : Fin 64) (j : Fin 512) :
    (hostLayer A Wi Wo (ix2 i j) : EReal) = rowLayer (fun l => A (ix2 i l)) Wi Wo j := by
  unfold hostLayer rowLayer
  refine (StackMember.dotGeneral_plain_apply (m := 64) (n := 512) (k := 4096) none _ Wo i j).trans ?_
  refine Finset.sum_congr rfl fun k _ => congrArg (fun u : EReal => u * (Wo (ix2 k j) : EReal)) ?_
  show max (Host.dotGeneral dot_S64x512_S512x4096_S64x4096_1_0_0_1_n_n none A Wi (ix2 i k) : EReal) (Ideal.ofBits .f32 0x00000000#32) = _
  rw [Ideal.ofBits_zero_f32]
  exact congrArg (fun u : EReal => max u 0) (StackMember.dotGeneral_plain_apply (m := 64) (n := 4096) (k := 512) none A Wi i k)

/-- The reference's result, of whole arrays. -/
def hostNet (X : FVec Ideal S64x512 .f32) (Wi : Fin 3 → FVec Ideal S512x4096 .f32) (Wo : Fin 3 → FVec Ideal S4096x512 .f32) : FVec Ideal S64x512 .f32 :=
  hostLayer (hostLayer (hostLayer X (Wi 0) (Wo 0)) (Wi 1) (Wo 1)) (Wi 2) (Wo 2)

theorem hostNet_at (X : FVec Ideal S64x512 .f32) (Wi : Fin 3 → FVec Ideal S512x4096 .f32) (Wo : Fin 3 → FVec Ideal S4096x512 .f32) (i : Fin 64) (j : Fin 512) :
    (hostNet X Wi Wo (ix2 i j) : EReal) = threeLayers X Wi Wo i j := by
  unfold hostNet threeLayers
  simp only [hostLayer_at]

end

/-! ## The claim -/

section
open Cert.KernelIdeal

/-- Where the devices hold their blocks, each one's result is its block of the reference's. -/
theorem result_block {I : Dev nD → Ins Ideal} {X : Mat 64 512} {Wi : Fin 3 → Mat 512 4096} {Wo : Fin 3 → Mat 4096 512}
    (h : Holds I X Wi Wo) (c : Fin 4) : outV I c = Layout.block ⟨2, ![16, 512]⟩ ⟨2, ![64, 512]⟩ 0 4 c (hostNet X Wi Wo) := by
  funext x
  obtain ⟨a, b, rfl⟩ : ∃ (a : Fin 16) (b : Fin 512), x = ix2 a b := ⟨x 0, x 1, ValueIdx.eq_ix2 x⟩
  refine (outV_at h c a b).trans ?_
  rw [Layout.block_apply]
  refine (hostNet_at X Wi Wo _ b).symm.trans (congrArg (hostNet X Wi Wo) (funext fun ax => Fin.ext ?_))
  fin_cases ax
  · show 16 * c.val + a.val = c.val * 16 + a.val; omega
  · rfl

end

/-! The reference's memory, as a network. -/

section
variable (m' : (ℓ : Loc Cert.ReferenceIdeal.nD Cert.ReferenceIdeal.τ Cert.ReferenceIdeal.sig) → Buf (Elt Ideal) ℓ)

/-- Its input rows. -/
def refX : FVec Ideal Cert.ReferenceIdeal.S64x512 .f32 :=
  m' (((0 : Dev Cert.ReferenceIdeal.nD).tc : Thread Cert.ReferenceIdeal.nD Cert.ReferenceIdeal.τ).loc Cert.ReferenceIdeal.main_arg0)

/-- Its first matrix of each layer. -/
def refWi : Fin 3 → FVec Ideal Cert.ReferenceIdeal.S512x4096 .f32 :=
  ![m' (((0 : Dev Cert.ReferenceIdeal.nD).tc : Thread Cert.ReferenceIdeal.nD Cert.ReferenceIdeal.τ).loc Cert.ReferenceIdeal.main_arg1),
    m' (((0 : Dev Cert.ReferenceIdeal.nD).tc : Thread Cert.ReferenceIdeal.nD Cert.ReferenceIdeal.τ).loc Cert.ReferenceIdeal.main_arg3),
    m' (((0 : Dev Cert.ReferenceIdeal.nD).tc : Thread Cert.ReferenceIdeal.nD Cert.ReferenceIdeal.τ).loc Cert.ReferenceIdeal.main_arg5)]

/-- Its second matrix of each layer. -/
def refWo : Fin 3 → FVec Ideal Cert.ReferenceIdeal.S4096x512 .f32 :=
  ![m' (((0 : Dev Cert.ReferenceIdeal.nD).tc : Thread Cert.ReferenceIdeal.nD Cert.ReferenceIdeal.τ).loc Cert.ReferenceIdeal.main_arg2),
    m' (((0 : Dev Cert.ReferenceIdeal.nD).tc : Thread Cert.ReferenceIdeal.nD Cert.ReferenceIdeal.τ).loc Cert.ReferenceIdeal.main_arg4),
    m' (((0 : Dev Cert.ReferenceIdeal.nD).tc : Thread Cert.ReferenceIdeal.nD Cert.ReferenceIdeal.τ).loc Cert.ReferenceIdeal.main_arg6)]

end

/-- Each device's result is its 16 rows of the reference's result, at exact values, whatever the inputs. -/
theorem algebraic : Cert.algebraic_KernelIdeal_ReferenceIdeal := fun m g m' g' _ hargs => by
  have h : Holds (ins m) (refX m') (refWi m') (refWo m') :=
    { x := fun c => (hargs c).1
      wi := fun c r => by
        obtain ⟨-, h1, -, h3, -, h5, -⟩ := hargs c
        fin_cases r
        · exact h1
        · exact h3
        · exact h5
      wo := fun c r => by
        obtain ⟨-, -, h2, -, h4, -, h6⟩ := hargs c
        fin_cases r
        · exact h2
        · exact h4
        · exact h6 }
  refine ⟨hostNet (refX m') (refWi m') (refWo m'), ?_, ?_⟩
  · exact (θ_run Cert.KernelIdeal.defs _ _).mono (fun _ hr c => ⟨(hr.1 c).1.trans (result_block h c),
      (hr.1 c).2 0, (hr.1 c).2 1, (hr.1 c).2 2, (hr.1 c).2 3, (hr.1 c).2 4, (hr.1 c).2 5, (hr.1 c).2 6⟩) (run_main (F := Ideal) m g)
  · exact (θ_run Cert.ReferenceIdeal.defs _ _).mono (fun _ hr => hr 0) (Cert.ReferenceIdeal.Value.run (F := Ideal) m' g')

end Cert.Mlp

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Mlp.frame_Kernel, Cert.Mlp.frame_KernelIdeal, Cert.Mlp.frame_ReferenceIdeal, trivial, Cert.Mlp.algebraic⟩

end Cert.Proof

end
